-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcRefIdeal (m : (ℓ : Loc Cert.FcRefIdeal.nD Cert.FcRefIdeal.τ Cert.FcRefIdeal.sig) → Buf (Elt Ideal) ℓ) : Prop :=
  True

def Pre_Gq (m : (ℓ : Loc Cert.Gq.nD Cert.Gq.τ Cert.Gq.sig) → Buf (Elt Bits) ℓ) : Prop :=
  True

def Pre_GqIdeal (m : (ℓ : Loc Cert.GqIdeal.nD Cert.GqIdeal.τ Cert.GqIdeal.sig) → Buf (Elt Ideal) ℓ) : Prop :=
  True

def Pre_GqRefIdeal (m : (ℓ : Loc Cert.GqRefIdeal.nD Cert.GqRefIdeal.τ Cert.GqRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2)
      ∧ r.2.mem ((c.tc : Thread Cert.Fc.nD Cert.Fc.τ).loc Cert.Fc.main_arg3) = m ((c.tc : Thread Cert.Fc.nD Cert.Fc.τ).loc Cert.Fc.main_arg3)
      ∧ r.2.mem ((c.tc : Thread Cert.Fc.nD Cert.Fc.τ).loc Cert.Fc.main_arg4) = m ((c.tc : Thread Cert.Fc.nD Cert.Fc.τ).loc Cert.Fc.main_arg4))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
      ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
      ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ r.2.sem = fun _ => 0)

def quiescent_FcRefIdeal [hFcRefIdeal : Cert.FcRefIdeal.Facts] : Prop :=
  ∀ (m : (ℓ : Loc Cert.FcRefIdeal.nD Cert.FcRefIdeal.τ Cert.FcRefIdeal.sig) → Buf (Elt Ideal) ℓ) (g : Dev Cert.FcRefIdeal.nD → PrngReg), Pre_FcRefIdeal m →
    θ_run (Cert.FcRefIdeal.defs (F := Ideal)) (onTc (τ := Cert.FcRefIdeal.τ) (Cert.FcRefIdeal.main (F := Ideal))) ⟨m, fun _ => 0, g⟩ (fun r => (∀ c : Dev Cert.FcRefIdeal.nD,
      r.2.mem ((c.tc : Thread Cert.FcRefIdeal.nD Cert.FcRefIdeal.τ).loc Cert.FcRefIdeal.main_arg0) = m ((c.tc : Thread Cert.FcRefIdeal.nD Cert.FcRefIdeal.τ).loc Cert.FcRefIdeal.main_arg0)
      ∧ r.2.mem ((c.tc : Thread Cert.FcRefIdeal.nD Cert.FcRefIdeal.τ).loc Cert.FcRefIdeal.main_arg1) = m ((c.tc : Thread Cert.FcRefIdeal.nD Cert.FcRefIdeal.τ).loc Cert.FcRefIdeal.main_arg1)
      ∧ r.2.mem ((c.tc : Thread Cert.FcRefIdeal.nD Cert.FcRefIdeal.τ).loc Cert.FcRefIdeal.main_arg2) = m ((c.tc : Thread Cert.FcRefIdeal.nD Cert.FcRefIdeal.τ).loc Cert.FcRefIdeal.main_arg2)
      ∧ r.2.mem ((c.tc : Thread Cert.FcRefIdeal.nD Cert.FcRefIdeal.τ).loc Cert.FcRefIdeal.main_arg3) = m ((c.tc : Thread Cert.FcRefIdeal.nD Cert.FcRefIdeal.τ).loc Cert.FcRefIdeal.main_arg3)
      ∧ r.2.mem ((c.tc : Thread Cert.FcRefIdeal.nD Cert.FcRefIdeal.τ).loc Cert.FcRefIdeal.main_arg4) = m ((c.tc : Thread Cert.FcRefIdeal.nD Cert.FcRefIdeal.τ).loc Cert.FcRefIdeal.main_arg4))
      ∧ r.2.sem = fun _ => 0)

def quiescent_Gq [hGq : Cert.Gq.Facts] : Prop :=
  ∀ (m : (ℓ : Loc Cert.Gq.nD Cert.Gq.τ Cert.Gq.sig) → Buf (Elt Bits) ℓ) (g : Dev Cert.Gq.nD → PrngReg), Pre_Gq m →
    θ_run (Cert.Gq.defs (F := Bits)) (onTc (τ := Cert.Gq.τ) (Cert.Gq.main (F := Bits))) ⟨m, fun _ => 0, g⟩ (fun r => (∀ c : Dev Cert.Gq.nD,
      r.2.mem ((c.tc : Thread Cert.Gq.nD Cert.Gq.τ).loc Cert.Gq.main_arg0) = m ((c.tc : Thread Cert.Gq.nD Cert.Gq.τ).loc Cert.Gq.main_arg0)
      ∧ r.2.mem ((c.tc : Thread Cert.Gq.nD Cert.Gq.τ).loc Cert.Gq.main_arg1) = m ((c.tc : Thread Cert.Gq.nD Cert.Gq.τ).loc Cert.Gq.main_arg1))
      ∧ r.2.sem = fun _ => 0)

def quiescent_GqIdeal [hGqIdeal : Cert.GqIdeal.Facts] : Prop :=
  ∀ (m : (ℓ : Loc Cert.GqIdeal.nD Cert.GqIdeal.τ Cert.GqIdeal.sig) → Buf (Elt Ideal) ℓ) (g : Dev Cert.GqIdeal.nD → PrngReg), Pre_GqIdeal m →
    θ_run (Cert.GqIdeal.defs (F := Ideal)) (onTc (τ := Cert.GqIdeal.τ) (Cert.GqIdeal.main (F := Ideal))) ⟨m, fun _ => 0, g⟩ (fun r => (∀ c : Dev Cert.GqIdeal.nD,
      r.2.mem ((c.tc : Thread Cert.GqIdeal.nD Cert.GqIdeal.τ).loc Cert.GqIdeal.main_arg0) = m ((c.tc : Thread Cert.GqIdeal.nD Cert.GqIdeal.τ).loc Cert.GqIdeal.main_arg0)
      ∧ r.2.mem ((c.tc : Thread Cert.GqIdeal.nD Cert.GqIdeal.τ).loc Cert.GqIdeal.main_arg1) = m ((c.tc : Thread Cert.GqIdeal.nD Cert.GqIdeal.τ).loc Cert.GqIdeal.main_arg1))
      ∧ r.2.sem = fun _ => 0)

def quiescent_GqRefIdeal [hGqRefIdeal : Cert.GqRefIdeal.Facts] : Prop :=
  ∀ (m : (ℓ : Loc Cert.GqRefIdeal.nD Cert.GqRefIdeal.τ Cert.GqRefIdeal.sig) → Buf (Elt Ideal) ℓ) (g : Dev Cert.GqRefIdeal.nD → PrngReg), Pre_GqRefIdeal m →
    θ_run (Cert.GqRefIdeal.defs (F := Ideal)) (onTc (τ := Cert.GqRefIdeal.τ) (Cert.GqRefIdeal.main (F := Ideal))) ⟨m, fun _ => 0, g⟩ (fun r => (∀ c : Dev Cert.GqRefIdeal.nD,
      r.2.mem ((c.tc : Thread Cert.GqRefIdeal.nD Cert.GqRefIdeal.τ).loc Cert.GqRefIdeal.main_arg0) = m ((c.tc : Thread Cert.GqRefIdeal.nD Cert.GqRefIdeal.τ).loc Cert.GqRefIdeal.main_arg0)
      ∧ r.2.mem ((c.tc : Thread Cert.GqRefIdeal.nD Cert.GqRefIdeal.τ).loc Cert.GqRefIdeal.main_arg1) = m ((c.tc : Thread Cert.GqRefIdeal.nD Cert.GqRefIdeal.τ).loc Cert.GqRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Fc_FcIdeal : Prop :=
  True

def algebraic_FcIdeal_FcRefIdeal [hFcIdeal : Cert.FcIdeal.Facts] [hFcRefIdeal : Cert.FcRefIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcRefIdeal.nD Cert.FcRefIdeal.τ Cert.FcRefIdeal.sig) → Buf (Elt Ideal) ℓ) (g' : Dev Cert.FcRefIdeal.nD → PrngReg), Pre_FcIdeal m →
    (∀ c : Dev Cert.FcIdeal.nD,
      m' ((c.tc : Thread Cert.FcRefIdeal.nD Cert.FcRefIdeal.τ).loc Cert.FcRefIdeal.main_arg0) = m ((c.tc : Thread Cert.FcIdeal.nD Cert.FcIdeal.τ).loc Cert.FcIdeal.main_arg0)
      ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1)
      ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2)
      ∧ m' ((c.tc : Thread Cert.FcRefIdeal.nD Cert.FcRefIdeal.τ).loc Cert.FcRefIdeal.main_arg3) = m ((c.tc : Thread Cert.FcIdeal.nD Cert.FcIdeal.τ).loc Cert.FcIdeal.main_arg3)
      ∧ m' ((c.tc : Thread Cert.FcRefIdeal.nD Cert.FcRefIdeal.τ).loc Cert.FcRefIdeal.main_arg4) = m ((c.tc : Thread Cert.FcIdeal.nD Cert.FcIdeal.τ).loc Cert.FcIdeal.main_arg4)) →
    ∃ (v0 : (c : Dev Cert.FcIdeal.nD) → Buf (Elt Ideal) ((c.tc : Thread Cert.FcIdeal.nD Cert.FcIdeal.τ).loc Cert.FcIdeal.main_v0_0)) (v1 : (c : Dev Cert.FcIdeal.nD) → Buf (Elt Ideal) ((c.tc : Thread Cert.FcIdeal.nD Cert.FcIdeal.τ).loc Cert.FcIdeal.main_v0_1)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v0_0) = v0 c
          ∧ r.2.mem ((c.tc : Thread Cert.FcIdeal.nD Cert.FcIdeal.τ).loc Cert.FcIdeal.main_v0_1) = v1 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
          ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
          ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ θ_run (Cert.FcRefIdeal.defs (F := Ideal)) (onTc (τ := Cert.FcRefIdeal.τ) (Cert.FcRefIdeal.main (F := Ideal))) ⟨m', fun _ => 0, g'⟩ (fun r => ∀ c : Dev Cert.FcRefIdeal.nD,
          r.2.mem ((c.tc : Thread Cert.FcRefIdeal.nD Cert.FcRefIdeal.τ).loc Cert.FcRefIdeal.main_v0_0) = v0 c
          ∧ r.2.mem ((c.tc : Thread Cert.FcRefIdeal.nD Cert.FcRefIdeal.τ).loc Cert.FcRefIdeal.main_v0_1) = v1 c
          ∧ r.2.mem ((c.tc : Thread Cert.FcRefIdeal.nD Cert.FcRefIdeal.τ).loc Cert.FcRefIdeal.main_arg0) = m' ((c.tc : Thread Cert.FcRefIdeal.nD Cert.FcRefIdeal.τ).loc Cert.FcRefIdeal.main_arg0)
          ∧ r.2.mem ((c.tc : Thread Cert.FcRefIdeal.nD Cert.FcRefIdeal.τ).loc Cert.FcRefIdeal.main_arg1) = m' ((c.tc : Thread Cert.FcRefIdeal.nD Cert.FcRefIdeal.τ).loc Cert.FcRefIdeal.main_arg1)
          ∧ r.2.mem ((c.tc : Thread Cert.FcRefIdeal.nD Cert.FcRefIdeal.τ).loc Cert.FcRefIdeal.main_arg2) = m' ((c.tc : Thread Cert.FcRefIdeal.nD Cert.FcRefIdeal.τ).loc Cert.FcRefIdeal.main_arg2)
          ∧ r.2.mem ((c.tc : Thread Cert.FcRefIdeal.nD Cert.FcRefIdeal.τ).loc Cert.FcRefIdeal.main_arg3) = m' ((c.tc : Thread Cert.FcRefIdeal.nD Cert.FcRefIdeal.τ).loc Cert.FcRefIdeal.main_arg3)
          ∧ r.2.mem ((c.tc : Thread Cert.FcRefIdeal.nD Cert.FcRefIdeal.τ).loc Cert.FcRefIdeal.main_arg4) = m' ((c.tc : Thread Cert.FcRefIdeal.nD Cert.FcRefIdeal.τ).loc Cert.FcRefIdeal.main_arg4))

def preserves_Gq_GqIdeal : Prop :=
  IdealRules.named_const.Statement Cert.GqIdeal.κ "inv_127" .f32 0x3C010204#32 ((1 / 127 : ℝ) : EReal)

def algebraic_GqIdeal_GqRefIdeal [hGqIdeal : Cert.GqIdeal.Facts] [hGqRefIdeal : Cert.GqRefIdeal.Facts] : Prop :=
  ∀ (m : (ℓ : Loc Cert.GqIdeal.nD Cert.GqIdeal.τ Cert.GqIdeal.sig) → Buf (Elt Ideal) ℓ) (g : Dev Cert.GqIdeal.nD → PrngReg)
    (m' : (ℓ : Loc Cert.GqRefIdeal.nD Cert.GqRefIdeal.τ Cert.GqRefIdeal.sig) → Buf (Elt Ideal) ℓ) (g' : Dev Cert.GqRefIdeal.nD → PrngReg), Pre_GqIdeal m →
    (∀ c : Dev Cert.GqIdeal.nD,
      m' ((c.tc : Thread Cert.GqRefIdeal.nD Cert.GqRefIdeal.τ).loc Cert.GqRefIdeal.main_arg0) = m ((c.tc : Thread Cert.GqIdeal.nD Cert.GqIdeal.τ).loc Cert.GqIdeal.main_arg0)
      ∧ m' ((c.tc : Thread Cert.GqRefIdeal.nD Cert.GqRefIdeal.τ).loc Cert.GqRefIdeal.main_arg1) = m ((c.tc : Thread Cert.GqIdeal.nD Cert.GqIdeal.τ).loc Cert.GqIdeal.main_arg1)) →
    ∃ (v0 : (c : Dev Cert.GqIdeal.nD) → Buf (Elt Ideal) ((c.tc : Thread Cert.GqIdeal.nD Cert.GqIdeal.τ).loc Cert.GqIdeal.main_v0_0)) (v1 : (c : Dev Cert.GqIdeal.nD) → Buf (Elt Ideal) ((c.tc : Thread Cert.GqIdeal.nD Cert.GqIdeal.τ).loc Cert.GqIdeal.main_v0_1)),
      θ_run (Cert.GqIdeal.defs (F := Ideal)) (onTc (τ := Cert.GqIdeal.τ) (Cert.GqIdeal.main (F := Ideal))) ⟨m, fun _ => 0, g⟩ (fun r => ∀ c : Dev Cert.GqIdeal.nD,
          r.2.mem ((c.tc : Thread Cert.GqIdeal.nD Cert.GqIdeal.τ).loc Cert.GqIdeal.main_v0_0) = v0 c
          ∧ r.2.mem ((c.tc : Thread Cert.GqIdeal.nD Cert.GqIdeal.τ).loc Cert.GqIdeal.main_v0_1) = v1 c
          ∧ r.2.mem ((c.tc : Thread Cert.GqIdeal.nD Cert.GqIdeal.τ).loc Cert.GqIdeal.main_arg0) = m ((c.tc : Thread Cert.GqIdeal.nD Cert.GqIdeal.τ).loc Cert.GqIdeal.main_arg0)
          ∧ r.2.mem ((c.tc : Thread Cert.GqIdeal.nD Cert.GqIdeal.τ).loc Cert.GqIdeal.main_arg1) = m ((c.tc : Thread Cert.GqIdeal.nD Cert.GqIdeal.τ).loc Cert.GqIdeal.main_arg1))
      ∧ θ_run (Cert.GqRefIdeal.defs (F := Ideal)) (onTc (τ := Cert.GqRefIdeal.τ) (Cert.GqRefIdeal.main (F := Ideal))) ⟨m', fun _ => 0, g'⟩ (fun r => ∀ c : Dev Cert.GqRefIdeal.nD,
          r.2.mem ((c.tc : Thread Cert.GqRefIdeal.nD Cert.GqRefIdeal.τ).loc Cert.GqRefIdeal.main_v0_0) = v0 c
          ∧ r.2.mem ((c.tc : Thread Cert.GqRefIdeal.nD Cert.GqRefIdeal.τ).loc Cert.GqRefIdeal.main_v0_1) = v1 c
          ∧ r.2.mem ((c.tc : Thread Cert.GqRefIdeal.nD Cert.GqRefIdeal.τ).loc Cert.GqRefIdeal.main_arg0) = m' ((c.tc : Thread Cert.GqRefIdeal.nD Cert.GqRefIdeal.τ).loc Cert.GqRefIdeal.main_arg0)
          ∧ r.2.mem ((c.tc : Thread Cert.GqRefIdeal.nD Cert.GqRefIdeal.τ).loc Cert.GqRefIdeal.main_arg1) = m' ((c.tc : Thread Cert.GqRefIdeal.nD Cert.GqRefIdeal.τ).loc Cert.GqRefIdeal.main_arg1))

def preserves_Qkv_QkvIdeal : Prop :=
  IdealRules.named_const.Statement Cert.QkvIdeal.κ "inv_127" .f32 0x3C010204#32 ((1 / 127 : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Oproj_OprojIdeal : Prop :=
  IdealRules.named_const.Statement Cert.OprojIdeal.κ "inv_127" .f32 0x3C010204#32 ((1 / 127 : ℝ) : EReal)

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7))

def preserves_Ln_LnIdeal : Prop :=
  IdealRules.named_const.Statement Cert.LnIdeal.κ "inv_6144" .f32 0x392AAAAB#32 ((1 / 6144 : ℝ) : EReal)
  ∧ IdealRules.named_const.Statement Cert.LnIdeal.κ "inv_127" .f32 0x3C010204#32 ((1 / 127 : ℝ) : EReal)

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v0_0) = v0 c
          ∧ r.2.mem ((c.tc : Thread Cert.LnRefIdeal.nD Cert.LnRefIdeal.τ).loc Cert.LnRefIdeal.main_v0_1) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2))

def Claim : Prop :=
  ∃ (hProj : Cert.Proj.Facts) (hProjIdeal : Cert.ProjIdeal.Facts) (hProjRefIdeal : Cert.ProjRefIdeal.Facts) (hFc : Cert.Fc.Facts) (hFcIdeal : Cert.FcIdeal.Facts) (hFcRefIdeal : Cert.FcRefIdeal.Facts) (hGq : Cert.Gq.Facts) (hGqIdeal : Cert.GqIdeal.Facts) (hGqRefIdeal : Cert.GqRefIdeal.Facts) (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hLn : Cert.Ln.Facts) (hLnIdeal : Cert.LnIdeal.Facts) (hLnRefIdeal : Cert.LnRefIdeal.Facts),
    quiescent_Proj (hProj := hProj)
    ∧ quiescent_ProjIdeal (hProjIdeal := hProjIdeal)
    ∧ quiescent_ProjRefIdeal (hProjRefIdeal := hProjRefIdeal)
    ∧ quiescent_Fc (hFc := hFc)
    ∧ quiescent_FcIdeal (hFcIdeal := hFcIdeal)
    ∧ quiescent_FcRefIdeal (hFcRefIdeal := hFcRefIdeal)
    ∧ quiescent_Gq (hGq := hGq)
    ∧ quiescent_GqIdeal (hGqIdeal := hGqIdeal)
    ∧ quiescent_GqRefIdeal (hGqRefIdeal := hGqRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Ln (hLn := hLn)
    ∧ quiescent_LnIdeal (hLnIdeal := hLnIdeal)
    ∧ quiescent_LnRefIdeal (hLnRefIdeal := hLnRefIdeal)
    ∧ preserves_Proj_ProjIdeal
    ∧ algebraic_ProjIdeal_ProjRefIdeal (hProjIdeal := hProjIdeal) (hProjRefIdeal := hProjRefIdeal)
    ∧ preserves_Fc_FcIdeal
    ∧ algebraic_FcIdeal_FcRefIdeal (hFcIdeal := hFcIdeal) (hFcRefIdeal := hFcRefIdeal)
    ∧ preserves_Gq_GqIdeal
    ∧ algebraic_GqIdeal_GqRefIdeal (hGqIdeal := hGqIdeal) (hGqRefIdeal := hGqRefIdeal)
    ∧ preserves_Qkv_QkvIdeal
    ∧ algebraic_QkvIdeal_QkvRefIdeal (hQkvIdeal := hQkvIdeal) (hQkvRefIdeal := hQkvRefIdeal)
    ∧ preserves_Oproj_OprojIdeal
    ∧ algebraic_OprojIdeal_OprojRefIdeal (hOprojIdeal := hOprojIdeal) (hOprojRefIdeal := hOprojRefIdeal)
    ∧ preserves_Ln_LnIdeal
    ∧ algebraic_LnIdeal_LnRefIdeal (hLnIdeal := hLnIdeal) (hLnRefIdeal := hLnRefIdeal)
-- ==== Proj.lean ====
abbrev S2048x12288 : Shape := ⟨2, ![2048, 12288]⟩
abbrev S2048x128 : Shape := ⟨2, ![2048, 128]⟩
abbrev S12288x6144 : Shape := ⟨2, ![12288, 6144]⟩
abbrev S1x6144 : Shape := ⟨2, ![1, 6144]⟩
abbrev S2048x6144 : Shape := ⟨2, ![2048, 6144]⟩
abbrev S512x12288 : Shape := ⟨2, ![512, 12288]⟩
abbrev S512x128 : Shape := ⟨2, ![512, 128]⟩
abbrev S12288x512 : Shape := ⟨2, ![12288, 512]⟩
abbrev S1x512 : Shape := ⟨2, ![1, 512]⟩
abbrev S512x512 : Shape := ⟨2, ![512, 512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x12288, .i8⟩
  | .hbm, ⟨1, _⟩ => ⟨S2048x128, .f32⟩
  | .hbm, ⟨2, _⟩ => ⟨S12288x6144, .i8⟩
  | .hbm, ⟨3, _⟩ => ⟨S1x6144, .f32⟩
  | .hbm, ⟨4, _⟩ => ⟨S1x6144, .f32⟩
  | .hbm, ⟨5, _⟩ => ⟨S2048x6144, .f32⟩
  | .hbm, ⟨6, _⟩ => ⟨S2048x6144, .bf16⟩
  | .local _ .vmem, ⟨0, _⟩ => ⟨S512x12288, .i8⟩
  | .local _ .vmem, ⟨1, _⟩ => ⟨S512x128, .f32⟩
  | .local _ .vmem, ⟨2, _⟩ => ⟨S512x128, .f32⟩
  | .local _ .vmem, ⟨3, _⟩ => ⟨S12288x512, .i8⟩
  | .local _ .vmem, ⟨4, _⟩ => ⟨S12288x512, .i8⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x12288, .bf16⟩
  | _, _ => ⟨S2048x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12288x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S2048x12288 : Shape := ⟨2, ![2048, 12288]⟩
abbrev S2048x128 : Shape := ⟨2, ![2048, 128]⟩
abbrev S12288x6144 : Shape := ⟨2, ![12288, 6144]⟩
abbrev S1x6144 : Shape := ⟨2, ![1, 6144]⟩
abbrev S2048x6144 : Shape := ⟨2, ![2048, 6144]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S2048x12288, .i8⟩
  | .hbm, ⟨1, _⟩ => ⟨S2048x128, .f32⟩
  | .hbm, ⟨2, _⟩ => ⟨S12288x6144, .i8⟩
  | .hbm, ⟨3, _⟩ => ⟨S1x6144, .f32⟩
  | .hbm, ⟨4, _⟩ => ⟨S1x6144, .f32⟩
  | .hbm, ⟨5, _⟩ => ⟨S2048x6144, .f32⟩
  | .hbm, ⟨6, _⟩ => ⟨S2048x6144, .bf16⟩
  | .local _ .vmem, ⟨0, _⟩ => ⟨S2048x12288, .i8⟩
  | .local _ .vmem, ⟨1, _⟩ => ⟨S2048x128, .f32⟩
  | .local _ .vmem, ⟨2, _⟩ => ⟨S12288x6144, .i8⟩
  | .local _ .vmem, ⟨3, _⟩ => ⟨S1x6144, .f32⟩
  | .local _ .vmem, ⟨4, _⟩ => ⟨S1x6144, .f32⟩
  | .local _ .vmem, ⟨5, _⟩ => ⟨S2048x6144, .f32⟩
  | .local _ .vmem, ⟨6, _⟩ => ⟨S2048x6144, .bf16⟩
  | _, _ => ⟨S2048x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Fc.lean ====
abbrev S2048x6144 : Shape := ⟨2, ![2048, 6144]⟩
abbrev S2048x128 : Shape := ⟨2, ![2048, 128]⟩
abbrev S6144x12288 : Shape := ⟨2, ![6144, 12288]⟩
abbrev S1x12288 : Shape := ⟨2, ![1, 12288]⟩
abbrev S2048x12288 : Shape := ⟨2, ![2048, 12288]⟩
abbrev S1024x6144 : Shape := ⟨2, ![1024, 6144]⟩
abbrev S1024x128 : Shape := ⟨2, ![1024, 128]⟩
abbrev S6144x512 : Shape := ⟨2, ![6144, 512]⟩
abbrev S1x512 : Shape := ⟨2, ![1, 512]⟩
abbrev S1024x512 : Shape := ⟨2, ![1024, 512]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x6144, .i8⟩
  | .hbm, ⟨1, _⟩ => ⟨S2048x128, .f32⟩
  | .hbm, ⟨2, _⟩ => ⟨S6144x12288, .i8⟩
  | .hbm, ⟨3, _⟩ => ⟨S1x12288, .f32⟩
  | .hbm, ⟨4, _⟩ => ⟨S1x12288, .f32⟩
  | .hbm, ⟨5, _⟩ => ⟨S2048x12288, .f32⟩
  | .hbm, ⟨6, _⟩ => ⟨S2048x128, .f32⟩
  | .local _ .vmem, ⟨0, _⟩ => ⟨S1024x6144, .i8⟩
  | .local _ .vmem, ⟨1, _⟩ => ⟨S1024x128, .f32⟩
  | .local _ .vmem, ⟨2, _⟩ => ⟨S1024x128, .f32⟩
  | .local _ .vmem, ⟨3, _⟩ => ⟨S6144x512, .i8⟩
  | .local _ .vmem, ⟨4, _⟩ => ⟨S6144x512, .i8⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x128, .f32⟩
  | .local _ .vmem, ⟨12, _⟩ => ⟨S1024x128, .f32⟩
  | .local _ .vmem, ⟨13, _⟩ => ⟨S1024x6144, .bf16⟩
  | _, _ => ⟨S2048x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FcRefIdeal.lean ====
abbrev S2048x6144 : Shape := ⟨2, ![2048, 6144]⟩
abbrev S2048x128 : Shape := ⟨2, ![2048, 128]⟩
abbrev S6144x12288 : Shape := ⟨2, ![6144, 12288]⟩
abbrev S1x12288 : Shape := ⟨2, ![1, 12288]⟩
abbrev S2048x12288 : Shape := ⟨2, ![2048, 12288]⟩
abbrev S2048x1 : Shape := ⟨2, ![2048, 1]⟩
abbrev S2048x96x128 : Shape := ⟨3, ![2048, 96, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x6144, .i8⟩
  | .hbm, ⟨1, _⟩ => ⟨S2048x128, .f32⟩
  | .hbm, ⟨2, _⟩ => ⟨S6144x12288, .i8⟩
  | .hbm, ⟨3, _⟩ => ⟨S1x12288, .f32⟩
  | .hbm, ⟨4, _⟩ => ⟨S1x12288, .f32⟩
  | .hbm, ⟨5, _⟩ => ⟨S2048x12288, .f32⟩
  | .hbm, ⟨6, _⟩ => ⟨S2048x128, .f32⟩
  | .local _ .vmem, ⟨0, _⟩ => ⟨S2048x6144, .i8⟩
  | .local _ .vmem, ⟨1, _⟩ => ⟨S2048x128, .f32⟩
  | .local _ .vmem, ⟨2, _⟩ => ⟨S6144x12288, .i8⟩
  | .local _ .vmem, ⟨3, _⟩ => ⟨S1x12288, .f32⟩
  | .local _ .vmem, ⟨4, _⟩ => ⟨S1x12288, .f32⟩
  | .local _ .vmem, ⟨5, _⟩ => ⟨S2048x12288, .f32⟩
  | .local _ .vmem, ⟨6, _⟩ => ⟨S2048x128, .f32⟩
  | _, _ => ⟨S2048x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x12288 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Gq.lean ====
abbrev S2048x12288 : Shape := ⟨2, ![2048, 12288]⟩
abbrev S2048x128 : Shape := ⟨2, ![2048, 128]⟩
abbrev S128x12288 : Shape := ⟨2, ![128, 12288]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x12288, .f32⟩
  | .hbm, ⟨1, _⟩ => ⟨S2048x128, .f32⟩
  | .hbm, ⟨2, _⟩ => ⟨S2048x12288, .i8⟩
  | .hbm, ⟨3, _⟩ => ⟨S2048x128, .f32⟩
  | .local _ .vmem, ⟨0, _⟩ => ⟨S128x12288, .f32⟩
  | .local _ .vmem, ⟨1, _⟩ => ⟨S128x12288, .f32⟩
  | .local _ .vmem, ⟨2, _⟩ => ⟨S128x128, .f32⟩
  | .local _ .vmem, ⟨3, _⟩ => ⟨S128x128, .f32⟩
  | .local _ .vmem, ⟨4, _⟩ => ⟨S128x12288, .i8⟩
  | .local _ .vmem, ⟨5, _⟩ => ⟨S128x12288, .i8⟩
  | .local _ .vmem, ⟨6, _⟩ => ⟨S128x128, .f32⟩
  | .local _ .vmem, ⟨7, _⟩ => ⟨S128x128, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x12288 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GqIdeal.lean ====
variable {F : FTy → Type} [FloatOps F] [Named F]
def κ : String → Option EReal := fun
  | "inv_127" => some ((1 / 127 : ℝ) : EReal)
  | _ => none
-- ==== GqRefIdeal.lean ====
abbrev S2048x12288 : Shape := ⟨2, ![2048, 12288]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 4
  | .smem => 0
  | _ => 0

abbrev bufTy : (tb : Table) → Fin (tcTables nBuf tb) → BufTy
  | .hbm, ⟨0, _⟩ => ⟨S2048x12288, .f32⟩
  | .hbm, ⟨1, _⟩ => ⟨S2048x128, .f32⟩
  | .hbm, ⟨2, _⟩ => ⟨S2048x12288, .i8⟩
  | .hbm, ⟨3, _⟩ => ⟨S2048x128, .f32⟩
  | .local _ .vmem, ⟨0, _⟩ => ⟨S2048x12288, .f32⟩
  | .local _ .vmem, ⟨1, _⟩ => ⟨S2048x128, .f32⟩
  | .local _ .vmem, ⟨2, _⟩ => ⟨S2048x12288, .i8⟩
  | .local _ .vmem, ⟨3, _⟩ => ⟨S2048x128, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x12288 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S2048x6144 : Shape := ⟨2, ![2048, 6144]⟩
abbrev S2048x128 : Shape := ⟨2, ![2048, 128]⟩
abbrev S6144x3584 : Shape := ⟨2, ![6144, 3584]⟩
abbrev S1x3584 : Shape := ⟨2, ![1, 3584]⟩
abbrev S2048x64 : Shape := ⟨2, ![2048, 64]⟩
abbrev S2048x3072 : Shape := ⟨2, ![2048, 3072]⟩
abbrev S2048x256 : Shape := ⟨2, ![2048, 256]⟩
abbrev S512x6144 : Shape := ⟨2, ![512, 6144]⟩
abbrev S512x128 : Shape := ⟨2, ![512, 128]⟩
abbrev S6144x512 : Shape := ⟨2, ![6144, 512]⟩
abbrev S1x512 : Shape := ⟨2, ![1, 512]⟩
abbrev S512x64 : Shape := ⟨2, ![512, 64]⟩
abbrev S512x512 : Shape := ⟨2, ![512, 512]⟩
abbrev S512x256 : Shape := ⟨2, ![512, 256]⟩
abbrev S512x1 : Shape := ⟨2, ![512, 1]⟩
abbrev S512 : Shape := ⟨1, ![512]⟩

abbrev nBuf : Space → Nat
  | .hbm => 12
  | .vmem => 25
  | .smem => 0
  | _ => 0

abbrev bufTy : (tb : Table) → Fin (tcTables nBuf tb) → BufTy
  | .hbm, ⟨0, _⟩ => ⟨S2048x6144, .i8⟩
  | .hbm, ⟨1, _⟩ => ⟨S2048x128, .f32⟩
  | .hbm, ⟨2, _⟩ => ⟨S6144x3584, .i8⟩
  | .hbm, ⟨3, _⟩ => ⟨S1x3584, .f32⟩
  | .hbm, ⟨4, _⟩ => ⟨S1x3584, .f32⟩
  | .hbm, ⟨5, _⟩ => ⟨S2048x64, .f32⟩
  | .hbm, ⟨6, _⟩ => ⟨S2048x64, .f32⟩
  | .hbm, ⟨7, _⟩ => ⟨S2048x3072, .bf16⟩
  | .hbm, ⟨8, _⟩ => ⟨S2048x256, .i8⟩
  | .hbm, ⟨9, _⟩ => ⟨S2048x256, .f32⟩
  | .hbm, ⟨10, _⟩ => ⟨S2048x256, .i8⟩
  | .hbm, ⟨11, _⟩ => ⟨S2048x256, .f32⟩
  | .local _ .vmem, ⟨0, _⟩ => ⟨S512x6144, .i8⟩
  | .local _ .vmem, ⟨1, _⟩ => ⟨S512x6144, .i8⟩
  | .local _ .vmem, ⟨2, _⟩ => ⟨S512x128, .f32⟩
  | .local _ .vmem, ⟨3, _⟩ => ⟨S512x128, .f32⟩
  | .local _ .vmem, ⟨4, _⟩ => ⟨S6144x512, .i8⟩
  | .local _ .vmem, ⟨5, _⟩ => ⟨S6144x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x512, .bf16⟩
  | .local _ .vmem, ⟨15, _⟩ => ⟨S512x512, .bf16⟩
  | .local _ .vmem, ⟨16, _⟩ => ⟨S512x256, .i8⟩
  | .local _ .vmem, ⟨17, _⟩ => ⟨S512x256, .i8⟩
  | .local _ .vmem, ⟨18, _⟩ => ⟨S512x256, .f32⟩
  | .local _ .vmem, ⟨19, _⟩ => ⟨S512x256, .f32⟩
  | .local _ .vmem, ⟨20, _⟩ => ⟨S512x256, .i8⟩
  | .local _ .vmem, ⟨21, _⟩ => ⟨S512x256, .i8⟩
  | .local _ .vmem, ⟨22, _⟩ => ⟨S512x256, .f32⟩
  | .local _ .vmem, ⟨23, _⟩ => ⟨S512x256, .f32⟩
  | .local _ .vmem, ⟨24, _⟩ => ⟨S512x6144, .bf16⟩
  | _, _ => ⟨S2048x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 7], ![false, false]⟩

def k0_cond2 (i : grid0.Coords) : BitVec 1 :=
  let arg1 : BitVec 32 := BitVec.ofNat 32 (i 1).val
  let c6_i32 : BitVec 32 := 6#32
  let v18 : BitVec 1 := Scalar.cmpi .slt arg1 c6_i32
  let v19 : BitVec 32 := Scalar.extui v18
  let c0_i32_14 : BitVec 32 := 0#32
  let v20 : BitVec 1 := Scalar.cmpi .ne v19 c0_i32_14
  v20

def k0_cond3 (i : grid0.Coords) : BitVec 1 :=
  let arg1 : BitVec 32 := BitVec.ofNat 32 (i 1).val
  let c6_i32_15 : BitVec 32 := 6#32
  let v21 : BitVec 1 := Scalar.cmpi .eq arg1 c6_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6144 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== QkvIdeal.lean ====
variable {F : FTy → Type} [FloatOps F] [Named F]
def κ : String → Option EReal := fun
  | "inv_127" => some ((1 / 127 : ℝ) : EReal)
  | _ => none
-- ==== QkvRefIdeal.lean ====
abbrev S2048x6144 : Shape := ⟨2, ![2048, 6144]⟩
abbrev S2048x128 : Shape := ⟨2, ![2048, 128]⟩
abbrev S6144x3584 : Shape := ⟨2, ![6144, 3584]⟩
abbrev S1x3584 : Shape := ⟨2, ![1, 3584]⟩
abbrev S2048x64 : Shape := ⟨2, ![2048, 64]⟩
abbrev S2048x3072 : Shape := ⟨2, ![2048, 3072]⟩
abbrev S2048x256 : Shape := ⟨2, ![2048, 256]⟩
abbrev S2048x1 : Shape := ⟨2, ![2048, 1]⟩
abbrev S2048x3584 : Shape := ⟨2, ![2048, 3584]⟩
abbrev S2048x1x64 : Shape := ⟨3, ![2048, 1, 64]⟩
abbrev S2048x24x128 : Shape := ⟨3, ![2048, 24, 128]⟩
abbrev S2048x24x64 : Shape := ⟨3, ![2048, 24, 64]⟩
abbrev S2048x2x128 : Shape := ⟨3, ![2048, 2, 128]⟩
abbrev S2048x2x64 : Shape := ⟨3, ![2048, 2, 64]⟩
abbrev S2048x2 : Shape := ⟨2, ![2048, 2]⟩
abbrev S2048x2x1 : Shape := ⟨3, ![2048, 2, 1]⟩

abbrev nBuf : Space → Nat
  | .hbm => 12
  | .vmem => 12
  | .smem => 0
  | _ => 0

abbrev bufTy : (tb : Table) → Fin (tcTables nBuf tb) → BufTy
  | .hbm, ⟨0, _⟩ => ⟨S2048x6144, .i8⟩
  | .hbm, ⟨1, _⟩ => ⟨S2048x128, .f32⟩
  | .hbm, ⟨2, _⟩ => ⟨S6144x3584, .i8⟩
  | .hbm, ⟨3, _⟩ => ⟨S1x3584, .f32⟩
  | .hbm, ⟨4, _⟩ => ⟨S1x3584, .f32⟩
  | .hbm, ⟨5, _⟩ => ⟨S2048x64, .f32⟩
  | .hbm, ⟨6, _⟩ => ⟨S2048x64, .f32⟩
  | .hbm, ⟨7, _⟩ => ⟨S2048x3072, .bf16⟩
  | .hbm, ⟨8, _⟩ => ⟨S2048x256, .i8⟩
  | .hbm, ⟨9, _⟩ => ⟨S2048x256, .f32⟩
  | .hbm, ⟨10, _⟩ => ⟨S2048x256, .i8⟩
  | .hbm, ⟨11, _⟩ => ⟨S2048x256, .f32⟩
  | .local _ .vmem, ⟨0, _⟩ => ⟨S2048x6144, .i8⟩
  | .local _ .vmem, ⟨1, _⟩ => ⟨S2048x128, .f32⟩
  | .local _ .vmem, ⟨2, _⟩ => ⟨S6144x3584, .i8⟩
  | .local _ .vmem, ⟨3, _⟩ => ⟨S1x3584, .f32⟩
  | .local _ .vmem, ⟨4, _⟩ => ⟨S1x3584, .f32⟩
  | .local _ .vmem, ⟨5, _⟩ => ⟨S2048x64, .f32⟩
  | .local _ .vmem, ⟨6, _⟩ => ⟨S2048x64, .f32⟩
  | .local _ .vmem, ⟨7, _⟩ => ⟨S2048x3072, .bf16⟩
  | .local _ .vmem, ⟨8, _⟩ => ⟨S2048x256, .i8⟩
  | .local _ .vmem, ⟨9, _⟩ => ⟨S2048x256, .f32⟩
  | .local _ .vmem, ⟨10, _⟩ => ⟨S2048x256, .i8⟩
  | .local _ .vmem, ⟨11, _⟩ => ⟨S2048x256, .f32⟩
  | _, _ => ⟨S2048x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x256 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x256 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Oproj.lean ====
abbrev S2048x3072 : Shape := ⟨2, ![2048, 3072]⟩
abbrev S2048x128 : Shape := ⟨2, ![2048, 128]⟩
abbrev S3072x6144 : Shape := ⟨2, ![3072, 6144]⟩
abbrev S1x6144 : Shape := ⟨2, ![1, 6144]⟩
abbrev S2048x6144 : Shape := ⟨2, ![2048, 6144]⟩
abbrev S512x3072 : Shape := ⟨2, ![512, 3072]⟩
abbrev S512x128 : Shape := ⟨2, ![512, 128]⟩
abbrev S3072x512 : Shape := ⟨2, ![3072, 512]⟩
abbrev S1x512 : Shape := ⟨2, ![1, 512]⟩
abbrev S512x512 : Shape := ⟨2, ![512, 512]⟩
abbrev S512x6144 : Shape := ⟨2, ![512, 6144]⟩
abbrev S12x512x512 : Shape := ⟨3, ![12, 512, 512]⟩
abbrev S512x1 : Shape := ⟨2, ![512, 1]⟩
abbrev S1x512x512 : Shape := ⟨3, ![1, 512, 512]⟩
abbrev S512 : Shape := ⟨1, ![512]⟩

abbrev nBuf : Space → Nat
  | .hbm => 11
  | .vmem => 21
  | .smem => 0
  | _ => 0

abbrev bufTy : (tb : Table) → Fin (tcTables nBuf tb) → BufTy
  | .hbm, ⟨0, _⟩ => ⟨S2048x3072, .i8⟩
  | .hbm, ⟨1, _⟩ => ⟨S2048x128, .f32⟩
  | .hbm, ⟨2, _⟩ => ⟨S3072x6144, .i8⟩
  | .hbm, ⟨3, _⟩ => ⟨S1x6144, .f32⟩
  | .hbm, ⟨4, _⟩ => ⟨S1x6144, .f32⟩
  | .hbm, ⟨5, _⟩ => ⟨S2048x6144, .bf16⟩
  | .hbm, ⟨6, _⟩ => ⟨S1x6144, .f32⟩
  | .hbm, ⟨7, _⟩ => ⟨S1x6144, .f32⟩
  | .hbm, ⟨8, _⟩ => ⟨S2048x6144, .f32⟩
  | .hbm, ⟨9, _⟩ => ⟨S2048x6144, .i8⟩
  | .hbm, ⟨10, _⟩ => ⟨S2048x128, .f32⟩
  | .local _ .vmem, ⟨0, _⟩ => ⟨S512x3072, .i8⟩
  | .local _ .vmem, ⟨1, _⟩ => ⟨S512x3072, .i8⟩
  | .local _ .vmem, ⟨2, _⟩ => ⟨S512x128, .f32⟩
  | .local _ .vmem, ⟨3, _⟩ => ⟨S512x128, .f32⟩
  | .local _ .vmem, ⟨4, _⟩ => ⟨S3072x512, .i8⟩
  | .local _ .vmem, ⟨5, _⟩ => ⟨S3072x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x6144, .f32⟩
  | .local _ .vmem, ⟨13, _⟩ => ⟨S1x6144, .f32⟩
  | .local _ .vmem, ⟨14, _⟩ => ⟨S512x512, .f32⟩
  | .local _ .vmem, ⟨15, _⟩ => ⟨S512x512, .f32⟩
  | .local _ .vmem, ⟨16, _⟩ => ⟨S512x6144, .i8⟩
  | .local _ .vmem, ⟨17, _⟩ => ⟨S512x6144, .i8⟩
  | .local _ .vmem, ⟨18, _⟩ => ⟨S512x128, .f32⟩
  | .local _ .vmem, ⟨19, _⟩ => ⟨S512x128, .f32⟩
  | .local _ .vmem, ⟨20, _⟩ => ⟨S12x512x512, .f32⟩
  | _, _ => ⟨S2048x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 12], ![false, false]⟩

def k0_off1 (i : grid0.Coords) : Fin 3 → Nat :=
  let arg1 : BitVec 32 := BitVec.ofNat 32 (i 1).val
  let v18 : Index := Scalar.indexCast arg1
  let c0_13 : Index := 0#32
  let c0_14 : Index := 0#32
  ![v18.toNat, 0, 0]
def k0_cond1 (i : grid0.Coords) : BitVec 1 :=
  let arg1 : BitVec 32 := BitVec.ofNat 32 (i 1).val
  let c11_i32 : BitVec 32 := 11#32
  let v22 : BitVec 1 := Scalar.cmpi .eq arg1 c11_i32
  let v23 : BitVec 32 := Scalar.extui v22
  let c0_i32 : BitVec 32 := 0#32
  let v24 : BitVec 1 := Scalar.cmpi .ne v23 c0_i32
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x6144 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== OprojIdeal.lean ====
variable {F : FTy → Type} [FloatOps F] [Named F]
def κ : String → Option EReal := fun
  | "inv_127" => some ((1 / 127 : ℝ) : EReal)
  | _ => none
-- ==== OprojRefIdeal.lean ====
abbrev S2048x3072 : Shape := ⟨2, ![2048, 3072]⟩
abbrev S2048x128 : Shape := ⟨2, ![2048, 128]⟩
abbrev S3072x6144 : Shape := ⟨2, ![3072, 6144]⟩
abbrev S1x6144 : Shape := ⟨2, ![1, 6144]⟩
abbrev S2048x6144 : Shape := ⟨2, ![2048, 6144]⟩
abbrev S2048x1 : Shape := ⟨2, ![2048, 1]⟩
abbrev S2048 : Shape := ⟨1, ![2048]⟩

abbrev nBuf : Space → Nat
  | .hbm => 11
  | .vmem => 11
  | .smem => 0
  | _ => 0

abbrev bufTy : (tb : Table) → Fin (tcTables nBuf tb) → BufTy
  | .hbm, ⟨0, _⟩ => ⟨S2048x3072, .i8⟩
  | .hbm, ⟨1, _⟩ => ⟨S2048x128, .f32⟩
  | .hbm, ⟨2, _⟩ => ⟨S3072x6144, .i8⟩
  | .hbm, ⟨3, _⟩ => ⟨S1x6144, .f32⟩
  | .hbm, ⟨4, _⟩ => ⟨S1x6144, .f32⟩
  | .hbm, ⟨5, _⟩ => ⟨S2048x6144, .bf16⟩
  | .hbm, ⟨6, _⟩ => ⟨S1x6144, .f32⟩
  | .hbm, ⟨7, _⟩ => ⟨S1x6144, .f32⟩
  | .hbm, ⟨8, _⟩ => ⟨S2048x6144, .f32⟩
  | .hbm, ⟨9, _⟩ => ⟨S2048x6144, .i8⟩
  | .hbm, ⟨10, _⟩ => ⟨S2048x128, .f32⟩
  | .local _ .vmem, ⟨0, _⟩ => ⟨S2048x3072, .i8⟩
  | .local _ .vmem, ⟨1, _⟩ => ⟨S2048x128, .f32⟩
  | .local _ .vmem, ⟨2, _⟩ => ⟨S3072x6144, .i8⟩
  | .local _ .vmem, ⟨3, _⟩ => ⟨S1x6144, .f32⟩
  | .local _ .vmem, ⟨4, _⟩ => ⟨S1x6144, .f32⟩
  | .local _ .vmem, ⟨5, _⟩ => ⟨S2048x6144, .bf16⟩
  | .local _ .vmem, ⟨6, _⟩ => ⟨S1x6144, .f32⟩
  | .local _ .vmem, ⟨7, _⟩ => ⟨S1x6144, .f32⟩
  | .local _ .vmem, ⟨8, _⟩ => ⟨S2048x6144, .f32⟩
  | .local _ .vmem, ⟨9, _⟩ => ⟨S2048x6144, .i8⟩
  | .local _ .vmem, ⟨10, _⟩ => ⟨S2048x128, .f32⟩
  | _, _ => ⟨S2048x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x6144 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Ln.lean ====
abbrev S2048x6144 : Shape := ⟨2, ![2048, 6144]⟩
abbrev S1x6144 : Shape := ⟨2, ![1, 6144]⟩
abbrev S2048x128 : Shape := ⟨2, ![2048, 128]⟩
abbrev S256x6144 : Shape := ⟨2, ![256, 6144]⟩
abbrev S256x128 : Shape := ⟨2, ![256, 128]⟩
abbrev S128x6144 : Shape := ⟨2, ![128, 6144]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S128x1 : Shape := ⟨2, ![128, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S1x6144, .f32⟩
  | .hbm, ⟨2, _⟩ => ⟨S1x6144, .f32⟩
  | .hbm, ⟨3, _⟩ => ⟨S2048x6144, .i8⟩
  | .hbm, ⟨4, _⟩ => ⟨S2048x128, .f32⟩
  | .local _ .vmem, ⟨0, _⟩ => ⟨S256x6144, .bf16⟩
  | .local _ .vmem, ⟨1, _⟩ => ⟨S256x6144, .bf16⟩
  | .local _ .vmem, ⟨2, _⟩ => ⟨S1x6144, .f32⟩
  | .local _ .vmem, ⟨3, _⟩ => ⟨S1x6144, .f32⟩
  | .local _ .vmem, ⟨4, _⟩ => ⟨S256x6144, .i8⟩
  | .local _ .vmem, ⟨5, _⟩ => ⟨S256x6144, .i8⟩
  | .local _ .vmem, ⟨6, _⟩ => ⟨S256x128, .f32⟩
  | .local _ .vmem, ⟨7, _⟩ => ⟨S256x128, .f32⟩
  | .local _ .vmem, ⟨8, _⟩ => ⟨S128x6144, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnIdeal.lean ====
variable {F : FTy → Type} [FloatOps F] [Named F]
def κ : String → Option EReal := fun
  | "inv_127" => some ((1 / 127 : ℝ) : EReal)
  | "inv_6144" => some ((1 / 6144 : ℝ) : EReal)
  | _ => none
-- ==== LnRefIdeal.lean ====
abbrev S2048x6144 : Shape := ⟨2, ![2048, 6144]⟩
abbrev S1x6144 : Shape := ⟨2, ![1, 6144]⟩
abbrev S2048x128 : Shape := ⟨2, ![2048, 128]⟩
abbrev S2048 : Shape := ⟨1, ![2048]⟩
abbrev S2048x1 : Shape := ⟨2, ![2048, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x6144, .bf16⟩
  | .hbm, ⟨1, _⟩ => ⟨S1x6144, .f32⟩
  | .hbm, ⟨2, _⟩ => ⟨S1x6144, .f32⟩
  | .hbm, ⟨3, _⟩ => ⟨S2048x6144, .i8⟩
  | .hbm, ⟨4, _⟩ => ⟨S2048x128, .f32⟩
  | .local _ .vmem, ⟨0, _⟩ => ⟨S2048x6144, .bf16⟩
  | .local _ .vmem, ⟨1, _⟩ => ⟨S1x6144, .f32⟩
  | .local _ .vmem, ⟨2, _⟩ => ⟨S1x6144, .f32⟩
  | .local _ .vmem, ⟨3, _⟩ => ⟨S2048x6144, .i8⟩
  | .local _ .vmem, ⟨4, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.V.Linear.lean ====
/-
  The int8 linear layer at the ideal instance, read at an index: a product of int8 codes by int8 weights, each read as
  a real number, times the row's scale, times the column's scale, plus the column's bias.
-/
module

public import Idealize.ShloMosaic.PureOps.Ideal
public import Idealize.ShloMosaic.Lib.Pipeline.Value
public import Idealize.ShloMosaic.Lib.Pointwise

@[expose] public section

noncomputable section

namespace Cert.V

open Idealize.ShloMosaic
open scoped BigOperators

/-- Entry `(r, c)` of the product of two int8 matrices, each code read as a real number. -/
def dotAt {M K N : ℕ} (a : Vec Ideal ⟨2, ![M, K]⟩ .i8) (w : Vec Ideal ⟨2, ![K, N]⟩ .i8) (r : Fin M) (c : Fin N) : EReal :=
  ∑ k : Fin K, (FloatOps.sitofp (F := Ideal) .bf16 (a (ix2 r k)) : EReal) * (FloatOps.sitofp (F := Ideal) .bf16 (w (ix2 k c)) : EReal)

/-- The linear layer at an index: the product, times the row's scale, times the column's scale, plus the bias. -/
def linAt {M K N : ℕ} (a : Vec Ideal ⟨2, ![M, K]⟩ .i8) (sc : Fin M → EReal) (w : Vec Ideal ⟨2, ![K, N]⟩ .i8)
    (s b : Fin N → EReal) (r : Fin M) (c : Fin N) : EReal :=
  dotAt a w r c * sc r * s c + b c

/-- A block of a linear layer is the whole layer's: the entry depends on the codes' row, the weights' column, and the
    row's and column's scales and bias. -/
theorem linAt_congr {M K N M' N' : ℕ} {a : Vec Ideal ⟨2, ![M, K]⟩ .i8} {sc : Fin M → EReal} {w : Vec Ideal ⟨2, ![K, N]⟩ .i8}
    {s b : Fin N → EReal} {a' : Vec Ideal ⟨2, ![M', K]⟩ .i8} {sc' : Fin M' → EReal} {w' : Vec Ideal ⟨2, ![K, N']⟩ .i8}
    {s' b' : Fin N' → EReal} {r : Fin M} {c : Fin N} {r' : Fin M'} {c' : Fin N'}
    (ha : ∀ k, a (ix2 r k) = a' (ix2 r' k)) (hsc : sc r = sc' r') (hw : ∀ k, w (ix2 k c) = w' (ix2 k c'))
    (hs : s c = s' c') (hb : b c = b' c') : linAt a sc w s b r c = linAt a' sc' w' s' b' r' c' := by
  unfold linAt dotAt
  simp only [ha, hsc, hw, hs, hb]

end Cert.V

end
-- ==== Proof.V.ProjPieces.lean ====
/-
  What one grid point of the projection leaves in its output block and in the carried scratch, as plain functions
  of the point's input blocks.
-/
module

public import proofs.«01_k».proof.Proof.Gen.ProjIdeal.Value

@[expose] public section

noncomputable section

namespace Cert.V.Proj

open Cert.ProjIdeal Cert.ProjIdeal.Gen Cert.ProjIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz (n : Shape) (h : n.rank = 2 := by rfl) : (![0, 0] : Fin 2 → Nat) = fun _ => 0 :=
  funext fun a => by fin_cases a <;> rfl

/-- The first column of a block of lanes. -/
abbrev col0 (x : Vec F S512x128 .f32) : Vec F S512x1 .f32 :=
  View.ld x (Rect.unit (s := S512x128) ![0, 0] S512x1.size inb_S512x128_S512x1_0_0)

/-- At the first point of a row of blocks the scratch ends holding the codes as floats. -/
theorem sout_A (c : Dev nD) (t : Fin cfg0.N) (hc0 : cond0_0 (grid0.coords t))
    (x0 : Vec F S512x12288 .i8) (x1 : Vec F S512x128 .f32) (x2 : Vec F S12288x512 .i8) (x3 x4 : Vec F S1x512 .f32)
    (x5 : Vec F S512x512 .f32) :
    sout0_A_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4 x5
      = k0_pay1 x0 := by
  unfold sout0_A_0
  rw [View.read_writes_eq_canon _ _ _ (scover0_A_0 c (grid0.coords t) _ (hs0_0 t) _ (hs0_1 t) _ (hs0_2 t) _ (hs0_3 t) _ (hs0_4 t) _ (hs0_5 t) _ (hs0_6 t) _ (Memref.isWhole_whole _) hc0 x0 x1 x2 x3 x4 x5)]
  unfold kernelRun0_A
  dsimp only
  sl_unfold_words
  simp only [View.readAt_eq_ld, (hs0_0 t).read_unread]
  rw [View.canon_unit_zero (hz S512x12288), View.ld_unit_zero (S := S512x12288) (hz S512x12288)]

/-- … and the output block is the payload of the codes as floats. -/
theorem out_A (c : Dev nD) (t : Fin cfg0.N) (hc0 : cond0_0 (grid0.coords t))
    (x0 : Vec F S512x12288 .i8) (x1 : Vec F S512x128 .f32) (x2 : Vec F S12288x512 .i8) (x3 x4 : Vec F S1x512 .f32)
    (x5 : Vec F S512x512 .f32) :
    out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4 x5
      = k0_pay2 (k0_pay1 x0) x2 x5 (col0 x1) x3 x4 := by
  unfold out0_A_6
  rw [View.read_writes_eq_canon _ _ _ (cover0_A_6 c (grid0.coords t) _ (hs0_0 t) _ (hs0_1 t) _ (hs0_2 t) _ (hs0_3 t) _ (hs0_4 t) _ (hs0_5 t) _ (hs0_6 t) _ (Memref.isWhole_whole _) hc0 x0 x1 x2 x3 x4 x5)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread]
  rw [View.canon_unit_zero (hz S512x512), View.readCov_cons_toLoadRect, View.ld_unit_zero (S := S512x12288) (hz S512x12288),
    View.ld_unit_zero (S := S12288x512) (hz S12288x512), View.ld_unit_zero (S := S512x512) (hz S512x512),
    View.ld_unit_zero (S := S1x512) (hz S1x512) _ x3, View.ld_unit_zero (S := S1x512) (hz S1x512) _ x4]

/-- At the other points the scratch is read as the point before left it. -/
theorem out_B (c : Dev nD) (t : Fin cfg0.N) (hc0 : ¬cond0_0 (grid0.coords t))
    (x0 : Vec F S512x12288 .i8) (x1 : Vec F S512x128 .f32) (x2 : Vec F S12288x512 .i8) (x3 x4 : Vec F S1x512 .f32)
    (x5 : Vec F S512x512 .f32) (xs : Vec F S512x12288 .bf16) :
    out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4 x5 xs
      = k0_pay2 xs x2 x5 (col0 x1) x3 x4 := by
  unfold out0_B_6
  rw [View.read_writes_eq_canon _ _ _ (cover0_B_6 c (grid0.coords t) _ (hs0_0 t) _ (hs0_1 t) _ (hs0_2 t) _ (hs0_3 t) _ (hs0_4 t) _ (hs0_5 t) _ (hs0_6 t) _ (Memref.isWhole_whole _) hc0 x0 x1 x2 x3 x4 x5 xs)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread]
  rw [show View.read (Elt F) (View.whole cc0_scratch0) ((Memref.isWhole_whole cc0_scratch0).unread xs) = xs from
      (Memref.isWhole_whole cc0_scratch0).read_unread xs]
  rw [View.canon_unit_zero (hz S512x512), View.ld_unit_zero (S := S512x12288) (hz S512x12288),
    View.ld_unit_zero (S := S12288x512) (hz S12288x512), View.ld_unit_zero (S := S512x512) (hz S512x512),
    View.ld_unit_zero (S := S1x512) (hz S1x512) _ x3, View.ld_unit_zero (S := S1x512) (hz S1x512) _ x4]

/-- The block of codes is the same at two points of one row of blocks. -/
theorem index0_eq : ∀ t : Fin cfg0.N, ¬t.val % 12 = 0 → ∀ h : t.val - 1 < cfg0.N, win0_0.index ⟨t.val - 1, h⟩ = win0_0.index t :=
  (by decide +kernel : ∀ t : Fin grid0.N, ¬t.val % 12 = 0 → ∀ h : t.val - 1 < grid0.N, win0_0.index ⟨t.val - 1, h⟩ = win0_0.index t)

theorem iblk0_pred (c : Dev nD) (t : Fin cfg0.N) (h0 : ¬t.val % 12 = 0) (h : t.val - 1 < cfg0.N) :
    (iblk m c 0 ⟨t.val - 1, h⟩ : Vec F S512x12288 .i8) = iblk m c 0 t := by
  funext y
  show V m c (Pipeline.arrRef spec0 0) (((cfg0.win 0).blk ⟨t.val - 1, h⟩).view.emb y) = V m c (Pipeline.arrRef spec0 0) (((cfg0.win 0).blk t).view.emb y)
  congr 1
  funext a
  apply Fin.ext
  show win0_0.index ⟨t.val - 1, h⟩ a * S512x12288.size a + 1 * (y a).val = win0_0.index t a * S512x12288.size a + 1 * (y a).val
  rw [index0_eq t h0 h]

/-- After every point the scratch holds the codes of the point's rows as floats, and the output block is the payload
    of the point's own input blocks. -/
theorem outs_eq (c : Dev nD) : ∀ (n : ℕ) (hn : n < cfg0.N), outsAt0 m c n hn =
    (k0_pay2 (k0_pay1 (iblk m c 0 ⟨n, hn⟩)) (iblk m c 2 ⟨n, hn⟩) (iblk m c 5 ⟨n, hn⟩) (col0 (iblk m c 1 ⟨n, hn⟩)) (iblk m c 3 ⟨n, hn⟩) (iblk m c 4 ⟨n, hn⟩),
      k0_pay1 (iblk m c 0 ⟨n, hn⟩)) := by
  intro n
  induction n with
  | zero =>
    intro hn
    rw [outsAt0_A m c ⟨0, hn⟩ (by rfl), out_A, sout_A]
  | succ n ih =>
    intro hn
    by_cases h0 : (n + 1) % 12 = 0
    · rw [outsAt0_A m c ⟨n + 1, hn⟩ h0, out_A, sout_A]
    · rw [outsAt0_B m c ⟨n + 1, hn⟩ h0, out_B]
      unfold sout0_B_0
      simp only [Nat.add_sub_cancel]
      have e : (iblk m c 0 ⟨n, Nat.lt_of_succ_lt hn⟩ : Vec F S512x12288 .i8) = iblk m c 0 ⟨n + 1, hn⟩ :=
        iblk0_pred m c ⟨n + 1, hn⟩ h0 (Nat.lt_of_succ_lt hn)
      rw [ih (Nat.lt_of_succ_lt hn), e]

end Cert.V.Proj

end
-- ==== Proof.V.ProjRead.lean ====
/-
  The projection's payloads at the ideal instance, read at an index: the kernel's block and the reference's array are
  both the residual plus the linear layer.
-/
module

public import proofs.«01_k».proof.Proof.V.Linear
public import proofs.«01_k».proof.Proof.V.ProjPieces
public import proofs.«01_k».proof.Proof.Gen.ProjRefIdeal.Value

@[expose] public section

noncomputable section

namespace Cert.V.Proj

open Idealize.ShloMosaic
open scoped BigOperators

/-- The projection as one function of its argument arrays: the residual plus the linear layer. -/
def spec (x0 : Vec Ideal ⟨2, ![2048, 12288]⟩ .i8) (x1 : Vec Ideal ⟨2, ![2048, 128]⟩ .f32) (x2 : Vec Ideal ⟨2, ![12288, 6144]⟩ .i8)
    (x3 x4 : Vec Ideal ⟨2, ![1, 6144]⟩ .f32) (x5 : Vec Ideal ⟨2, ![2048, 6144]⟩ .f32) : Vec Ideal ⟨2, ![2048, 6144]⟩ .bf16 := fun i =>
  ((x5 i : EReal) + linAt x0 (fun r => x1 (ix2 r 0)) x2 (fun c => x3 (ix2 0 c)) (fun c => x4 (ix2 0 c)) (i 0) (i 1) : EReal)

/-- What one point stores, at an index of its block. -/
theorem block_apply (x0 : Vec Ideal ⟨2, ![512, 12288]⟩ .i8) (x1 : Vec Ideal ⟨2, ![512, 128]⟩ .f32) (x2 : Vec Ideal ⟨2, ![12288, 512]⟩ .i8)
    (x3 x4 : Vec Ideal ⟨2, ![1, 512]⟩ .f32) (x5 : Vec Ideal ⟨2, ![512, 512]⟩ .f32) (r c : Fin 512) :
    Cert.ProjIdeal.Gen.k0_pay2 (F := Ideal) (Cert.ProjIdeal.Gen.k0_pay1 x0) x2 x5 (col0 x1) x3 x4 (ix2 r c)
      = (x5 (ix2 r c) : EReal) + linAt x0 (fun r => x1 (ix2 r 0)) x2 (fun c => x3 (ix2 0 c)) (fun c => x4 (ix2 0 c)) r c := by
  pointwise [Cert.ProjIdeal.Gen.k0_pay2, Cert.ProjIdeal.Gen.k0_pay1, col0, linAt, dotAt]

/-- What the reference computes is `spec`. -/
theorem ref_eq (x0 : Vec Ideal ⟨2, ![2048, 12288]⟩ .i8) (x1 : Vec Ideal ⟨2, ![2048, 128]⟩ .f32) (x2 : Vec Ideal ⟨2, ![12288, 6144]⟩ .i8)
    (x3 x4 : Vec Ideal ⟨2, ![1, 6144]⟩ .f32) (x5 : Vec Ideal ⟨2, ![2048, 6144]⟩ .f32) :
    Cert.ProjRefIdeal.Value.G6 (F := Ideal) x0 x1 x2 x3 x4 x5 = spec x0 x1 x2 x3 x4 x5 := by
  funext i
  idx_vars i
  pointwise [Cert.ProjRefIdeal.Value.G6, Cert.ProjRefIdeal.Gen.k0_pay1, spec, linAt, dotAt]

end Cert.V.Proj

end
-- ==== Proof.V.ProjValue.lean ====
/-
  The projection kernel's result array, whole: its blocks put together are one function of the argument arrays.
-/
module

public import proofs.«01_k».proof.Proof.V.ProjRead

@[expose] public section

noncomputable section

namespace Cert.V.Proj

open Idealize.ShloMosaic
open Cert.ProjIdeal Cert.ProjIdeal.Gen Cert.ProjIdeal.Value Idealize.ShloMosaic.TcCoe

variable (m : (ℓ : Loc nD τ sig) → Buf (Elt Ideal) ℓ)

/-- Where each input window's block sits at point `t`: row block `t / 12`, column block `t % 12`. -/
theorem index_facts : ∀ t : Fin cfg0.N,
    win0_0.index t = ![t.val / 12, 0] ∧ win0_1.index t = ![t.val / 12, 0] ∧ win0_2.index t = ![0, t.val % 12]
    ∧ win0_3.index t = ![0, t.val % 12] ∧ win0_4.index t = ![0, t.val % 12] ∧ win0_5.index t = ![t.val / 12, t.val % 12] :=
  (by decide +kernel : ∀ t : Fin grid0.N,
    win0_0.index t = ![t.val / 12, 0] ∧ win0_1.index t = ![t.val / 12, 0] ∧ win0_2.index t = ![0, t.val % 12]
    ∧ win0_3.index t = ![0, t.val % 12] ∧ win0_4.index t = ![0, t.val % 12] ∧ win0_5.index t = ![t.val / 12, t.val % 12])

/-- Input window 0's block, read at an index, is its argument array at the index shifted by the block's origin. -/
theorem iblk0 (c : Dev nD) (t : Fin cfg0.N) (y : S512x12288.Idx) (i : S2048x12288.Idx)
    (h : ∀ a : Fin 2, win0_0.index t a * S512x12288.size a + 1 * (y a).val = (i a).val) :
    (iblk m c 0 t : Vec Ideal S512x12288 .i8) y = (m ((c : Thread nD τ).loc main_arg0) : Vec Ideal S2048x12288 .i8) i :=
  congrArg (m ((c : Thread nD τ).loc main_arg0) : Vec Ideal S2048x12288 .i8) (funext fun a => Fin.ext (h a))

/-- Input window 1's block, read at an index, is its argument array at the index shifted by the block's origin. -/
theorem iblk1 (c : Dev nD) (t : Fin cfg0.N) (y : S512x128.Idx) (i : S2048x128.Idx)
    (h : ∀ a : Fin 2, win0_1.index t a * S512x128.size a + 1 * (y a).val = (i a).val) :
    (iblk m c 1 t : Vec Ideal S512x128 .f32) y = (m ((c : Thread nD τ).loc main_arg1) : Vec Ideal S2048x128 .f32) i :=
  congrArg (m ((c : Thread nD τ).loc main_arg1) : Vec Ideal S2048x128 .f32) (funext fun a => Fin.ext (h a))

/-- Input window 2's block, read at an index, is its argument array at the index shifted by the block's origin. -/
theorem iblk2 (c : Dev nD) (t : Fin cfg0.N) (y : S12288x512.Idx) (i : S12288x6144.Idx)
    (h : ∀ a : Fin 2, win0_2.index t a * S12288x512.size a + 1 * (y a).val = (i a).val) :
    (iblk m c 2 t : Vec Ideal S12288x512 .i8) y = (m ((c : Thread nD τ).loc main_arg2) : Vec Ideal S12288x6144 .i8) i :=
  congrArg (m ((c : Thread nD τ).loc main_arg2) : Vec Ideal S12288x6144 .i8) (funext fun a => Fin.ext (h a))

/-- Input window 3's block, read at an index, is its argument array at the index shifted by the block's origin. -/
theorem iblk3 (c : Dev nD) (t : Fin cfg0.N) (y : S1x512.Idx) (i : S1x6144.Idx)
    (h : ∀ a : Fin 2, win0_3.index t a * S1x512.size a + 1 * (y a).val = (i a).val) :
    (iblk m c 3 t : Vec Ideal S1x512 .f32) y = (m ((c : Thread nD τ).loc main_arg3) : Vec Ideal S1x6144 .f32) i :=
  congrArg (m ((c : Thread nD τ).loc main_arg3) : Vec Ideal S1x6144 .f32) (funext fun a => Fin.ext (h a))

/-- Input window 4's block, read at an index, is its argument array at the index shifted by the block's origin. -/
theorem iblk4 (c : Dev nD) (t : Fin cfg0.N) (y : S1x512.Idx) (i : S1x6144.Idx)
    (h : ∀ a : Fin 2, win0_4.index t a * S1x512.size a + 1 * (y a).val = (i a).val) :
    (iblk m c 4 t : Vec Ideal S1x512 .f32) y = (m ((c : Thread nD τ).loc main_arg4) : Vec Ideal S1x6144 .f32) i :=
  congrArg (m ((c : Thread nD τ).loc main_arg4) : Vec Ideal S1x6144 .f32) (funext fun a => Fin.ext (h a))

/-- Input window 5's block, read at an index, is its argument array at the index shifted by the block's origin. -/
theorem iblk5 (c : Dev nD) (t : Fin cfg0.N) (y : S512x512.Idx) (i : S2048x6144.Idx)
    (h : ∀ a : Fin 2, win0_5.index t a * S512x512.size a + 1 * (y a).val = (i a).val) :
    (iblk m c 5 t : Vec Ideal S512x512 .f32) y = (m ((c : Thread nD τ).loc main_arg5) : Vec Ideal S2048x6144 .f32) i :=
  congrArg (m ((c : Thread nD τ).loc main_arg5) : Vec Ideal S2048x6144 .f32) (funext fun a => Fin.ext (h a))

/-- The kernel's result array is `spec` of its argument arrays. -/
theorem kernel_eq (c : Dev nD) : G6 m c = spec (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  funext i
  have h0 : (i 0).val < 2048 := (i 0).isLt
  have h1 : (i 1).val < 6144 := (i 1).isLt
  have hN : pt6Of i < cfg0.N := lt_of_lt_of_eq (by show 12 * ((i 0).val / 512 - 0) + 1 * ((i 1).val / 512 - 0) < 48; omega) N_0.symm
  have hd : pt6Of i / 12 = (i 0).val / 512 := by show (12 * ((i 0).val / 512 - 0) + 1 * ((i 1).val / 512 - 0)) / 12 = _; omega
  have hm : pt6Of i % 12 = (i 1).val / 512 := by show (12 * ((i 0).val / 512 - 0) + 1 * ((i 1).val / 512 - 0)) % 12 = _; omega
  unfold G6
  rw [dif_pos hN, ← outsAt0_sweep m c _ hN, outs_eq m c _ hN]
  obtain ⟨e0, e1, e2, e3, e4, e5⟩ := index_facts ⟨pt6Of i, hN⟩
  rw [show loc6Of i = ix2 ⟨(i 0).val % 512, Nat.mod_lt _ (by decide)⟩ ⟨(i 1).val % 512, Nat.mod_lt _ (by decide)⟩ from eq_ix2 _]
  refine (block_apply _ _ _ _ _ _ _ _).trans ?_
  unfold spec
  refine congrArg₂ (· + ·) ?_ ?_
  · refine iblk5 m c _ _ i fun a => ?_
    rw [e5]
    fin_cases a
    · show pt6Of i / 12 * 512 + 1 * ((i 0).val % 512) = (i 0).val; omega
    · show pt6Of i % 12 * 512 + 1 * ((i 1).val % 512) = (i 1).val; omega
  refine linAt_congr (fun k => ?_) ?_ (fun k => ?_) ?_ ?_
  · refine iblk0 m c _ _ _ fun a => ?_
    rw [e0]
    fin_cases a
    · show pt6Of i / 12 * 512 + 1 * ((i 0).val % 512) = (i 0).val; omega
    · show 0 * 12288 + 1 * k.val = k.val; omega
  · refine iblk1 m c _ _ _ fun a => ?_
    rw [e1]
    fin_cases a
    · show pt6Of i / 12 * 512 + 1 * ((i 0).val % 512) = (i 0).val; omega
    · rfl
  · refine iblk2 m c _ _ _ fun a => ?_
    rw [e2]
    fin_cases a
    · show 0 * 12288 + 1 * k.val = k.val; omega
    · show pt6Of i % 12 * 512 + 1 * ((i 1).val % 512) = (i 1).val; omega
  · refine iblk3 m c _ _ _ fun a => ?_
    rw [e3]
    fin_cases a
    · rfl
    · show pt6Of i % 12 * 512 + 1 * ((i 1).val % 512) = (i 1).val; omega
  · refine iblk4 m c _ _ _ fun a => ?_
    rw [e4]
    fin_cases a
    · rfl
    · show pt6Of i % 12 * 512 + 1 * ((i 1).val % 512) = (i 1).val; omega

end Cert.V.Proj

end
-- ==== Proof.V.ProjClaim.lean ====
/-
  The projection of the MLP: the kernel and the reference, run at the ideal instance on equal arguments, end with equal results.
-/
module

public import proofs.«01_k».proof.Defs
public import proofs.«01_k».proof.Proof.V.ProjValue

@[expose] public section

noncomputable section

namespace Cert.V.Proj

open Idealize.ShloMosaic Idealize.ShloMosaic.TcCoe Idealize.SL.Sem

/-- The projection of the MLP: both programs leave the same arrays, for all arguments. -/
theorem algebraic : Cert.algebraic_ProjIdeal_ProjRefIdeal (hProjIdeal := Cert.ProjIdeal.Gen.facts) (hProjRefIdeal := Cert.ProjRefIdeal.Gen.facts) := by
  intro m g m' g' _ hagree
  refine ⟨fun c => spec (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)), ?_, ?_⟩
  · refine (θ_run _ _ _).mono (fun r h c => ?_) (Cert.ProjIdeal.Value.run (F := Ideal) m g)
    obtain ⟨h0, hrest⟩ := h c
    exact ⟨h0.trans (kernel_eq m c), hrest⟩
  · refine (θ_run _ _ _).mono (fun r h c => ?_) (Cert.ProjRefIdeal.Value.run (F := Ideal) m' g')
    obtain ⟨h0, hrest⟩ := h c
    obtain ⟨a0, a1, a2, a3, a4, a5⟩ := hagree c
    refine ⟨?_, hrest⟩
    · rw [h0, a0, a1, a2, a3, a4, a5]
      exact ref_eq _ _ _ _ _ _

end Cert.V.Proj

end
-- ==== Proof.V.Quant.lean ====
/-
  The quantiser and the activation at the ideal instance, at one number: the greatest of a row, the scale, the code,
  and the tanh form of the Gaussian error linear unit.
-/
module

public import Idealize.ShloMosaic.PureOps.Ideal
public import Idealize.ShloMosaic.Lib.Pipeline.Value
public import Idealize.ShloMosaic.Lib.Pointwise

@[expose] public section

noncomputable section

namespace Cert.V

open Idealize.ShloMosaic
open scoped BigOperators

/-- The literal 127 of the quotient, read as a real number. -/
theorem lit_127 : Ideal.ofBits .f32 1123942400#32 = ((127 : ℝ) : EReal) := by
  simp [Ideal.ofBits, Ideal.ieee, -EReal.coe_mul]; norm_num

/-- The literal −∞ is the least extended real. -/
theorem lit_bot : Ideal.ofBits .f32 4286578688#32 = (⊥ : EReal) := by
  simp [Ideal.ofBits, Ideal.ieee]

/-- The greatest of finitely many numbers, as a reduction from −∞. -/
def rowMax {K : ℕ} (f : Fin K → EReal) : EReal := Finset.univ.fold max (Ideal.ofBits .f32 4286578688#32) f

/-- … is their supremum. -/
theorem rowMax_eq_sup {K : ℕ} (f : Fin K → EReal) : rowMax f = Finset.univ.sup f := by
  unfold rowMax
  rw [lit_bot]
  rfl

/-- The greatest of finitely many numbers none of which is negative, counted from zero along the naturals. -/
theorem sup_range_eq {K : ℕ} (hK : 0 < K) (g : Fin K → EReal) (hg : ∀ k, 0 ≤ g k) :
    max 0 ((Finset.range K).sup fun j => if h : j < K then g ⟨j, h⟩ else ⊥) = rowMax g := by
  rw [rowMax_eq_sup]
  apply le_antisymm
  · refine max_le (le_trans (hg ⟨0, hK⟩) (Finset.le_sup (f := g) (Finset.mem_univ _))) (Finset.sup_le fun j hj => ?_)
    rw [dif_pos (Finset.mem_range.mp hj)]
    exact Finset.le_sup (f := g) (Finset.mem_univ _)
  · refine Finset.sup_le fun k _ => le_max_of_le_right ?_
    refine le_trans (le_of_eq ?_) (Finset.le_sup (Finset.mem_range.mpr k.isLt))
    rw [dif_pos k.isLt]

/-- The scale of a row whose greatest magnitude is `a`: one for a row of zeros, else a 127th of it. -/
def scaleOf (a : EReal) : EReal := if a = 0 then 1 else Ideal.div a (Ideal.ofBits .f32 1123942400#32)

/-- The code of `v` at scale `s`: the quotient rounded to even, held between −127 and 127, as an int8. -/
def codeOf (v s : EReal) : BitVec 8 :=
  FloatOps.fptosi (F := Ideal) (φ := .f32) 8 ((min ((((127#32 : BitVec 32).toInt : ℝ) : EReal))
    (max ((((4294967169#32 : BitVec 32).toInt : ℝ) : EReal)) (Ideal.liftRound Ideal.roundHalfEven (Ideal.div v s)))) : EReal)

/-- Multiplying by the 127th is dividing by 127. -/
theorem mul_inv_127 (a : EReal) : a * ((1 / 127 : ℝ) : EReal) = Ideal.div a (Ideal.ofBits .f32 1123942400#32) := by
  rw [lit_127, Ideal.div_coe (by norm_num : (127 : ℝ) ≠ 0)]

/-- The activation at one number. -/
def geluOf (f : EReal) : EReal :=
  Ideal.ofBits .f32 1056964608#32 * f * (1 + Ideal.tanh (Ideal.ofBits .f32 1061962282#32 * (f + Ideal.ofBits .f32 1027024659#32 * (f * f * f))))

/-- The magnitude of a number. -/
def absOf (x : EReal) : EReal := max x (-x)

theorem absOf_nonneg (x : EReal) : 0 ≤ absOf x := by
  unfold absOf
  rcases le_total 0 x with h | h
  · exact le_max_of_le_left h
  · exact le_max_of_le_right (EReal.neg_nonneg.mpr h)

end Cert.V

end
-- ==== Proof.V.FcPieces.lean ====
/-
  What one grid point of the first MLP layer leaves in its two output blocks and in the carried scratch, as plain
  functions of the point's input blocks and of the lane maxima that the point before left.
-/
module

public import proofs.«01_k».proof.Proof.Gen.FcIdeal.Value

@[expose] public section

noncomputable section

namespace Cert.V.Fc

open Cert.FcIdeal Cert.FcIdeal.Gen Cert.FcIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz (n : Shape) (h : n.rank = 2 := by rfl) : (![0, 0] : Fin 2 → Nat) = fun _ => 0 :=
  funext fun a => by fin_cases a <;> rfl

/-- The first column of a block of lanes. -/
abbrev col0 (x : Vec F S1024x128 .f32) : Vec F S1024x1 .f32 :=
  View.ld x (Rect.unit (s := S1024x128) ![0, 0] S1024x1.size inb_S1024x128_S1024x1_0_0)

/-- The activation's block from the codes as floats, the scales, the weights, their scales and the bias. -/
abbrev act (xs : Vec F S1024x6144 .bf16) (x1 : Vec F S1024x128 .f32) (x2 : Vec F S6144x512 .i8) (x3 x4 : Vec F S1x512 .f32) :
    Vec F S1024x512 .f32 :=
  k0_pay4 xs x2 (col0 x1) x3 x4

/-- The lane maxima after a point, from those before it. -/
abbrev lanesAfter (xs : Vec F S1024x6144 .bf16) (x1 : Vec F S1024x128 .f32) (x2 : Vec F S6144x512 .i8) (x3 x4 : Vec F S1x512 .f32)
    (p : Vec F S1024x128 .f32) : Vec F S1024x128 .f32 :=
  k0_pay1 (k0_pay4 xs x2 (col0 x1) x3 x4) (k0_pay5 xs x2 (col0 x1) x3 x4 p)

section
variable (c : Dev nD) (t : Fin cfg0.N) (x0 : Vec F S1024x6144 .i8) (x1 : Vec F S1024x128 .f32) (x2 : Vec F S6144x512 .i8)
  (x3 x4 : Vec F S1x512 .f32) (xo : Vec F S1024x128 .f32) (xs : Vec F S1024x6144 .bf16)

/-- At the first point of a row of blocks the scratch ends holding the codes as floats. -/
theorem sout_A (hc0 : cond0_0 (grid0.coords t)) :
    sout0_A_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4
      = k0_pay2 x0 := by
  unfold sout0_A_0
  rw [View.read_writes_eq_canon _ _ _ (scover0_A_0 c (grid0.coords t) _ (hs0_0 t) _ (hs0_1 t) _ (hs0_2 t) _ (hs0_3 t) _ (hs0_4 t) _ (hs0_5 t) _ (hs0_6 t) _ (Memref.isWhole_whole _) hc0 x0 x1 x2 x3 x4)]
  unfold kernelRun0_A
  dsimp only
  sl_unfold_words
  simp only [View.readAt_eq_ld, (hs0_0 t).read_unread]
  rw [View.canon_unit_zero (hz S1024x6144), View.ld_unit_zero (S := S1024x6144) (hz S1024x6144)]

/-- … the activation's block is the payload of the codes as floats. -/
theorem out5_A (hc0 : cond0_0 (grid0.coords t)) :
    out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4
      = act (k0_pay2 x0) x1 x2 x3 x4 := by
  unfold out0_A_5
  rw [View.read_writes_eq_canon _ _ _ (cover0_A_5 c (grid0.coords t) _ (hs0_0 t) _ (hs0_1 t) _ (hs0_2 t) _ (hs0_3 t) _ (hs0_4 t) _ (hs0_5 t) _ (hs0_6 t) _ (Memref.isWhole_whole _) hc0 x0 x1 x2 x3 x4)]
  unfold kernelRun0_A
  dsimp only
  sl_unfold_words
  simp only [View.readAt_eq_ld, (hs0_0 t).read_unread, (hs0_1 t).read_unread, (hs0_2 t).read_unread, (hs0_3 t).read_unread,
    (hs0_4 t).read_unread]
  rw [View.canon_unit_zero (hz S1024x512), View.readCov_cons_toLoadRect, View.ld_unit_zero (S := S1024x6144) (hz S1024x6144),
    View.ld_unit_zero (S := S6144x512) (hz S6144x512),
    View.ld_unit_zero (S := S1x512) (hz S1x512) _ x3, View.ld_unit_zero (S := S1x512) (hz S1x512) _ x4]

/-- … and the lane maxima are those of this block alone, over zero. -/
theorem out6_A (hc0 : cond0_0 (grid0.coords t)) :
    out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4
      = lanesAfter (k0_pay2 x0) x1 x2 x3 x4 (k0_pay3 (F := F)) := by
  unfold out0_A_6
  rw [View.read_writes_eq_canon _ _ _ (cover0_A_6 c (grid0.coords t) _ (hs0_0 t) _ (hs0_1 t) _ (hs0_2 t) _ (hs0_3 t) _ (hs0_4 t) _ (hs0_5 t) _ (hs0_6 t) _ (Memref.isWhole_whole _) hc0 x0 x1 x2 x3 x4)]
  unfold kernelRun0_A
  dsimp only
  sl_unfold_words
  simp only [View.readAt_eq_ld, (hs0_0 t).read_unread, (hs0_1 t).read_unread, (hs0_2 t).read_unread, (hs0_3 t).read_unread,
    (hs0_4 t).read_unread]
  rw [View.canon_cons_unit_zero (hz S1024x128), View.readCov_cons_toLoadRect, View.readCov_cons_toLoadRect, View.ld_unit_zero (S := S1024x6144) (hz S1024x6144),
    View.ld_unit_zero (S := S6144x512) (hz S6144x512),
    View.ld_unit_zero (S := S1x512) (hz S1x512) _ x3, View.ld_unit_zero (S := S1x512) (hz S1x512) _ x4]

/-- At the other points the scratch is read as the point before left it. -/
theorem out5_B (hc0 : ¬cond0_0 (grid0.coords t)) :
    out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4 xo xs
      = act xs x1 x2 x3 x4 := by
  unfold out0_B_5
  rw [View.read_writes_eq_canon _ _ _ (cover0_B_5 c (grid0.coords t) _ (hs0_0 t) _ (hs0_1 t) _ (hs0_2 t) _ (hs0_3 t) _ (hs0_4 t) _ (hs0_5 t) _ (hs0_6 t) _ (Memref.isWhole_whole _) hc0 x0 x1 x2 x3 x4 xo xs)]
  unfold kernelRun0_B
  dsimp only
  sl_unfold_words
  simp only [View.readAt_eq_ld, (hs0_1 t).read_unread, (hs0_2 t).read_unread, (hs0_3 t).read_unread,
    (hs0_4 t).read_unread]
  rw [show View.read (Elt F) (View.whole cc0_scratch0) ((Memref.isWhole_whole cc0_scratch0).unread xs) = xs from
      (Memref.isWhole_whole cc0_scratch0).read_unread xs]
  rw [View.canon_unit_zero (hz S1024x512), View.ld_unit_zero (S := S1024x6144) (hz S1024x6144),
    View.ld_unit_zero (S := S6144x512) (hz S6144x512),
    View.ld_unit_zero (S := S1x512) (hz S1x512) _ x3, View.ld_unit_zero (S := S1x512) (hz S1x512) _ x4]

/-- … and the lane maxima go on from those that the point before left. -/
theorem out6_B (hc0 : ¬cond0_0 (grid0.coords t)) :
    out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) hc0 x0 x1 x2 x3 x4 xo xs
      = lanesAfter xs x1 x2 x3 x4 xo := by
  unfold out0_B_6
  rw [View.read_writes_eq_canon _ _ _ (cover0_B_6 c (grid0.coords t) _ (hs0_0 t) _ (hs0_1 t) _ (hs0_2 t) _ (hs0_3 t) _ (hs0_4 t) _ (hs0_5 t) _ (hs0_6 t) _ (Memref.isWhole_whole _) hc0 x0 x1 x2 x3 x4 xo xs)]
  unfold kernelRun0_B
  dsimp only
  sl_unfold_words
  simp only [View.readAt_eq_ld, (hs0_1 t).read_unread, (hs0_2 t).read_unread, (hs0_3 t).read_unread,
    (hs0_4 t).read_unread, (hs0_6 t).read_unread]
  rw [show View.read (Elt F) (View.whole cc0_scratch0) ((Memref.isWhole_whole cc0_scratch0).unread xs) = xs from
      (Memref.isWhole_whole cc0_scratch0).read_unread xs]
  rw [View.canon_unit_zero (hz S1024x128), View.ld_unit_zero (S := S1024x6144) (hz S1024x6144),
    View.ld_unit_zero (S := S1024x128) (hz S1024x128) _ xo,
    View.ld_unit_zero (S := S6144x512) (hz S6144x512),
    View.ld_unit_zero (S := S1x512) (hz S1x512) _ x3, View.ld_unit_zero (S := S1x512) (hz S1x512) _ x4]

end

/-- The block of codes is the same at two points of one row of blocks. -/
theorem index0_eq : ∀ t : Fin cfg0.N, ¬t.val % 24 = 0 → ∀ h : t.val - 1 < cfg0.N, win0_0.index ⟨t.val - 1, h⟩ = win0_0.index t :=
  (by decide +kernel : ∀ t : Fin grid0.N, ¬t.val % 24 = 0 → ∀ h : t.val - 1 < grid0.N, win0_0.index ⟨t.val - 1, h⟩ = win0_0.index t)

theorem iblk0_pred (c : Dev nD) (t : Fin cfg0.N) (h0 : ¬t.val % 24 = 0) (h : t.val - 1 < cfg0.N) :
    (iblk m c 0 ⟨t.val - 1, h⟩ : Vec F S1024x6144 .i8) = iblk m c 0 t := by
  funext y
  show V m c (Pipeline.arrRef spec0 0) (((cfg0.win 0).blk ⟨t.val - 1, h⟩).view.emb y) = V m c (Pipeline.arrRef spec0 0) (((cfg0.win 0).blk t).view.emb y)
  congr 1
  funext a
  apply Fin.ext
  show win0_0.index ⟨t.val - 1, h⟩ a * S1024x6144.size a + 1 * (y a).val = win0_0.index t a * S1024x6144.size a + 1 * (y a).val
  rw [index0_eq t h0 h]

/-- The activation's block at point `t`. -/
def gBlk (c : Dev nD) (t : Fin cfg0.N) : Vec F S1024x512 .f32 :=
  act (k0_pay2 (iblk m c 0 t)) (iblk m c 1 t) (iblk m c 2 t) (iblk m c 3 t) (iblk m c 4 t)

/-- The lane maxima after point `t`, from those before it. -/
def gmStep (c : Dev nD) (t : Fin cfg0.N) (p : Vec F S1024x128 .f32) : Vec F S1024x128 .f32 :=
  lanesAfter (k0_pay2 (iblk m c 0 t)) (iblk m c 1 t) (iblk m c 2 t) (iblk m c 3 t) (iblk m c 4 t) p

/-- The lane maxima after point `n`: they start again from zero at each row of blocks. -/
def gmAt (c : Dev nD) : (n : ℕ) → n < cfg0.N → Vec F S1024x128 .f32
  | 0, hn => gmStep m c ⟨0, hn⟩ (k0_pay3 (F := F))
  | n + 1, hn => gmStep m c ⟨n + 1, hn⟩ (if (n + 1) % 24 = 0 then k0_pay3 (F := F) else gmAt c n (Nat.lt_of_succ_lt hn))

/-- After every point: the activation's block, the lane maxima so far, and in the scratch the codes of the point's rows
    as floats. -/
theorem outs_eq (c : Dev nD) : ∀ (n : ℕ) (hn : n < cfg0.N), outsAt0 m c n hn =
    (gBlk m c ⟨n, hn⟩, gmAt m c n hn, k0_pay2 (iblk m c 0 ⟨n, hn⟩)) := by
  intro n
  induction n with
  | zero =>
    intro hn
    rw [outsAt0_A m c ⟨0, hn⟩ (by rfl), out5_A, out6_A, sout_A]
    rfl
  | succ n ih =>
    intro hn
    by_cases h0 : (n + 1) % 24 = 0
    · rw [outsAt0_A m c ⟨n + 1, hn⟩ h0, out5_A, out6_A, sout_A, gmAt, if_pos h0]
      rfl
    · rw [outsAt0_B m c ⟨n + 1, hn⟩ h0, out5_B, out6_B, gmAt, if_neg h0]
      unfold sout0_B_0
      simp only [Nat.add_sub_cancel]
      have e : (iblk m c 0 ⟨n, Nat.lt_of_succ_lt hn⟩ : Vec F S1024x6144 .i8) = iblk m c 0 ⟨n + 1, hn⟩ :=
        iblk0_pred m c ⟨n + 1, hn⟩ h0 (Nat.lt_of_succ_lt hn)
      rw [ih (Nat.lt_of_succ_lt hn), e]
      rfl

end Cert.V.Fc

end
-- ==== Proof.V.FcRead.lean ====
/-
  The payloads of the first MLP layer at the ideal instance, read at an index: the activation of the linear layer, and
  the greatest magnitude lane by lane.
-/
module

public import proofs.«01_k».proof.Proof.V.Linear
public import proofs.«01_k».proof.Proof.V.Quant
public import proofs.«01_k».proof.Proof.V.FcPieces
public import proofs.«01_k».proof.Proof.Gen.FcRefIdeal.Value

@[expose] public section

noncomputable section

namespace Cert.V.Fc

open Idealize.ShloMosaic
open scoped BigOperators

/-- The activation at an index of the whole array. -/
def actAt {M K N : ℕ} (x0 : Vec Ideal ⟨2, ![M, K]⟩ .i8) (x1 : Vec Ideal ⟨2, ![M, 128]⟩ .f32) (x2 : Vec Ideal ⟨2, ![K, N]⟩ .i8)
    (x3 x4 : Vec Ideal ⟨2, ![1, N]⟩ .f32) [NeZero N] (r : Fin M) (c : Fin N) : EReal :=
  geluOf (linAt x0 (fun r => x1 (ix2 r 0)) x2 (fun c => x3 (ix2 0 c)) (fun c => x4 (ix2 0 c)) r c)

/-- The activation as one function of its argument arrays. -/
def spec0 (x0 : Vec Ideal ⟨2, ![2048, 6144]⟩ .i8) (x1 : Vec Ideal ⟨2, ![2048, 128]⟩ .f32) (x2 : Vec Ideal ⟨2, ![6144, 12288]⟩ .i8)
    (x3 x4 : Vec Ideal ⟨2, ![1, 12288]⟩ .f32) : Vec Ideal ⟨2, ![2048, 12288]⟩ .f32 := fun i =>
  (actAt x0 x1 x2 x3 x4 (i 0) (i 1) : EReal)

/-- The greatest magnitude of a row lane by lane, as one function of the argument arrays. -/
def spec1 (x0 : Vec Ideal ⟨2, ![2048, 6144]⟩ .i8) (x1 : Vec Ideal ⟨2, ![2048, 128]⟩ .f32) (x2 : Vec Ideal ⟨2, ![6144, 12288]⟩ .i8)
    (x3 x4 : Vec Ideal ⟨2, ![1, 12288]⟩ .f32) : Vec Ideal ⟨2, ![2048, 128]⟩ .f32 := fun i =>
  (rowMax fun k : Fin 96 => absOf (actAt x0 x1 x2 x3 x4 (i 0)
    (⟨k.val * 128 + (i 1).val, by have h : (i 1).val < 128 := (i 1).isLt; have := k.isLt; omega⟩ : Fin 12288)) : EReal)

/-- What one point stores of the activation, at an index of its block. -/
theorem act_apply (x0 : Vec Ideal ⟨2, ![1024, 6144]⟩ .i8) (x1 : Vec Ideal ⟨2, ![1024, 128]⟩ .f32) (x2 : Vec Ideal ⟨2, ![6144, 512]⟩ .i8)
    (x3 x4 : Vec Ideal ⟨2, ![1, 512]⟩ .f32) (r : Fin 1024) (c : Fin 512) :
    act (F := Ideal) (Cert.FcIdeal.Gen.k0_pay2 x0) x1 x2 x3 x4 (ix2 r c) = actAt x0 x1 x2 x3 x4 r c := by
  pointwise [act, Cert.FcIdeal.Gen.k0_pay4, Cert.FcIdeal.Gen.k0_pay2, col0, actAt, geluOf, linAt, dotAt]

/-- What one point makes of the lane maxima, at an index. -/
theorem lanesAfter_apply (xs : Vec Ideal ⟨2, ![1024, 6144]⟩ .bf16) (x1 : Vec Ideal ⟨2, ![1024, 128]⟩ .f32) (x2 : Vec Ideal ⟨2, ![6144, 512]⟩ .i8)
    (x3 x4 : Vec Ideal ⟨2, ![1, 512]⟩ .f32) (p : Vec Ideal ⟨2, ![1024, 128]⟩ .f32) (r : Fin 1024) (c : Fin 128) :
    lanesAfter (F := Ideal) xs x1 x2 x3 x4 p (ix2 r c)
      = max (max (max (max (p (ix2 r c)) (absOf (act xs x1 x2 x3 x4 (ix2 r ⟨c.val, by omega⟩))))
          (absOf (act xs x1 x2 x3 x4 (ix2 r ⟨128 + c.val, by omega⟩))))
          (absOf (act xs x1 x2 x3 x4 (ix2 r ⟨256 + c.val, by omega⟩))))
          (absOf (act xs x1 x2 x3 x4 (ix2 r ⟨384 + c.val, by omega⟩))) := by
  unfold lanesAfter act
  generalize hg : Cert.FcIdeal.Gen.k0_pay4 xs x2 (col0 x1) x3 x4 = g
  pointwise [Cert.FcIdeal.Gen.k0_pay1, Cert.FcIdeal.Gen.k0_pay5, absOf]
  rw [hg]
  rfl

/-- What the reference computes of the activation is `spec0`. -/
theorem ref_eq0 (x0 : Vec Ideal ⟨2, ![2048, 6144]⟩ .i8) (x1 : Vec Ideal ⟨2, ![2048, 128]⟩ .f32) (x2 : Vec Ideal ⟨2, ![6144, 12288]⟩ .i8)
    (x3 x4 : Vec Ideal ⟨2, ![1, 12288]⟩ .f32) :
    Cert.FcRefIdeal.Value.G5 (F := Ideal) x0 x1 x2 x3 x4 = spec0 x0 x1 x2 x3 x4 := by
  funext i
  idx_vars i
  pointwise [Cert.FcRefIdeal.Value.G5, Cert.FcRefIdeal.Gen.k0_pay1, spec0, actAt, geluOf, linAt, dotAt]

/-- What the reference computes of the lane maxima is `spec1`. -/
theorem ref_eq1 (x0 : Vec Ideal ⟨2, ![2048, 6144]⟩ .i8) (x1 : Vec Ideal ⟨2, ![2048, 128]⟩ .f32) (x2 : Vec Ideal ⟨2, ![6144, 12288]⟩ .i8)
    (x3 x4 : Vec Ideal ⟨2, ![1, 12288]⟩ .f32) :
    Cert.FcRefIdeal.Value.G6 (F := Ideal) x0 x1 x2 x3 x4 = spec1 x0 x1 x2 x3 x4 := by
  funext i
  idx_vars i
  pointwise [Cert.FcRefIdeal.Value.G6, Cert.FcRefIdeal.Gen.k0_pay1, Cert.FcRefIdeal.Gen.k0_pay2, spec1, rowMax, absOf, actAt, geluOf, linAt, dotAt]
  rfl

end Cert.V.Fc

end
-- ==== Proof.V.FcValue.lean ====
/-
  The result arrays of the first MLP layer, whole: the blocks put together are one function of the argument arrays.
-/
module

public import proofs.«01_k».proof.Proof.V.FcRead

@[expose] public section

noncomputable section

namespace Cert.V.Fc

open Idealize.ShloMosaic
open Cert.FcIdeal Cert.FcIdeal.Gen Cert.FcIdeal.Value Idealize.ShloMosaic.TcCoe

variable (m : (ℓ : Loc nD τ sig) → Buf (Elt Ideal) ℓ)

/-- Where each input window's block sits at point `t`. -/
theorem index_facts : ∀ t : Fin cfg0.N,
    win0_0.index t = ![t.val / 24, 0]
    ∧ win0_1.index t = ![t.val / 24, 0]
    ∧ win0_2.index t = ![0, t.val % 24]
    ∧ win0_3.index t = ![0, t.val % 24]
    ∧ win0_4.index t = ![0, t.val % 24] :=
  (by decide +kernel : ∀ t : Fin grid0.N,
    win0_0.index t = ![t.val / 24, 0]
    ∧ win0_1.index t = ![t.val / 24, 0]
    ∧ win0_2.index t = ![0, t.val % 24]
    ∧ win0_3.index t = ![0, t.val % 24]
    ∧ win0_4.index t = ![0, t.val % 24])

/-- Input window 0's block, read at an index, is its argument array at the index shifted by the block's origin. -/
theorem iblk0 (c : Dev nD) (t : Fin cfg0.N) (y : S1024x6144.Idx) (i : S2048x6144.Idx)
    (h : ∀ a : Fin 2, win0_0.index t a * S1024x6144.size a + 1 * (y a).val = (i a).val) :
    (iblk m c 0 t : Vec Ideal S1024x6144 .i8) y = (m ((c : Thread nD τ).loc main_arg0) : Vec Ideal S2048x6144 .i8) i :=
  congrArg (m ((c : Thread nD τ).loc main_arg0) : Vec Ideal S2048x6144 .i8) (funext fun a => Fin.ext (h a))

/-- Input window 1's block, read at an index, is its argument array at the index shifted by the block's origin. -/
theorem iblk1 (c : Dev nD) (t : Fin cfg0.N) (y : S1024x128.Idx) (i : S2048x128.Idx)
    (h : ∀ a : Fin 2, win0_1.index t a * S1024x128.size a + 1 * (y a).val = (i a).val) :
    (iblk m c 1 t : Vec Ideal S1024x128 .f32) y = (m ((c : Thread nD τ).loc main_arg1) : Vec Ideal S2048x128 .f32) i :=
  congrArg (m ((c : Thread nD τ).loc main_arg1) : Vec Ideal S2048x128 .f32) (funext fun a => Fin.ext (h a))

/-- Input window 2's block, read at an index, is its argument array at the index shifted by the block's origin. -/
theorem iblk2 (c : Dev nD) (t : Fin cfg0.N) (y : S6144x512.Idx) (i : S6144x12288.Idx)
    (h : ∀ a : Fin 2, win0_2.index t a * S6144x512.size a + 1 * (y a).val = (i a).val) :
    (iblk m c 2 t : Vec Ideal S6144x512 .i8) y = (m ((c : Thread nD τ).loc main_arg2) : Vec Ideal S6144x12288 .i8) i :=
  congrArg (m ((c : Thread nD τ).loc main_arg2) : Vec Ideal S6144x12288 .i8) (funext fun a => Fin.ext (h a))

/-- Input window 3's block, read at an index, is its argument array at the index shifted by the block's origin. -/
theorem iblk3 (c : Dev nD) (t : Fin cfg0.N) (y : S1x512.Idx) (i : S1x12288.Idx)
    (h : ∀ a : Fin 2, win0_3.index t a * S1x512.size a + 1 * (y a).val = (i a).val) :
    (iblk m c 3 t : Vec Ideal S1x512 .f32) y = (m ((c : Thread nD τ).loc main_arg3) : Vec Ideal S1x12288 .f32) i :=
  congrArg (m ((c : Thread nD τ).loc main_arg3) : Vec Ideal S1x12288 .f32) (funext fun a => Fin.ext (h a))

/-- Input window 4's block, read at an index, is its argument array at the index shifted by the block's origin. -/
theorem iblk4 (c : Dev nD) (t : Fin cfg0.N) (y : S1x512.Idx) (i : S1x12288.Idx)
    (h : ∀ a : Fin 2, win0_4.index t a * S1x512.size a + 1 * (y a).val = (i a).val) :
    (iblk m c 4 t : Vec Ideal S1x512 .f32) y = (m ((c : Thread nD τ).loc main_arg4) : Vec Ideal S1x12288 .f32) i :=
  congrArg (m ((c : Thread nD τ).loc main_arg4) : Vec Ideal S1x12288 .f32) (funext fun a => Fin.ext (h a))

/-- The activation's block at a point is the whole array's, at the point's rows and columns. -/
theorem gBlk_apply (c : Dev nD) (t : Fin cfg0.N) (r : Fin 1024) (k : Fin 512) (R : Fin 2048) (C : Fin 12288)
    (hR : R.val = t.val / 24 * 1024 + r.val) (hC : C.val = t.val % 24 * 512 + k.val) :
    (gBlk m c t (ix2 r k) : EReal) = actAt (m ((c : Thread nD τ).loc main_arg0)) (m ((c : Thread nD τ).loc main_arg1)) (m ((c : Thread nD τ).loc main_arg2)) (m ((c : Thread nD τ).loc main_arg3)) (m ((c : Thread nD τ).loc main_arg4)) R C := by
  obtain ⟨e0, e1, e2, e3, e4⟩ := index_facts t
  unfold gBlk
  refine (act_apply _ _ _ _ _ _ _).trans ?_
  unfold actAt
  refine congrArg geluOf (linAt_congr (fun u => ?_) ?_ (fun u => ?_) ?_ ?_)
  · refine iblk0 m c _ _ _ fun a => ?_
    rw [e0]
    fin_cases a
    · show t.val / 24 * 1024 + 1 * r.val = R.val; omega
    · show 0 * 6144 + 1 * u.val = u.val; omega
  · refine iblk1 m c _ _ _ fun a => ?_
    rw [e1]
    fin_cases a
    · show t.val / 24 * 1024 + 1 * r.val = R.val; omega
    · rfl
  · refine iblk2 m c _ _ _ fun a => ?_
    rw [e2]
    fin_cases a
    · show 0 * 6144 + 1 * u.val = u.val; omega
    · show t.val % 24 * 512 + 1 * k.val = C.val; omega
  · refine iblk3 m c _ _ _ fun a => ?_
    rw [e3]
    fin_cases a
    · rfl
    · show t.val % 24 * 512 + 1 * k.val = C.val; omega
  · refine iblk4 m c _ _ _ fun a => ?_
    rw [e4]
    fin_cases a
    · rfl
    · show t.val % 24 * 512 + 1 * k.val = C.val; omega

/-- The magnitude in lane `l` of row `R`'s tile `j` of 128 columns. -/
def magAt (c : Dev nD) (R : Fin 2048) (l : Fin 128) (j : ℕ) : EReal :=
  if h : j < 96 then absOf (actAt (m ((c : Thread nD τ).loc main_arg0)) (m ((c : Thread nD τ).loc main_arg1)) (m ((c : Thread nD τ).loc main_arg2)) (m ((c : Thread nD τ).loc main_arg3)) (m ((c : Thread nD τ).loc main_arg4)) R
    (⟨j * 128 + l.val, by have := l.isLt; omega⟩ : Fin 12288)) else ⊥

/-- One point takes four more tiles of 128 columns into the lane maxima. -/
theorem gmStep_apply (c : Dev nD) (t : Fin cfg0.N) (p : Vec Ideal S1024x128 .f32) (r : Fin 1024) (l : Fin 128) (R : Fin 2048)
    (hR : R.val = t.val / 24 * 1024 + r.val) :
    (gmStep m c t p (ix2 r l) : EReal) = max (max (max (max (p (ix2 r l)) (magAt m c R l (4 * (t.val % 24))))
      (magAt m c R l (4 * (t.val % 24) + 1))) (magAt m c R l (4 * (t.val % 24) + 2))) (magAt m c R l (4 * (t.val % 24) + 3)) := by
  have hl : l.val < 128 := l.isLt
  have hq : t.val % 24 < 24 := Nat.mod_lt _ (by decide)
  refine (lanesAfter_apply _ _ _ _ _ _ _ _).trans ?_
  have e (j : ℕ) (hj : j < 4) (k : Fin 512) (hk : k.val = j * 128 + l.val) :
      absOf (gBlk m c t (ix2 r k)) = magAt m c R l (4 * (t.val % 24) + j) := by
    unfold magAt
    rw [dif_pos (by omega)]
    exact congrArg absOf (gBlk_apply m c t r k R _ hR (by show (4 * (t.val % 24) + j) * 128 + l.val = _; omega))
  refine congrArg₂ max (congrArg₂ max (congrArg₂ max (congrArg₂ max rfl ?_) ?_) ?_) ?_
  · exact e 0 (by omega) _ (by show l.val = _; omega)
  · exact e 1 (by omega) _ (by show 128 + l.val = _; omega)
  · exact e 2 (by omega) _ (by show 256 + l.val = _; omega)
  · exact e 3 (by omega) _ (by show 384 + l.val = _; omega)

/-- The lane maxima start from zero. -/
theorem start_apply (r : Fin 1024) (l : Fin 128) : (k0_pay3 (F := Ideal) (ix2 r l) : EReal) = 0 := by
  pointwise [k0_pay3]

theorem sup_four (f : ℕ → EReal) (n : ℕ) :
    max (max (max (max (max 0 ((Finset.range n).sup f)) (f n)) (f (n + 1))) (f (n + 2))) (f (n + 3))
      = max 0 ((Finset.range (n + 4)).sup f) := by
  rw [show n + 4 = n + 3 + 1 from rfl, Finset.range_add_one, Finset.sup_insert, Finset.range_add_one, Finset.sup_insert,
    Finset.range_add_one, Finset.sup_insert, Finset.range_add_one, Finset.sup_insert]
  show 0 ⊔ (Finset.range n).sup f ⊔ f n ⊔ f (n + 1) ⊔ f (n + 2) ⊔ f (n + 3)
    = 0 ⊔ (f (n + 3) ⊔ (f (n + 2) ⊔ (f (n + 1) ⊔ (f n ⊔ (Finset.range n).sup f))))
  ac_rfl

/-- The lane maxima after a point are the greatest magnitudes of the tiles up to it. -/
theorem gmAt_apply (c : Dev nD) : ∀ (n : ℕ) (hn : n < cfg0.N) (r : Fin 1024) (l : Fin 128) (R : Fin 2048),
    R.val = n / 24 * 1024 + r.val → (gmAt m c n hn (ix2 r l) : EReal) = max 0 ((Finset.range (4 * (n % 24) + 4)).sup (magAt m c R l)) := by
  intro n
  induction n with
  | zero =>
    intro hn r l R hR
    refine (gmStep_apply m c ⟨0, hn⟩ _ r l R hR).trans ?_
    rw [start_apply]
    exact (congrArg (fun z => max (max (max (max z (magAt m c R l 0)) (magAt m c R l (0 + 1))) (magAt m c R l (0 + 2))) (magAt m c R l (0 + 3)))
      (by simp : (0 : EReal) = max 0 ((Finset.range 0).sup (magAt m c R l)))).trans (sup_four (magAt m c R l) 0)
  | succ n ih =>
    intro hn r l R hR
    refine (gmStep_apply m c ⟨n + 1, hn⟩ _ r l R hR).trans ?_
    rw [← sup_four (magAt m c R l) (4 * ((n + 1) % 24))]
    congr 4
    by_cases h0 : (n + 1) % 24 = 0
    · rw [if_pos h0, start_apply, h0]
      simp
    · rw [if_neg h0, ih (Nat.lt_of_succ_lt hn) r l R (by omega)]
      rw [show 4 * (n % 24) + 4 = 4 * ((n + 1) % 24) by omega]

/-- The kernel's activation array is `spec0` of its argument arrays. -/
theorem kernel_eq0 (c : Dev nD) : G5 m c = spec0 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have h0 : (i 0).val < 2048 := (i 0).isLt
  have h1 : (i 1).val < 12288 := (i 1).isLt
  have hN : pt5Of i < cfg0.N := lt_of_lt_of_eq (by show 24 * ((i 0).val / 1024 - 0) + 1 * ((i 1).val / 512 - 0) < 48; omega) N_0.symm
  have hd : pt5Of i / 24 = (i 0).val / 1024 := by show (24 * ((i 0).val / 1024 - 0) + 1 * ((i 1).val / 512 - 0)) / 24 = _; omega
  have hm : pt5Of i % 24 = (i 1).val / 512 := by show (24 * ((i 0).val / 1024 - 0) + 1 * ((i 1).val / 512 - 0)) % 24 = _; omega
  unfold G5
  rw [dif_pos hN, ← outsAt0_sweep m c _ hN, outs_eq m c _ hN]
  rw [show loc5Of i = ix2 ⟨(i 0).val % 1024, Nat.mod_lt _ (by decide)⟩ ⟨(i 1).val % 512, Nat.mod_lt _ (by decide)⟩ from eq_ix2 _]
  exact gBlk_apply m c ⟨pt5Of i, hN⟩ _ _ (i 0) (i 1)
    (by show (i 0).val = pt5Of i / 24 * 1024 + (i 0).val % 1024; omega)
    (by show (i 1).val = pt5Of i % 24 * 512 + (i 1).val % 512; omega)

/-- The greatest of 96 magnitudes, from zero or from −∞, is the same. -/
theorem sup_mag (c : Dev nD) (R : Fin 2048) (l : Fin 128) :
    max 0 ((Finset.range 96).sup (magAt m c R l)) = rowMax fun k : Fin 96 => absOf (actAt (m ((c : Thread nD τ).loc main_arg0)) (m ((c : Thread nD τ).loc main_arg1)) (m ((c : Thread nD τ).loc main_arg2)) (m ((c : Thread nD τ).loc main_arg3)) (m ((c : Thread nD τ).loc main_arg4)) R
    (⟨k.val * 128 + l.val, by have := l.isLt; have := k.isLt; omega⟩ : Fin 12288)) := by
  unfold magAt
  exact sup_range_eq (K := 96) (by omega) (fun k : Fin 96 => absOf (actAt (m ((c : Thread nD τ).loc main_arg0)) (m ((c : Thread nD τ).loc main_arg1)) (m ((c : Thread nD τ).loc main_arg2)) (m ((c : Thread nD τ).loc main_arg3)) (m ((c : Thread nD τ).loc main_arg4)) R
    (⟨k.val * 128 + l.val, by have := l.isLt; have := k.isLt; omega⟩ : Fin 12288))) fun k => absOf_nonneg _

/-- The kernel's array of lane maxima is `spec1` of its argument arrays. -/
theorem kernel_eq1 (c : Dev nD) : G6 m c = spec1 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have h0 : (i 0).val < 2048 := (i 0).isLt
  have h1 : (i 1).val < 128 := (i 1).isLt
  have hN : pt6Of i < cfg0.N := lt_of_lt_of_eq (by show 24 * (1 * ((i 0).val / 1024 - 0) + 1 * ((i 1).val / 128 - 0)) + 23 < 48; omega) N_0.symm
  have hd : pt6Of i / 24 = (i 0).val / 1024 := by show (24 * (1 * ((i 0).val / 1024 - 0) + 1 * ((i 1).val / 128 - 0)) + 23) / 24 = _; omega
  have hm : pt6Of i % 24 = 23 := by show (24 * (1 * ((i 0).val / 1024 - 0) + 1 * ((i 1).val / 128 - 0)) + 23) % 24 = _; omega
  unfold G6
  rw [dif_pos hN, ← outsAt0_sweep m c _ hN, outs_eq m c _ hN]
  rw [show loc6Of i = ix2 ⟨(i 0).val % 1024, Nat.mod_lt _ (by decide)⟩ (i 1) from
    (eq_ix2 _).trans (congrArg (ix2 _) (Fin.ext (Nat.mod_eq_of_lt h1)))]
  refine (gmAt_apply m c _ hN _ (i 1) (i 0) (by show (i 0).val = pt6Of i / 24 * 1024 + (i 0).val % 1024; omega)).trans ?_
  rw [hm, show 4 * 23 + 4 = 96 from rfl]
  refine (sup_mag m c (i 0) (i 1)).trans ?_
  unfold spec1
  rfl

end Cert.V.Fc

end
-- ==== Proof.V.FcClaim.lean ====
/-
  The first layer of the MLP: the kernel and the reference, run at the ideal instance on equal arguments, end with equal results.
-/
module

public import proofs.«01_k».proof.Defs
public import proofs.«01_k».proof.Proof.V.FcValue

@[expose] public section

noncomputable section

namespace Cert.V.Fc

open Idealize.ShloMosaic Idealize.ShloMosaic.TcCoe Idealize.SL.Sem

/-- The first layer of the MLP: both programs leave the same arrays, for all arguments. -/
theorem algebraic : Cert.algebraic_FcIdeal_FcRefIdeal (hFcIdeal := Cert.FcIdeal.Gen.facts) (hFcRefIdeal := Cert.FcRefIdeal.Gen.facts) := by
  intro m g m' g' _ hagree
  refine ⟨fun c => spec0 (m ((c.tc : Thread Cert.FcIdeal.nD Cert.FcIdeal.τ).loc Cert.FcIdeal.main_arg0)) (m ((c.tc : Thread Cert.FcIdeal.nD Cert.FcIdeal.τ).loc Cert.FcIdeal.main_arg1)) (m ((c.tc : Thread Cert.FcIdeal.nD Cert.FcIdeal.τ).loc Cert.FcIdeal.main_arg2)) (m ((c.tc : Thread Cert.FcIdeal.nD Cert.FcIdeal.τ).loc Cert.FcIdeal.main_arg3)) (m ((c.tc : Thread Cert.FcIdeal.nD Cert.FcIdeal.τ).loc Cert.FcIdeal.main_arg4)), fun c => spec1 (m ((c.tc : Thread Cert.FcIdeal.nD Cert.FcIdeal.τ).loc Cert.FcIdeal.main_arg0)) (m ((c.tc : Thread Cert.FcIdeal.nD Cert.FcIdeal.τ).loc Cert.FcIdeal.main_arg1)) (m ((c.tc : Thread Cert.FcIdeal.nD Cert.FcIdeal.τ).loc Cert.FcIdeal.main_arg2)) (m ((c.tc : Thread Cert.FcIdeal.nD Cert.FcIdeal.τ).loc Cert.FcIdeal.main_arg3)) (m ((c.tc : Thread Cert.FcIdeal.nD Cert.FcIdeal.τ).loc Cert.FcIdeal.main_arg4)), ?_, ?_⟩
  · refine (θ_run _ _ _).mono (fun r h c => ?_) (Cert.FcIdeal.Value.run (F := Ideal) m g)
    obtain ⟨h0, h1, hrest⟩ := h c
    exact ⟨h0.trans (kernel_eq0 m c), h1.trans (kernel_eq1 m c), hrest⟩
  · refine (θ_run _ _ _).mono (fun r h c => ?_) (Cert.FcRefIdeal.Value.run (F := Ideal) m' g')
    obtain ⟨h0, h1, hrest⟩ := h c
    obtain ⟨a0, a1, a2, a3, a4⟩ := hagree c
    refine ⟨?_, ?_, hrest⟩
    · rw [h0, a0, a1, a2, a3, a4]
      exact ref_eq0 _ _ _ _ _
    · rw [h1, a0, a1, a2, a3, a4]
      exact ref_eq1 _ _ _ _ _

end Cert.V.Fc

end
-- ==== Proof.V.GqValue.lean ====
/-
  The activation quantised: what one block computes, what the arrays hold, and what the reference computes.
-/
module

public import Idealize.ShloMosaic.Lib.Pipeline.ValueKit
public import proofs.«01_k».proof.Proof.V.Quant
public import proofs.«01_k».proof.Proof.Gen.GqIdeal.Value
public import proofs.«01_k».proof.Proof.Gen.GqRefIdeal.Value

@[expose] public section

noncomputable section

namespace Cert.V.Gq

open Idealize.ShloMosaic
open scoped BigOperators
open Idealize.ShloMosaic.TcCoe

/-- The scale of row `r`, from the row's lane maxima. -/
def scaleAt {M : ℕ} (y : Vec Ideal ⟨2, ![M, 128]⟩ .f32) (r : Fin M) : EReal := scaleOf (rowMax fun k : Fin 128 => (y (ix2 r k) : EReal))

/-- The codes as one function of the activation and its lane maxima. -/
def spec0 (x : Vec Ideal ⟨2, ![2048, 12288]⟩ .f32) (y : Vec Ideal ⟨2, ![2048, 128]⟩ .f32) : Vec Ideal ⟨2, ![2048, 12288]⟩ .i8 := fun i =>
  codeOf (x i) (scaleAt y (i 0))

/-- The scales, each in all lanes, as one function of the activation and its lane maxima. -/
def spec1 (_x : Vec Ideal ⟨2, ![2048, 12288]⟩ .f32) (y : Vec Ideal ⟨2, ![2048, 128]⟩ .f32) : Vec Ideal ⟨2, ![2048, 128]⟩ .f32 := fun i =>
  (scaleAt y (i 0) : EReal)

/-- The scale that one point computes, at a row of its block. -/
theorem pay1_apply (y : Vec Ideal ⟨2, ![128, 128]⟩ .f32) (r : Fin 128) (l : Fin 1) :
    (Cert.GqIdeal.Gen.k0_pay1 (F := Ideal) y (ix2 r l) : EReal) = scaleAt y r := by
  unfold scaleAt scaleOf
  rw [← mul_inv_127, ← IdealRules.named_const.ideal_named_scalar Cert.GqIdeal.κ "inv_127" (φ := .f32) 0x3C010204#32 _ rfl]
  pointwise [Cert.GqIdeal.Gen.k0_pay1, rowMax]

/-- The codes that one point stores, at an index of its block. -/
theorem pay2_apply (y : Vec Ideal ⟨2, ![128, 128]⟩ .f32) (x : Vec Ideal ⟨2, ![128, 12288]⟩ .f32) (r : Fin 128) (k : Fin 12288) :
    Cert.GqIdeal.Gen.k0_pay2 (F := Ideal) y x (ix2 r k) = codeOf (x (ix2 r k)) (scaleAt y r) := by
  rw [← pay1_apply y r 0]
  unfold Cert.GqIdeal.Gen.k0_pay2
  generalize Cert.GqIdeal.Gen.k0_pay1 (F := Ideal) y = s
  pointwise [codeOf]

/-- The scales that one point stores, at an index of its block. -/
theorem pay3_apply (y : Vec Ideal ⟨2, ![128, 128]⟩ .f32) (r : Fin 128) (l : Fin 128) :
    (Cert.GqIdeal.Gen.k0_pay3 (F := Ideal) y (ix2 r l) : EReal) = scaleAt y r := by
  rw [← pay1_apply y r 0]
  unfold Cert.GqIdeal.Gen.k0_pay3
  generalize Cert.GqIdeal.Gen.k0_pay1 (F := Ideal) y = s
  pointwise []

/-- What the reference computes of the codes is `spec0`. -/
theorem ref_eq0 (x : Vec Ideal ⟨2, ![2048, 12288]⟩ .f32) (y : Vec Ideal ⟨2, ![2048, 128]⟩ .f32) :
    Cert.GqRefIdeal.Value.G2 (F := Ideal) x y = spec0 x y := by
  funext i
  idx_vars i
  pointwise [Cert.GqRefIdeal.Value.G2, Cert.GqRefIdeal.Gen.k0_pay1, Cert.GqRefIdeal.Gen.k0_pay2, spec0, codeOf, scaleAt, scaleOf, rowMax]

/-- What the reference computes of the scales is `spec1`. -/
theorem ref_eq1 (x : Vec Ideal ⟨2, ![2048, 12288]⟩ .f32) (y : Vec Ideal ⟨2, ![2048, 128]⟩ .f32) :
    Cert.GqRefIdeal.Value.G3 (F := Ideal) x y = spec1 x y := by
  funext i
  idx_vars i
  pointwise [Cert.GqRefIdeal.Value.G3, Cert.GqRefIdeal.Gen.k0_pay1, Cert.GqRefIdeal.Gen.k0_pay2, Cert.GqRefIdeal.Gen.k0_pay3, spec1, codeOf, scaleAt, scaleOf, rowMax]

open Cert.GqIdeal Cert.GqIdeal.Gen Cert.GqIdeal.Value

variable (m : (ℓ : Loc nD τ sig) → Buf (Elt Ideal) ℓ)

/-- Where each window's block sits at point `t`. -/
theorem index_facts : ∀ t : Fin cfg0.N,
    win0_0.index t = ![t.val, 0] ∧ win0_1.index t = ![t.val, 0] ∧ win0_2.index t = ![t.val, 0] ∧ win0_3.index t = ![t.val, 0] :=
  (by decide +kernel : ∀ t : Fin grid0.N,
    win0_0.index t = ![t.val, 0] ∧ win0_1.index t = ![t.val, 0] ∧ win0_2.index t = ![t.val, 0] ∧ win0_3.index t = ![t.val, 0])

/-- Input window 0's block, read at an index, is its argument array at the index shifted by the block's origin. -/
theorem iblk0 (c : Dev nD) (t : Fin cfg0.N) (y : S128x12288.Idx) (i : S2048x12288.Idx)
    (h : ∀ a : Fin 2, win0_0.index t a * S128x12288.size a + 1 * (y a).val = (i a).val) :
    (iblk m c 0 t : Vec Ideal S128x12288 .f32) y = (m ((c : Thread nD τ).loc main_arg0) : Vec Ideal S2048x12288 .f32) i :=
  congrArg (m ((c : Thread nD τ).loc main_arg0) : Vec Ideal S2048x12288 .f32) (funext fun a => Fin.ext (h a))

/-- Input window 1's block, read at an index, is its argument array at the index shifted by the block's origin. -/
theorem iblk1 (c : Dev nD) (t : Fin cfg0.N) (y : S128x128.Idx) (i : S2048x128.Idx)
    (h : ∀ a : Fin 2, win0_1.index t a * S128x128.size a + 1 * (y a).val = (i a).val) :
    (iblk m c 1 t : Vec Ideal S128x128 .f32) y = (m ((c : Thread nD τ).loc main_arg1) : Vec Ideal S2048x128 .f32) i :=
  congrArg (m ((c : Thread nD τ).loc main_arg1) : Vec Ideal S2048x128 .f32) (funext fun a => Fin.ext (h a))

/-- The scale of a row of a point's block is the scale of the array's row there. -/
theorem scale_block (c : Dev nD) (t : Fin cfg0.N) (r : Fin 128) (R : Fin 2048) (hR : R.val = t.val * 128 + r.val) :
    scaleAt (iblk m c 1 t : Vec Ideal S128x128 .f32) r = scaleAt (m ((c : Thread nD τ).loc main_arg1) : Vec Ideal S2048x128 .f32) R := by
  unfold scaleAt
  refine congrArg (fun f => scaleOf (rowMax f)) (funext fun k => iblk1 m c t _ _ fun a => ?_)
  rw [(index_facts t).2.1]
  fin_cases a
  · show t.val * 128 + 1 * r.val = R.val; omega
  · show 0 * 128 + 1 * k.val = k.val; omega

/-- The kernel's codes are `spec0` of its argument arrays. -/
theorem final2 (c : Dev nD) : (dats m 0 c).arrAt 2 cfg0.N
    = spec0 (m ((c : Thread nD τ).loc main_arg0)) (m ((c : Thread nD τ).loc main_arg1)) := by
  refine (dats m 0 c).arrAt_eq_of_covers 2 _ (by decide +kernel) fun t hf y => ?_
  blk_simp
  rw [after0_2]
  frame_out
  have hy : (y : S128x12288.Idx) = ix2 (y 0) (y 1) := eq_ix2 _
  refine (congrArg (k0_pay2 (F := Ideal) (iblk m c 1 t) (iblk m c 0 t)) hy).trans ((pay2_apply _ _ _ _).trans ?_)
  refine congrArg₂ codeOf ?_ ?_
  · refine iblk0 m c t _ _ fun a => ?_
    fin_cases a <;> rfl
  · refine scale_block m c t _ _ ?_
    show win0_2.index t 0 * 128 + 1 * (y 0).val = _
    rw [(index_facts t).2.2.1]
    show t.val * 128 + 1 * (y 0).val = t.val * 128 + (y 0).val
    omega

/-- The kernel's scales are `spec1` of its argument arrays. -/
theorem final3 (c : Dev nD) : (dats m 0 c).arrAt 3 cfg0.N
    = spec1 (m ((c : Thread nD τ).loc main_arg0)) (m ((c : Thread nD τ).loc main_arg1)) := by
  refine (dats m 0 c).arrAt_eq_of_covers 3 _ (by decide +kernel) fun t hf y => ?_
  blk_simp
  rw [after0_3]
  frame_out
  have hy : (y : S128x128.Idx) = ix2 (y 0) (y 1) := eq_ix2 _
  refine (congrArg (k0_pay3 (F := Ideal) (iblk m c 1 t)) hy).trans ((pay3_apply _ _ _).trans ?_)
  refine scale_block m c t _ _ ?_
  show win0_3.index t 0 * 128 + 1 * (y 0).val = _
  rw [(index_facts t).2.2.2]
  show t.val * 128 + 1 * (y 0).val = t.val * 128 + (y 0).val
  omega

end Cert.V.Gq

end
-- ==== Proof.V.GqClaim.lean ====
/-
  The activation quantised: the kernel and the reference, run at the ideal instance on equal arguments, end with equal results.
-/
module

public import proofs.«01_k».proof.Defs
public import proofs.«01_k».proof.Proof.V.GqValue

@[expose] public section

noncomputable section

namespace Cert.V.Gq

open Idealize.ShloMosaic Idealize.ShloMosaic.TcCoe Idealize.SL.Sem

/-- The activation quantised: both programs leave the same arrays, for all arguments. -/
theorem algebraic : Cert.algebraic_GqIdeal_GqRefIdeal (hGqIdeal := Cert.GqIdeal.Gen.facts) (hGqRefIdeal := Cert.GqRefIdeal.Gen.facts) := by
  intro m g m' g' _ hagree
  refine ⟨fun c => spec0 (m ((c.tc : Thread Cert.GqIdeal.nD Cert.GqIdeal.τ).loc Cert.GqIdeal.main_arg0)) (m ((c.tc : Thread Cert.GqIdeal.nD Cert.GqIdeal.τ).loc Cert.GqIdeal.main_arg1)), fun c => spec1 (m ((c.tc : Thread Cert.GqIdeal.nD Cert.GqIdeal.τ).loc Cert.GqIdeal.main_arg0)) (m ((c.tc : Thread Cert.GqIdeal.nD Cert.GqIdeal.τ).loc Cert.GqIdeal.main_arg1)), ?_, ?_⟩
  · refine (θ_run _ _ _).mono (fun r h c => ?_) (Cert.GqIdeal.Value.run_blocks (F := Ideal) m g)
    obtain ⟨h0, h1, hrest⟩ := h c
    exact ⟨h0.trans (final2 m c), h1.trans (final3 m c), hrest⟩
  · refine (θ_run _ _ _).mono (fun r h c => ?_) (Cert.GqRefIdeal.Value.run (F := Ideal) m' g')
    obtain ⟨h0, h1, hrest⟩ := h c
    obtain ⟨a0, a1⟩ := hagree c
    refine ⟨?_, ?_, hrest⟩
    · rw [h0, a0, a1]
      exact ref_eq0 _ _
    · rw [h1, a0, a1]
      exact ref_eq1 _ _

end Cert.V.Gq

end
-- ==== Proof.V.QkvRuns.lean ====
/-
  What the frame of this call shares among its runs: the windows' blocks, the conditions of the branches in closed form,
  and the memrefs the body is called with.
-/
module

public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_QkvIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 28 := Nat.lt_of_lt_of_eq t.isLt N_0
    have e0 : (grid0.coords t 0).val = t.val / 7 % 4 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 5 — decided over the grid. -/
theorem hcond0_1 : ∀ t : Fin cfg0.N, cond0_1 (grid0.coords t) ↔ t.val % 7 ≤ 5 :=
  (by decide +kernel : ∀ t : Fin grid0.N, cond0_1 (grid0.coords t) ↔ t.val % 7 ≤ 5)

/-- The condition of the body's `scf.if` 2 (`k0_h3`), from the grid coordinates (the skeleton's scalar
    chain substituted). -/
abbrev cond0_2 (i : grid0.Coords) : Prop := k0_cond3 i = 1#1
/-- It holds at the points ≡ 6 (mod 7) — by arithmetic of the point. -/
theorem hcond0_2 : ∀ t : Fin cfg0.N, cond0_2 (grid0.coords t) ↔ t.val % 7 = 6 :=
  (fun t => by
    have ht : t.val < 28 := Nat.lt_of_lt_of_eq t.isLt N_0
    have e0 : (grid0.coords t 0).val = t.val / 7 % 4 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0xbf7efdf : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → cond0_1 (grid0.coords t) → ¬cond0_2 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → ¬cond0_2 (grid0.coords t) → cfg0.idle 7 (grid0.coords t) = false := by decide +kernel
/-- At the points of case C the printed configuration (`Cfg.idle`) calls output 7 live: the case stores into it. -/
theorem idleAt0_7_C : ∀ t : Fin cfg0.N, ¬cond0_0 (grid0.coords t) → ¬cond0_1 (grid0.coords t) → cond0_2 (grid0.coords t) → cfg0.idle 7 (grid0.coords t) = true := by decide +kernel
/-- At the points of case C the pipeline writes output 7's block back. -/
theorem flushAt0_7_C : ∀ t : Fin cfg0.N, ¬cond0_0 (grid0.coords t) → ¬cond0_1 (grid0.coords t) → cond0_2 (grid0.coords t) → (cfg0.win 7).flush t = true := by decide +kernel
/-- At the points of case C, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_C : ∀ t : Fin cfg0.N, ¬cond0_0 (grid0.coords t) → ¬cond0_1 (grid0.coords t) → cond0_2 (grid0.coords t) → cfg0.fresh 7 t.val = false := by
  intro t; rw [fresh0_7_eq t]; revert t; decide +kernel
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → cond0_1 (grid0.coords t) → ¬cond0_2 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → cond0_1 (grid0.coords t) → ¬cond0_2 (grid0.coords t) → cfg0.idle 9 (grid0.coords t) = true := by decide +kernel
/-- At the points of case B the pipeline does not write output 9's block back. -/
theorem noFlush0_9_B : ∀ t : Fin cfg0.N, ¬cond0_0 (grid0.coords t) → cond0_1 (grid0.coords t) → ¬cond0_2 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → ¬cond0_1 (grid0.coords t) → cond0_2 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → cond0_1 (grid0.coords t) → ¬cond0_2 (grid0.coords t) → cfg0.idle 10 (grid0.coords t) = true := by decide +kernel
/-- At the points of case A the pipeline does not write output 10's block back. -/
theorem noFlush0_10_A : ∀ t : Fin cfg0.N, cond0_0 (grid0.coords t) → cond0_1 (grid0.coords t) → ¬cond0_2 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → cfg0.idle 10 (grid0.coords t) = true := by decide +kernel
/-- At the points of case B the pipeline does not write output 10's block back. -/
theorem noFlush0_10_B : ∀ t : Fin cfg0.N, ¬cond0_0 (grid0.coords t) → cond0_1 (grid0.coords t) → ¬cond0_2 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → cfg0.idle 10 (grid0.coords t) = false := by decide +kernel
/-- At the points of case A the printed configuration (`Cfg.idle`) calls output 11 idle: the case stores nothing into it. -/
theorem idleAt0_11_A : ∀ t : Fin cfg0.N, cond0_0 (grid0.coords t) → cond0_1 (grid0.coords t) → ¬cond0_2 (grid0.coords t) → cfg0.idle 11 (grid0.coords t) = true := by decide +kernel
/-- At the points of case A the pipeline does not write output 11's block back. -/
theorem noFlush0_11_A : ∀ t : Fin cfg0.N, cond0_0 (grid0.coords t) → cond0_1 (grid0.coords t) → ¬cond0_2 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → cond0_1 (grid0.coords t) → ¬cond0_2 (grid0.coords t) → cfg0.idle 11 (grid0.coords t) = true := by decide +kernel
/-- At the points of case B the pipeline does not write output 11's block back. -/
theorem noFlush0_11_B : ∀ t : Fin cfg0.N, ¬cond0_0 (grid0.coords t) → cond0_1 (grid0.coords t) → ¬cond0_2 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → ¬cond0_1 (grid0.coords t) → cond0_2 (grid0.coords t) → cfg0.idle 11 (grid0.coords t) = false := by decide +kernel

/-! ## The kernel body on any staging memrefs: a subtype the run finds -/

/-- One staging buffer of output window 7, through which its contents are stated (`View.read_writes_of_cover`: the
    choice does not matter). -/
abbrev VO0_7 : View sig .tc .vmem S512x512 .bf16 := (Memref.whole cc0_stg7_0 : Memref sig .tc .vmem S512x512 .bf16).view
/-- One staging buffer of output window 8, through which its contents are stated (`View.read_writes_of_cover`: the
    choice does not matter). -/
abbrev VO0_8 : View sig .tc .vmem S512x256 .i8 := (Memref.whole cc0_stg8_0 : Memref sig .tc .vmem S512x256 .i8).view
/-- One staging buffer of output window 9, through which its contents are stated (`View.read_writes_of_cover`: the
    choice does not matter). -/
abbrev VO0_9 : View sig .tc .vmem S512x256 .f32 := (Memref.whole cc0_stg9_0 : Memref sig .tc .vmem S512x256 .f32).view
/-- One staging buffer of output window 10, through which its contents are stated (`View.read_writes_of_cover`: the
    choice does not matter). -/
abbrev VO0_10 : View sig .tc .vmem S512x256 .i8 := (Memref.whole cc0_stg10_0 : Memref sig .tc .vmem S512x256 .i8).view
/-- One staging buffer of output window 11, through which its contents are stated (`View.read_writes_of_cover`: the
    choice does not matter). -/
abbrev VO0_11 : View sig .tc .vmem S512x256 .f32 := (Memref.whole cc0_stg11_0 : Memref sig .tc .vmem S512x256 .f32).view
/-- Each window's current staging memref at point `t`, spelled as the pipeline passes it (`bodyAt0`), and its wholeness. -/
abbrev ms0_0 (t : Fin cfg0.N) : Memref sig .tc .vmem S512x6144 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x6144 .bf16 := Memref.whole cc0_scratch0
/-- The scratch `arg14` the kernel carries between points, as a view: what it holds is stated through it. -/
abbrev VS0_0 : View sig .tc .vmem S512x6144 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.QkvIdeal.Gen

end
-- ==== Proof.V.QkvRunA.lean ====
/-
  One branch of the body, run on any staging memrefs: the pieces that each output ends with.
-/
module

public import proofs.«01_k».proof.Proof.V.QkvRuns

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0, 7, 14, 21), WITH the
    proof that on whole staging memrefs — the inputs' at their contents, the outputs it leaves idle (8, 9, 10, 11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) :
    Σ' (L7 : List (View.Piece (Elt F) S512x512 .bf16)), Σ' (L8 : List (View.Piece (Elt F) S512x256 .i8)), Σ' (L9 : List (View.Piece (Elt F) S512x256 .f32)), Σ' (L10 : List (View.Piece (Elt F) S512x256 .i8)), Σ' (L11 : List (View.Piece (Elt F) S512x256 .f32)), { LS0 : List (View.Piece (Elt F) S512x6144 .bf16) //
      ∀ (xi8 : Vec F S512x256 .i8) (xi9 : Vec F S512x256 .f32) (xi10 : Vec F S512x256 .i8) (xi11 : Vec F S512x256 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨?_, [], [], [], [], ?_, fun xi8 xi9 xi10 xi11 E K => ?run⟩
  case run =>
    simp only [cc0_qkv_eq_skeleton]; unfold cc0_qkv_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hf11
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.QkvIdeal.Gen

end
-- ==== Proof.V.QkvRunB.lean ====
/-
  One branch of the body, run on any staging memrefs: the pieces that each output ends with.
-/
module

public import proofs.«01_k».proof.Proof.V.QkvRunA

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 26: 20 of 28), WITH the
    proof that on whole staging memrefs — the inputs' at their contents, the outputs it leaves idle (8, 9, 10, 11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) :
    Σ' (L7 : List (View.Piece (Elt F) S512x512 .bf16)), Σ' (L8 : List (View.Piece (Elt F) S512x256 .i8)), Σ' (L9 : List (View.Piece (Elt F) S512x256 .f32)), Σ' (L10 : List (View.Piece (Elt F) S512x256 .i8)), Σ' (L11 : List (View.Piece (Elt F) S512x256 .f32)), { LS0 : List (View.Piece (Elt F) S512x6144 .bf16) //
      ∀ (xi8 : Vec F S512x256 .i8) (xi9 : Vec F S512x256 .f32) (xi10 : Vec F S512x256 .i8) (xi11 : Vec F S512x256 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨?_, [], [], [], [], [], fun xi8 xi9 xi10 xi11 E K => ?run⟩
  case run =>
    simp only [cc0_qkv_eq_skeleton]; unfold cc0_qkv_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hf11; obtain rfl := harg14.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; isplitr; · ipureintro; exact harg14.read_unread _
    iexact HS0

end Cert.QkvIdeal.Gen

end
-- ==== Proof.V.QkvRunC.lean ====
/-
  One branch of the body, run on any staging memrefs: the pieces that each output ends with.
-/
module

public import proofs.«01_k».proof.Proof.V.QkvRunB

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 6, 13, 20, 27), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) :
    Σ' (L7 : List (View.Piece (Elt F) S512x512 .bf16)), Σ' (L8 : List (View.Piece (Elt F) S512x256 .i8)), Σ' (L9 : List (View.Piece (Elt F) S512x256 .f32)), Σ' (L10 : List (View.Piece (Elt F) S512x256 .i8)), Σ' (L11 : List (View.Piece (Elt F) S512x256 .f32)), { LS0 : List (View.Piece (Elt F) S512x6144 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, ?_, [], fun E K => ?run⟩
  case run =>
    simp only [cc0_qkv_eq_skeleton]; unfold cc0_qkv_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; isplitr; · ipureintro; exact harg14.read_unread _
    iexact HS0

end Cert.QkvIdeal.Gen

end
-- ==== Proof.V.QkvFrame.lean ====
/-
  The frame of this call: what each output window holds after each grid point, the body obligation, and the run of the
  whole program. An output window whose block stays in its buffer over a point that stores nothing keeps its contents.
-/
module

public import proofs.«01_k».proof.Proof.V.QkvRunC
public import Idealize.ShloMosaic.Lib.Claim

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-- Case A's pieces for output 7 tile its block (4 stores of `S512x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).1 S512x128.size (by sl_kernel_rfl) y

/-- What case A leaves in output 7's staging buffer: its pieces read back over junk. -/
def out0_A_7 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) : Vec F S512x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) : Vec F S512x256 .i8 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.1)

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) : Vec F S512x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.2.1)

/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) : Vec F S512x256 .i8 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.2.2.1)

/-- Case A stores nothing into output 11 (the window is idle at its points and not written back there):
    no pieces — a placeholder (junk read back) that nothing consults, since at these points the window is neither
    written back nor read at the next point (Lib/Pipeline.lean "Idle points"). -/
def out0_A_11 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) : Vec F S512x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.2.2.2.1)

/-- Case A's pieces for scratch `arg14`, which the kernel carries between points, cover it: 1 piece of `S512x6144` tiling it (Lib/Ring.lean `Piece.tiledL`). -/
theorem scover0_A_0 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (y : S512x6144.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.2.2.2.2.1 S512x6144.size (by sl_kernel_rfl) y

/-- What case A leaves in scratch `arg14`: its pieces read back over junk. -/
def sout0_A_0 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) : Vec F S512x6144 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.2.2.2.2.1)

/-- Case B's pieces for output 7 tile its block (4 stores of `S512x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).1 S512x128.size (by sl_kernel_rfl) y

/-- What case B leaves in output 7's staging buffer: its pieces read back over junk. -/
def out0_B_7 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) : Vec F S512x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) : Vec F S512x256 .i8 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) : Vec F S512x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.2.1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) : Vec F S512x256 .i8 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.2.2.1)

/-- Case B stores nothing into output 11 (the window is idle at its points and not written back there):
    no pieces — a placeholder (junk read back) that nothing consults, since at these points the window is neither
    written back nor read at the next point (Lib/Pipeline.lean "Idle points"). -/
def out0_B_11 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) : Vec F S512x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.2.2.2.1)

/-- Case B stores nothing into scratch `arg14`: it holds what the point before left. -/
def sout0_B_0 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : cond0_1 i) (hc2 : ¬cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xs0 : Vec F S512x6144 .bf16) : Vec F S512x6144 .bf16 := xs0

/-- Case C stores nothing into output 7, a live window: its staging buffer holds what the point before left. -/
def out0_C_7 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) : Vec F S512x512 .bf16 := xo7

/-- Case C's pieces for output 8 tile its block (2 stores of `S512x128`, checked by the kernel's evaluation: Lib/Ring.lean `Piece.tiledL`, linear in the pieces, through a loop's `@[irreducible]` trip theorem too), so they cover it. -/
theorem cover0_C_8 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.1 S512x128.size (by sl_kernel_rfl) y

/-- What case C leaves in output 8's staging buffer: its pieces read back over junk. -/
def out0_C_8 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) : Vec F S512x256 .i8 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.1)

/-- Case C's pieces for output 9 tile its block (2 stores of `S512x128`, checked by the kernel's evaluation: Lib/Ring.lean `Piece.tiledL`, linear in the pieces, through a loop's `@[irreducible]` trip theorem too), so they cover it. -/
theorem cover0_C_9 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.1 S512x128.size (by sl_kernel_rfl) y

/-- What case C leaves in output 9's staging buffer: its pieces read back over junk. -/
def out0_C_9 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) : Vec F S512x256 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.1)

/-- Case C's pieces for output 10 tile its block (2 stores of `S512x128`, checked by the kernel's evaluation: Lib/Ring.lean `Piece.tiledL`, linear in the pieces, through a loop's `@[irreducible]` trip theorem too), so they cover it. -/
theorem cover0_C_10 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.2.1 S512x128.size (by sl_kernel_rfl) y

/-- What case C leaves in output 10's staging buffer: its pieces read back over junk. -/
def out0_C_10 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) : Vec F S512x256 .i8 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.2.1)

/-- Case C's pieces for output 11 tile its block (2 stores of `S512x128`, checked by the kernel's evaluation: Lib/Ring.lean `Piece.tiledL`, linear in the pieces, through a loop's `@[irreducible]` trip theorem too), so they cover it. -/
theorem cover0_C_11 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.2.2.1 S512x128.size (by sl_kernel_rfl) y

/-- What case C leaves in output 11's staging buffer: its pieces read back over junk. -/
def out0_C_11 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) : Vec F S512x256 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo7 xs0).2.2.2.2.1)

/-- Case C stores nothing into scratch `arg14`: it holds what the point before left. -/
def sout0_C_0 (c : Dev nD) (i : grid0.Coords) (arg2 : Memref sig .tc .vmem S512x6144 .i8) (harg2 : arg2.IsWhole) (arg3 : Memref sig .tc .vmem S512x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x512 .bf16) (harg9 : arg9.IsWhole) (arg10 : Memref sig .tc .vmem S512x256 .i8) (harg10 : arg10.IsWhole) (arg11 : Memref sig .tc .vmem S512x256 .f32) (harg11 : arg11.IsWhole) (arg12 : Memref sig .tc .vmem S512x256 .i8) (harg12 : arg12.IsWhole) (arg13 : Memref sig .tc .vmem S512x256 .f32) (harg13 : arg13.IsWhole) (arg14 : Memref sig .tc .vmem S512x6144 .bf16) (harg14 : arg14.IsWhole) (hc0 : ¬cond0_0 i) (hc1 : ¬cond0_1 i) (hc2 : cond0_2 i)
    (x0 : Vec F S512x6144 .i8) (x1 : Vec F S512x128 .f32) (x2 : Vec F S6144x512 .i8) (x3 : Vec F S1x512 .f32) (x4 : Vec F S1x512 .f32) (x5 : Vec F S512x64 .f32) (x6 : Vec F S512x64 .f32) (xo7 : Vec F S512x512 .bf16) (xs0 : Vec F S512x6144 .bf16) : Vec F S512x6144 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x512 .bf16 × Vec F S512x256 .i8 × Vec F S512x256 .f32 × Vec F S512x256 .i8 × Vec F S512x256 .f32 × Vec F S512x6144 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 7 = 0 then
      if h1 : (n + 1) % 7 ≤ 5 then
        if h2 : (n + 1) % 7 = 6 then
          False.elim (by have hN : n + 1 < 28 := lt_of_lt_of_eq hn (show cfg0.N = 28 from N_0); omega)
        else
          (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        False.elim (by have hN : n + 1 < 28 := lt_of_lt_of_eq hn (show cfg0.N = 28 from N_0); omega)
    else
      if h1 : (n + 1) % 7 ≤ 5 then
        if h2 : (n + 1) % 7 = 6 then
          False.elim (by have hN : n + 1 < 28 := lt_of_lt_of_eq hn (show cfg0.N = 28 from N_0); omega)
        else
          (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.2)
      else
        if h2 : (n + 1) % 7 = 6 then
          (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.2)
        else
          False.elim (by have hN : n + 1 < 28 := lt_of_lt_of_eq hn (show cfg0.N = 28 from N_0); omega)

/-- `outsAt0` at a point of case A: that case's contents. -/
theorem outsAt0_A (c : Dev nD) (t : Fin cfg0.N) (h0 : t.val % 7 = 0) (h1 : t.val % 7 ≤ 5) (h2 : ¬t.val % 7 = 6) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 7 = 0) (h1 : t.val % 7 ≤ 5) (h2 : ¬t.val % 7 = 6) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 7 = 0) (h1 : ¬t.val % 7 ≤ 5) (h2 : t.val % 7 = 6) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 28 := lt_of_lt_of_eq t.isLt (show cfg0.N = 28 from N_0)
  rw [after0_7, after0_7]
  by_cases h0 : t.val % 7 = 0
  · by_cases h1 : t.val % 7 ≤ 5
    · by_cases h2 : t.val % 7 = 6
      · exfalso; omega
      · rw [liveAt0_7_A t ((hcond0_0 t).mpr h0) ((hcond0_1 t).mpr h1) (fun h => h2 ((hcond0_2 t).mp h))] at hi
        exact absurd hi Bool.false_ne_true
    · exfalso; omega
  · by_cases h1 : t.val % 7 ≤ 5
    · by_cases h2 : t.val % 7 = 6
      · exfalso; omega
      · rw [liveAt0_7_B t (fun h => h0 ((hcond0_0 t).mp h)) ((hcond0_1 t).mpr h1) (fun h => h2 ((hcond0_2 t).mp h))] at hi
        exact absurd hi Bool.false_ne_true
    · by_cases h2 : t.val % 7 = 6
      · rw [outsAt0_C m c t h0 h1 h2]
        dsimp only
        unfold out0_C_7
        rfl
      · exfalso; omega
/-- At a point of case C output 7's current staging buffer holds what the point before left: the buffer is not fresh
    there (`notFresh0_7_C`: stored into since the region's entry or the last write-back, carried through the points that
    leave it idle by `hcarry0_7`; Lib/Pipeline/TableIdle.lean `Dat.before_out_traj`). -/
theorem before0_7_C (c : Dev nD) (t : Fin cfg0.N) (h0 : ¬t.val % 7 = 0) (h1 : ¬t.val % 7 ≤ 5) (h2 : t.val % 7 = 6) (d) :
    (dats m 0 c).before 7 t d = (outsAt0 m c (t.val - 1) (Nat.lt_of_le_of_lt (Nat.sub_le _ _) t.isLt)).1 := by
  rw [Dat.before_out_traj _ 7 rfl (fun _ _ => rfl) (hcarry0_7 m c) t.val t rfl d,
    if_neg (by rw [notFresh0_7_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 7 = 0
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) (fun h => h2 ((hcond0_2 t).mp h))], after0_7]
        rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
        rw [Dat.leavesExact_idle (dats m 0 c) 9 t (idleAt0_9_A t ((hcond0_0 t).mpr h0) ((hcond0_1 t).mpr h1) (fun h => h2 ((hcond0_2 t).mp h))) (noFlush0_9_A t ((hcond0_0 t).mpr h0) ((hcond0_1 t).mpr h1) (fun h => h2 ((hcond0_2 t).mp h)))]
        rw [Dat.leavesExact_idle (dats m 0 c) 10 t (idleAt0_10_A t ((hcond0_0 t).mpr h0) ((hcond0_1 t).mpr h1) (fun h => h2 ((hcond0_2 t).mp h))) (noFlush0_10_A t ((hcond0_0 t).mpr h0) ((hcond0_1 t).mpr h1) (fun h => h2 ((hcond0_2 t).mp h)))]
        rw [Dat.leavesExact_idle (dats m 0 c) 11 t (idleAt0_11_A t ((hcond0_0 t).mpr h0) ((hcond0_1 t).mpr h1) (fun h => h2 ((hcond0_2 t).mp h))) (noFlush0_11_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold out0_A_7 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2.2.2.2.2.2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexact H8
          isplitl [H9]; · iexact H9
          isplitl [H10]; · iexact H10
          isplitl [H11]; · iexact H11
          isplitl [HS0]; · iexact HS0
          iintro ⟨H0, H1, H2, H3, H4, H5, H6, ⟨%e7, H7⟩, H8, H9, H10, H11, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _ _ _ _)
          isplitl [H8]; · iexists _; iexact H8
          isplitl [H9]; · iexists _; iexact H9
          isplitl [H10]; · iexists _; iexact H10
          iexists _; iexact H11
        · rw [PhiS_castSucc m c t, PhiS_pos m c _ _ hz]
          rw [outsAt0_A m c t h0 h1 h2]
          unfold out0_A_7 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2.2.2.2.2.2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexact H8
          isplitl [H9]; · iexact H9
          isplitl [H10]; · iexact H10
          isplitl [H11]; · iexact H11
          isplitl [HS0]; · iexists _; iexact HS0
          iintro ⟨H0, H1, H2, H3, H4, H5, H6, ⟨%e7, H7⟩, H8, H9, H10, H11, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _ _ _ _)
          isplitl [H8]; · iexists _; iexact H8
          isplitl [H9]; · iexists _; iexact H9
          isplitl [H10]; · iexists _; iexact H10
          iexists _; iexact H11
    · exfalso; omega
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h))], after0_7]
        rw [Dat.leavesExact_idle (dats m 0 c) 8 t (idleAt0_8_B t (fun h => h0 ((hcond0_0 t).mp h)) ((hcond0_1 t).mpr h1) (fun h => h2 ((hcond0_2 t).mp h))) (noFlush0_8_B t (fun h => h0 ((hcond0_0 t).mp h)) ((hcond0_1 t).mpr h1) (fun h => h2 ((hcond0_2 t).mp h)))]
        rw [Dat.leavesExact_idle (dats m 0 c) 9 t (idleAt0_9_B t (fun h => h0 ((hcond0_0 t).mp h)) ((hcond0_1 t).mpr h1) (fun h => h2 ((hcond0_2 t).mp h))) (noFlush0_9_B t (fun h => h0 ((hcond0_0 t).mp h)) ((hcond0_1 t).mpr h1) (fun h => h2 ((hcond0_2 t).mp h)))]
        rw [Dat.leavesExact_idle (dats m 0 c) 10 t (idleAt0_10_B t (fun h => h0 ((hcond0_0 t).mp h)) ((hcond0_1 t).mpr h1) (fun h => h2 ((hcond0_2 t).mp h))) (noFlush0_10_B t (fun h => h0 ((hcond0_0 t).mp h)) ((hcond0_1 t).mpr h1) (fun h => h2 ((hcond0_2 t).mp h)))]
        rw [Dat.leavesExact_idle (dats m 0 c) 11 t (idleAt0_11_B t (fun h => h0 ((hcond0_0 t).mp h)) ((hcond0_1 t).mpr h1) (fun h => h2 ((hcond0_2 t).mp h))) (noFlush0_11_B t (fun h => h0 ((hcond0_0 t).mp h)) ((hcond0_1 t).mpr h1) (fun h => h2 ((hcond0_2 t).mp h)))]
        by_cases hz : t.val = 0
        · exfalso; have hN : t.val < 28 := lt_of_lt_of_eq t.isLt (show cfg0.N = 28 from N_0); omega
        · rw [PhiS_castSucc m c t, PhiS_pos m c _ _ hz]
          rw [outsAt0_B m c t h0 h1 h2]
          unfold out0_B_7 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) _).2.2.2.2.2.2 _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexact H8
          isplitl [H9]; · iexact H9
          isplitl [H10]; · iexact H10
          isplitl [H11]; · iexact H11
          isplitl [HS0]; · iexact HS0
          iintro ⟨H0, H1, H2, H3, H4, H5, H6, ⟨%e7, H7⟩, H8, H9, H10, H11, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _ _ _)
          isplitl [H8]; · iexists _; iexact H8
          isplitl [H9]; · iexists _; iexact H9
          isplitl [H10]; · iexists _; iexact H10
          iexists _; iexact H11
    · by_cases h2 : t.val % 7 = 6
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [idleAt0_7_C t (fun h => h0 ((hcond0_0 t).mp h)) (fun h => h1 ((hcond0_1 t).mp h)) ((hcond0_2 t).mpr h2), flushAt0_7_C t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2)], after0_11]
        by_cases hz : t.val = 0
        · exfalso; have hN : t.val < 28 := lt_of_lt_of_eq t.isLt (show cfg0.N = 28 from N_0); omega
        · rw [PhiS_castSucc m c t, PhiS_pos m c _ _ hz]
          rw [outsAt0_C m c t h0 h1 h2]
          simp only [before0_7_C m c t h0 h1 h2]
          unfold out0_C_7 out0_C_8 out0_C_9 out0_C_10 out0_C_11 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          iintro ⟨H0, H1, H2, H3, H4, H5, H6, H7, ⟨%e8, H8⟩, ⟨%e9, H9⟩, ⟨%e10, H10⟩, ⟨%e11, H11⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_QkvIdeal`'s statement (Defs.lean) at any `F` — Proof.lean cites it at `Bits`:
    `theorem Cert.Proof.claim : Cert.Claim := ⟨Cert.QkvIdeal.Gen.facts, fun m ρ _ => Cert.QkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.QkvIdeal.Gen

end
-- ==== Proof.V.QkvBits.lean ====
/-
  The frame of this call as printed. The printed program and its ideal form are one program but for the constant 1/127,
  which the ideal form looks up by name; with the name read as the printed bits they are the same by definition, so the
  frame of the ideal form, which holds over any floats, is the frame of the printed program.
-/
module

public import proofs.«01_k».proof.Defs
public import proofs.«01_k».proof.Proof.Gen.Qkv
public import proofs.«01_k».proof.Proof.V.QkvFrame

@[expose] public section

noncomputable section

namespace Cert.V.Qkv

open Idealize.ShloMosaic Idealize.ShloMosaic.TcCoe Idealize.SL.Sem

/-- A named constant read as its printed bits. -/
local instance printed : Named Bits where
  named _ _ {φ} bits := Scalar.ofBits φ bits

/-- The printed program's frame is the ideal form's, read at the printed constants. -/
theorem frame_eq : Cert.quiescent_Qkv (hQkv := Cert.Qkv.Gen.facts) = (∀ (m : (ℓ : Loc Cert.QkvIdeal.nD Cert.QkvIdeal.τ Cert.QkvIdeal.sig) → Buf (Elt Bits) ℓ) (g : Dev Cert.QkvIdeal.nD → PrngReg), True →
    θ_run (Cert.QkvIdeal.defs (F := Bits)) (onTc (τ := Cert.QkvIdeal.τ) (Cert.QkvIdeal.main (F := Bits))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)) := by
  sl_kernel_rfl

/-- The frame of the printed program. -/
theorem frame : Cert.quiescent_Qkv (hQkv := Cert.Qkv.Gen.facts) := by
  rw [frame_eq]
  exact fun m ρ _ => Cert.QkvIdeal.Gen.frame (F := Bits) m ρ

end Cert.V.Qkv

end
-- ==== Proof.V.QkvSweep.lean ====
/-
  The output arrays after the run, read as what the grid points leave in their blocks.
-/
module

public import proofs.«01_k».proof.Proof.V.QkvFrame
public import Idealize.ShloMosaic.Lib.Pipeline.Value

@[expose] public section

noncomputable section

namespace Cert.QkvIdeal.Value

open Cert.QkvIdeal Cert.QkvIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 7 = 0) (h1 : t.val % 7 ≤ 5) (h2 : ¬t.val % 7 = 6) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  simp only [flushed7, outsAt0_A m c t h0 h1 h2]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 7 = 0) (h1 : t.val % 7 ≤ 5) (h2 : ¬t.val % 7 = 6) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2) := by
  simp only [flushed7, outsAt0_B m c t h0 h1 h2]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 7 = 0) (h1 : ¬t.val % 7 ≤ 5) (h2 : t.val % 7 = 6) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2) := by
  simp only [flushed7, outsAt0_C m c t h0 h1 h2]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S2048x3072.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 7 = 0) (h1 : t.val % 7 ≤ 5) (h2 : ¬t.val % 7 = 6) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  simp only [flushed8, outsAt0_A m c t h0 h1 h2]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 7 = 0) (h1 : t.val % 7 ≤ 5) (h2 : ¬t.val % 7 = 6) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2) := by
  simp only [flushed8, outsAt0_B m c t h0 h1 h2]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 7 = 0) (h1 : ¬t.val % 7 ≤ 5) (h2 : t.val % 7 = 6) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2) := by
  simp only [flushed8, outsAt0_C m c t h0 h1 h2]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S2048x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 7 = 0) (h1 : t.val % 7 ≤ 5) (h2 : ¬t.val % 7 = 6) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  simp only [flushed9, outsAt0_A m c t h0 h1 h2]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 7 = 0) (h1 : t.val % 7 ≤ 5) (h2 : ¬t.val % 7 = 6) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2) := by
  simp only [flushed9, outsAt0_B m c t h0 h1 h2]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 7 = 0) (h1 : ¬t.val % 7 ≤ 5) (h2 : t.val % 7 = 6) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2) := by
  simp only [flushed9, outsAt0_C m c t h0 h1 h2]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S2048x256.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 3), read through the window's block. -/
theorem flushed10 (c : Dev nD) (t : Fin cfg0.N) :
    (dats m 0 c).flushed 10 t = (cfg0.win 10).cut (grid0.coords t) ((outsAt0 m c t.val t.isLt).2.2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 7 = 0) (h1 : t.val % 7 ≤ 5) (h2 : ¬t.val % 7 = 6) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  simp only [flushed10, outsAt0_A m c t h0 h1 h2]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 7 = 0) (h1 : t.val % 7 ≤ 5) (h2 : ¬t.val % 7 = 6) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2) := by
  simp only [flushed10, outsAt0_B m c t h0 h1 h2]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 7 = 0) (h1 : ¬t.val % 7 ≤ 5) (h2 : t.val % 7 = 6) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2) := by
  simp only [flushed10, outsAt0_C m c t h0 h1 h2]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S2048x256.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 4), read through the window's block. -/
theorem flushed11 (c : Dev nD) (t : Fin cfg0.N) :
    (dats m 0 c).flushed 11 t = (cfg0.win 11).cut (grid0.coords t) ((outsAt0 m c t.val t.isLt).2.2.2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 7 = 0) (h1 : t.val % 7 ≤ 5) (h2 : ¬t.val % 7 = 6) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  simp only [flushed11, outsAt0_A m c t h0 h1 h2]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 7 = 0) (h1 : t.val % 7 ≤ 5) (h2 : ¬t.val % 7 = 6) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2) := by
  simp only [flushed11, outsAt0_B m c t h0 h1 h2]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 7 = 0) (h1 : ¬t.val % 7 ≤ 5) (h2 : t.val % 7 = 6) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.2) := by
  simp only [flushed11, outsAt0_C m c t h0 h1 h2]

-- no `blocks11`: window 11's index map revisits a block index, or its points could not be enumerated here;
-- the final array is still the frame's `arrAt`, to read with Lib/Pipeline/Value.lean's lemmas by hand

/-- An index that no flushing point's block covers keeps output window 11's array contents at region entry. -/
theorem entry11 (c : Dev nD) (i : S2048x256.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_4) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_v0_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 7)
    stores the scratch whole without reading what it held, and `acc` does not enter there (nor where no point meets the
    conditions: `acc`, never read). -/
def scAt0_0 (c : Dev nD) (n : ℕ) (hb : n < cfg0.N) (acc : Vec F S512x6144 .bf16) : Vec F S512x6144 .bf16 :=
  if h0 : n % 7 = 0 then
    if h1 : n % 7 ≤ 5 then
      if h2 : n % 7 = 6 then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
    else
      acc
  else
    if h1 : n % 7 ≤ 5 then
      if h2 : n % 7 = 6 then
        acc
      else
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
    else
      if h2 : n % 7 = 6 then
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).1 acc
      else
        acc

/-- WHAT CARRIED SCRATCH 0 HOLDS after point `t`: the fold of its run up to `t`, from the reset at the run's first point
    `7·(t / 7)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.2 = Pipeline.accAt (fun n h => scAt0_0 m c n h (VS0_0.read (Elt F) VS0_0.junk)) (scAt0_0 m c) (7 * (t.val / 7)) (t.val % 7)
      (by have h1 := t.isLt; have h2 := Nat.div_add_mod t.val 7; omega) :=
  Pipeline.eq_accAt_of_mod (fun n h => (outsAt0 m c n h).2.2.2.2.2) 7 (fun n h => scAt0_0 m c n h (VS0_0.read (Elt F) VS0_0.junk)) (scAt0_0 m c)
    (fun n h hn => by
      have hN := lt_of_lt_of_eq h (show cfg0.N = 28 from N_0)
      by_cases h0 : n % 7 = 0 <;> by_cases h1 : n % 7 ≤ 5 <;> by_cases h2 : n % 7 = 6
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_pos h1, dif_neg h2] <;> try rfl) | (rw [outsAt0_C m c ⟨n, h⟩ h0 h1 h2]; dsimp only; unfold scAt0_0; rw [dif_neg h0, dif_neg h1, dif_pos h2] <;> try rfl))
    (fun n h hn => by
      have hN := lt_of_lt_of_eq h (show cfg0.N = 28 from N_0)
      by_cases h0 : (n + 1) % 7 = 0 <;> by_cases h1 : (n + 1) % 7 ≤ 5 <;> by_cases h2 : (n + 1) % 7 = 6
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_pos h1, dif_neg h2] <;> try rfl) | (rw [outsAt0_C m c ⟨n + 1, h⟩ h0 h1 h2]; dsimp only; unfold scAt0_0; rw [dif_neg h0, dif_neg h1, dif_pos h2] <;> try rfl))
    (by decide) t.val t.isLt _

end Cert.QkvIdeal.Value

end
-- ==== Proof.V.QkvSpec.lean ====
/-
  The query, key and value projection as functions of its argument arrays: the linear layer, a head turned by the row's
  angles, and the quantiser head by head.
-/
module

public import proofs.«01_k».proof.Proof.V.Linear
public import proofs.«01_k».proof.Proof.V.Quant

@[expose] public section

noncomputable section

namespace Cert.V.Qkv

open Idealize.ShloMosaic
open scoped BigOperators

/-- Entry `d` of a head of 128 numbers turned by 64 angles: entry `d` and the one 64 further on are a pair. -/
def rotOf (v : Fin 128 → EReal) (cs sn : Fin 64 → EReal) (d : Fin 128) : EReal :=
  if h : d.val < 64 then v d * cs ⟨d.val, h⟩ - v ⟨64 + d.val, by omega⟩ * sn ⟨d.val, h⟩
  else v d * cs ⟨d.val - 64, by omega⟩ + v ⟨d.val - 64, by omega⟩ * sn ⟨d.val - 64, by omega⟩

/-- The scale of a head. -/
def headScale (v : Fin 128 → EReal) : EReal := scaleOf (rowMax fun d => absOf (v d))

/-- The linear layer at an index, the arrays as the call takes them. -/
def linM {M N : ℕ} [NeZero N] (x0 : Vec Ideal ⟨2, ![M, 6144]⟩ .i8) (x1 : Vec Ideal ⟨2, ![M, 128]⟩ .f32) (x2 : Vec Ideal ⟨2, ![6144, N]⟩ .i8)
    (x3 x4 : Vec Ideal ⟨2, ![1, N]⟩ .f32) (r : Fin M) (c : Fin N) : EReal :=
  linAt x0 (fun r => x1 (ix2 r 0)) x2 (fun c => x3 (ix2 0 c)) (fun c => x4 (ix2 0 c)) r c

/-- The 128 columns of row `r` from column `o` on. -/
def headAt {M N : ℕ} (y : Fin M → Fin N → EReal) (o : ℕ) (ho : o + 128 ≤ N) (r : Fin M) : Fin 128 → EReal :=
  fun d => y r ⟨o + d.val, by omega⟩

/-- … turned by the row's angles. -/
def rotAt {M N : ℕ} (y : Fin M → Fin N → EReal) (x5 x6 : Vec Ideal ⟨2, ![M, 64]⟩ .f32) (o : ℕ) (ho : o + 128 ≤ N) (r : Fin M) :
    Fin 128 → EReal :=
  rotOf (headAt y o ho r) (fun d => x5 (ix2 r d)) (fun d => x6 (ix2 r d))

section
variable (x0 : Vec Ideal ⟨2, ![2048, 6144]⟩ .i8) (x1 : Vec Ideal ⟨2, ![2048, 128]⟩ .f32) (x2 : Vec Ideal ⟨2, ![6144, 3584]⟩ .i8)
  (x3 x4 : Vec Ideal ⟨2, ![1, 3584]⟩ .f32) (x5 x6 : Vec Ideal ⟨2, ![2048, 64]⟩ .f32)

/-- The queries: 24 heads, each turned by the row's angles. -/
def spec0 : Vec Ideal ⟨2, ![2048, 3072]⟩ .bf16 := fun i =>
  have h : (i 1).val < 3072 := (i 1).isLt
  (rotAt (linM x0 x1 x2 x3 x4) x5 x6 ((i 1).val / 128 * 128) (by omega) (i 0) ⟨(i 1).val % 128, by omega⟩ : EReal)

/-- The key head that column `j` of 256 lies in, turned by the row's angles. -/
def keyAt (r : Fin 2048) (j : Fin 256) : Fin 128 → EReal :=
  rotAt (linM x0 x1 x2 x3 x4) x5 x6 (3072 + j.val / 128 * 128) (by omega) r

/-- The value head that column `j` of 256 lies in. -/
def valAt (r : Fin 2048) (j : Fin 256) : Fin 128 → EReal :=
  headAt (linM x0 x1 x2 x3 x4) (3328 + j.val / 128 * 128) (by omega) r

/-- The keys' codes. -/
def spec1 : Vec Ideal ⟨2, ![2048, 256]⟩ .i8 := fun i =>
  codeOf (keyAt x0 x1 x2 x3 x4 x5 x6 (i 0) (i 1) ⟨(i 1).val % 128, by omega⟩) (headScale (keyAt x0 x1 x2 x3 x4 x5 x6 (i 0) (i 1)))

/-- The keys' scales, one for a head, in each of its columns. -/
def spec2 : Vec Ideal ⟨2, ![2048, 256]⟩ .f32 := fun i => (headScale (keyAt x0 x1 x2 x3 x4 x5 x6 (i 0) (i 1)) : EReal)

/-- The values' codes. -/
def spec3 (_x5 _x6 : Vec Ideal ⟨2, ![2048, 64]⟩ .f32) : Vec Ideal ⟨2, ![2048, 256]⟩ .i8 := fun i =>
  codeOf (valAt x0 x1 x2 x3 x4 (i 0) (i 1) ⟨(i 1).val % 128, by omega⟩) (headScale (valAt x0 x1 x2 x3 x4 (i 0) (i 1)))

/-- The values' scales. -/
def spec4 (_x5 _x6 : Vec Ideal ⟨2, ![2048, 64]⟩ .f32) : Vec Ideal ⟨2, ![2048, 256]⟩ .f32 := fun i =>
  (headScale (valAt x0 x1 x2 x3 x4 (i 0) (i 1)) : EReal)

end

end Cert.V.Qkv

end
-- ==== Proof.V.QkvPieces.lean ====
/-
  What one grid point of the query, key and value projection leaves in its output blocks and in the scratch, as plain
  functions of the point's input blocks.
-/
module

public import proofs.«01_k».proof.Proof.V.QkvSweep

@[expose] public section

noncomputable section

namespace Cert.V.Qkv

open Cert.QkvIdeal Cert.QkvIdeal.Gen Cert.QkvIdeal.Value Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

theorem hz (n : Shape) (h : n.rank = 2 := by rfl) : (![0, 0] : Fin 2 → Nat) = fun _ => 0 :=
  funext fun a => by fin_cases a <;> rfl

/-- The first column of a block of lanes. -/
abbrev col0 (x : Vec F S512x128 .f32) : Vec F S512x1 .f32 :=
  View.ld x (Rect.unit (s := S512x128) ![0, 0] S512x1.size inb_S512x128_S512x1_0_0)

/-- The linear layer's block from the codes as floats, the scales, the weights, their scales and the bias. -/
abbrev lin (xs : Vec F S512x6144 .bf16) (x1 : Vec F S512x128 .f32) (x2 : Vec F S6144x512 .i8) (x3 x4 : Vec F S1x512 .f32) :
    Vec F S512x512 .f32 :=
  k0_pay2 xs x2 (col0 x1) x3 x4

/-- The block of queries: four heads side by side, each turned by the row's angles. -/
def qBlk (y : Vec F S512x512 .f32) (x5 x6 : Vec F S512x64 .f32) : Vec F S512x512 .bf16 :=
  View.canon [⟨Rect.unit (s := S512x512) ![0, 384] ![512, 128] inb_S512x512_S512x128_0_384, k0_pay11 y x5 x6⟩,
    ⟨Rect.unit (s := S512x512) ![0, 256] ![512, 128] inb_S512x512_S512x128_0_256, k0_pay10 y x5 x6⟩,
    ⟨Rect.unit (s := S512x512) ![0, 128] ![512, 128] inb_S512x512_S512x128_0_128, k0_pay9 y x5 x6⟩,
    ⟨Rect.unit (s := S512x512) ![0, 0] ![512, 128] inb_S512x512_S512x128_0_0, k0_pay8 y x5 x6⟩]

/-- The block of the keys' codes: two heads side by side. -/
def kcBlk (y : Vec F S512x512 .f32) (x5 x6 : Vec F S512x64 .f32) : Vec F S512x256 .i8 :=
  View.canon [⟨Rect.unit (s := S512x256) ![0, 128] ![512, 128] inb_S512x256_S512x128_0_128, k0_pay23 y x5 x6⟩,
    ⟨Rect.unit (s := S512x256) ![0, 0] ![512, 128] inb_S512x256_S512x128_0_0, k0_pay14 y x5 x6⟩]

/-- The block of the keys' scales. -/
def ksBlk (y : Vec F S512x512 .f32) (x5 x6 : Vec F S512x64 .f32) : Vec F S512x256 .f32 :=
  View.canon [⟨Rect.unit (s := S512x256) ![0, 128] ![512, 128] inb_S512x256_S512x128_0_128, k0_pay3 (k0_pay22 y x5 x6)⟩,
    ⟨Rect.unit (s := S512x256) ![0, 0] ![512, 128] inb_S512x256_S512x128_0_0, k0_pay15 y x5 x6⟩]

/-- The block of the values' codes. -/
def vcBlk (xs : Vec F S512x6144 .bf16) (x1 : Vec F S512x128 .f32) (x2 : Vec F S6144x512 .i8) (x3 x4 : Vec F S1x512 .f32) :
    Vec F S512x256 .i8 :=
  View.canon [⟨Rect.unit (s := S512x256) ![0, 128] ![512, 128] inb_S512x256_S512x128_0_128, k0_pay6 xs x2 (col0 x1) x3 x4⟩,
    ⟨Rect.unit (s := S512x256) ![0, 0] ![512, 128] inb_S512x256_S512x128_0_0, k0_pay19 (k0_pay16 (lin xs x1 x2 x3 x4)) (k0_pay18 (lin xs x1 x2 x3 x4))⟩]

/-- The block of the values' scales. -/
def vsBlk (xs : Vec F S512x6144 .bf16) (x1 : Vec F S512x128 .f32) (x2 : Vec F S6144x512 .i8) (x3 x4 : Vec F S1x512 .f32) :
    Vec F S512x256 .f32 :=
  View.canon [⟨Rect.unit (s := S512x256) ![0, 128] ![512, 128] inb_S512x256_S512x128_0_128, k0_pay7 xs x2 (col0 x1) x3 x4⟩,
    ⟨Rect.unit (s := S512x256) ![0, 0] ![512, 128] inb_S512x256_S512x128_0_0, k0_pay20 (k0_pay17 (lin xs x1 x2 x3 x4))⟩]

section
variable (c : Dev nD) (t : Fin cfg0.N) (x0 : Vec F S512x6144 .i8) (x1 : Vec F S512x128 .f32) (x2 : Vec F S6144x512 .i8)
  (x3 x4 : Vec F S1x512 .f32) (x5 x6 : Vec F S512x64 .f32) (xo : Vec F S512x512 .bf16) (xs : Vec F S512x6144 .bf16)

/-- At the first point of a row of blocks the scratch ends holding the codes as floats. -/
theorem sout_A (hc0 : cond0_0 (grid0.coords t)) (hc1 : cond0_1 (grid0.coords t)) (hc2 : ¬cond0_2 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 hc2 x0 x1 x2 x3 x4 x5 x6
      = k0_pay1 x0 := by
  unfold sout0_A_0
  rw [View.read_writes_eq_canon _ _ _ (scover0_A_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (Memref.isWhole_whole _) hc0 hc1 hc2 x0 x1 x2 x3 x4 x5 x6)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero (hz S512x6144), View.ld_unit_zero (S := S512x6144) (hz S512x6144)]

/-- … and the queries' block is made from them. -/
theorem out7_A (hc0 : cond0_0 (grid0.coords t)) (hc1 : cond0_1 (grid0.coords t)) (hc2 : ¬cond0_2 (grid0.coords t)) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 hc2 x0 x1 x2 x3 x4 x5 x6
      = qBlk (lin (k0_pay1 x0) x1 x2 x3 x4) x5 x6 := by
  unfold out0_A_7
  rw [View.read_writes_eq_canon _ _ _ (cover0_A_7 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (Memref.isWhole_whole _) hc0 hc1 hc2 x0 x1 x2 x3 x4 x5 x6)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.readCov_cons_toLoadRect, View.ld_unit_zero (S := S512x6144) (hz S512x6144)]
  rw [View.ld_unit_zero (S := S6144x512) (hz S6144x512), View.ld_unit_zero (S := S1x512) (hz S1x512) _ x3,
    View.ld_unit_zero (S := S1x512) (hz S1x512) _ x4]
  rw [View.ld_unit_zero (S := S512x64) (hz S512x64) _ x5, View.ld_unit_zero (S := S512x64) (hz S512x64) _ x6]
  rfl

/-- At the next five points the scratch is read as the point before left it. -/
theorem out7_B (hc0 : ¬cond0_0 (grid0.coords t)) (hc1 : cond0_1 (grid0.coords t)) (hc2 : ¬cond0_2 (grid0.coords t)) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 hc2 x0 x1 x2 x3 x4 x5 x6 xs
      = qBlk (lin xs x1 x2 x3 x4) x5 x6 := by
  unfold out0_B_7
  rw [View.read_writes_eq_canon _ _ _ (cover0_B_7 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (Memref.isWhole_whole _) hc0 hc1 hc2 x0 x1 x2 x3 x4 x5 x6 xs)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [show View.read (Elt F) (View.whole cc0_scratch0) ((Memref.isWhole_whole cc0_scratch0).unread xs) = xs from
      (Memref.isWhole_whole cc0_scratch0).read_unread xs, View.ld_unit_zero (S := S512x6144) (hz S512x6144)]
  rw [View.ld_unit_zero (S := S6144x512) (hz S6144x512), View.ld_unit_zero (S := S1x512) (hz S1x512) _ x3,
    View.ld_unit_zero (S := S1x512) (hz S1x512) _ x4]
  rw [View.ld_unit_zero (S := S512x64) (hz S512x64) _ x5, View.ld_unit_zero (S := S512x64) (hz S512x64) _ x6]
  rfl

/-- At the last point of a row of blocks: the block of the keys' codes. -/
theorem out8_C (hc0 : ¬cond0_0 (grid0.coords t)) (hc1 : ¬cond0_1 (grid0.coords t)) (hc2 : cond0_2 (grid0.coords t)) :
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 hc2 x0 x1 x2 x3 x4 x5 x6 xo xs
      = kcBlk (lin xs x1 x2 x3 x4) x5 x6 := by
  unfold out0_C_8
  rw [View.read_writes_eq_canon _ _ _ (cover0_C_8 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (Memref.isWhole_whole _) hc0 hc1 hc2 x0 x1 x2 x3 x4 x5 x6 xo xs)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [show View.read (Elt F) (View.whole cc0_scratch0) ((Memref.isWhole_whole cc0_scratch0).unread xs) = xs from
      (Memref.isWhole_whole cc0_scratch0).read_unread xs, View.ld_unit_zero (S := S512x6144) (hz S512x6144)]
  rw [View.ld_unit_zero (S := S6144x512) (hz S6144x512), View.ld_unit_zero (S := S1x512) (hz S1x512) _ x3,
    View.ld_unit_zero (S := S1x512) (hz S1x512) _ x4]
  rw [View.ld_unit_zero (S := S512x64) (hz S512x64) _ x5, View.ld_unit_zero (S := S512x64) (hz S512x64) _ x6]
  rfl

/-- At the last point of a row of blocks: the block of the keys' scales. -/
theorem out9_C (hc0 : ¬cond0_0 (grid0.coords t)) (hc1 : ¬cond0_1 (grid0.coords t)) (hc2 : cond0_2 (grid0.coords t)) :
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 hc2 x0 x1 x2 x3 x4 x5 x6 xo xs
      = ksBlk (lin xs x1 x2 x3 x4) x5 x6 := by
  unfold out0_C_9
  rw [View.read_writes_eq_canon _ _ _ (cover0_C_9 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (Memref.isWhole_whole _) hc0 hc1 hc2 x0 x1 x2 x3 x4 x5 x6 xo xs)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [show View.read (Elt F) (View.whole cc0_scratch0) ((Memref.isWhole_whole cc0_scratch0).unread xs) = xs from
      (Memref.isWhole_whole cc0_scratch0).read_unread xs, View.ld_unit_zero (S := S512x6144) (hz S512x6144)]
  rw [View.ld_unit_zero (S := S6144x512) (hz S6144x512), View.ld_unit_zero (S := S1x512) (hz S1x512) _ x3,
    View.ld_unit_zero (S := S1x512) (hz S1x512) _ x4]
  rw [View.ld_unit_zero (S := S512x64) (hz S512x64) _ x5, View.ld_unit_zero (S := S512x64) (hz S512x64) _ x6]
  rfl

/-- At the last point of a row of blocks: the block of the values' codes. -/
theorem out10_C (hc0 : ¬cond0_0 (grid0.coords t)) (hc1 : ¬cond0_1 (grid0.coords t)) (hc2 : cond0_2 (grid0.coords t)) :
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 hc2 x0 x1 x2 x3 x4 x5 x6 xo xs
      = vcBlk xs x1 x2 x3 x4 := by
  unfold out0_C_10
  rw [View.read_writes_eq_canon _ _ _ (cover0_C_10 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (Memref.isWhole_whole _) hc0 hc1 hc2 x0 x1 x2 x3 x4 x5 x6 xo xs)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [show View.read (Elt F) (View.whole cc0_scratch0) ((Memref.isWhole_whole cc0_scratch0).unread xs) = xs from
      (Memref.isWhole_whole cc0_scratch0).read_unread xs, View.ld_unit_zero (S := S512x6144) (hz S512x6144)]
  rw [View.ld_unit_zero (S := S6144x512) (hz S6144x512), View.ld_unit_zero (S := S1x512) (hz S1x512) _ x3,
    View.ld_unit_zero (S := S1x512) (hz S1x512) _ x4]
  rfl

/-- At the last point of a row of blocks: the block of the values' scales. -/
theorem out11_C (hc0 : ¬cond0_0 (grid0.coords t)) (hc1 : ¬cond0_1 (grid0.coords t)) (hc2 : cond0_2 (grid0.coords t)) :
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 hc1 hc2 x0 x1 x2 x3 x4 x5 x6 xo xs
      = vsBlk xs x1 x2 x3 x4 := by
  unfold out0_C_11
  rw [View.read_writes_eq_canon _ _ _ (cover0_C_11 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (Memref.isWhole_whole _) hc0 hc1 hc2 x0 x1 x2 x3 x4 x5 x6 xo xs)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [show View.read (Elt F) (View.whole cc0_scratch0) ((Memref.isWhole_whole cc0_scratch0).unread xs) = xs from
      (Memref.isWhole_whole cc0_scratch0).read_unread xs, View.ld_unit_zero (S := S512x6144) (hz S512x6144)]
  rw [View.ld_unit_zero (S := S6144x512) (hz S6144x512), View.ld_unit_zero (S := S1x512) (hz S1x512) _ x3,
    View.ld_unit_zero (S := S1x512) (hz S1x512) _ x4]
  rfl

end

/-- The block of codes is the same at two points of one row of blocks. -/
theorem index0_eq : ∀ t : Fin cfg0.N, ¬t.val % 7 = 0 → ∀ h : t.val - 1 < cfg0.N, win0_0.index ⟨t.val - 1, h⟩ = win0_0.index t :=
  (by decide +kernel : ∀ t : Fin grid0.N, ¬t.val % 7 = 0 → ∀ h : t.val - 1 < grid0.N, win0_0.index ⟨t.val - 1, h⟩ = win0_0.index t)

theorem iblk0_pred (c : Dev nD) (t : Fin cfg0.N) (h0 : ¬t.val % 7 = 0) (h : t.val - 1 < cfg0.N) :
    (iblk m c 0 ⟨t.val - 1, h⟩ : Vec F S512x6144 .i8) = iblk m c 0 t := by
  funext y
  show V m c (Pipeline.arrRef spec0 0) (((cfg0.win 0).blk ⟨t.val - 1, h⟩).view.emb y) = V m c (Pipeline.arrRef spec0 0) (((cfg0.win 0).blk t).view.emb y)
  congr 1
  funext a
  apply Fin.ext
  show win0_0.index ⟨t.val - 1, h⟩ a * S512x6144.size a + 1 * (y a).val = win0_0.index t a * S512x6144.size a + 1 * (y a).val
  rw [index0_eq t h0 h]

/-- The linear layer's block at point `t`. -/
def linBlk (c : Dev nD) (t : Fin cfg0.N) : Vec F S512x512 .f32 :=
  lin (k0_pay1 (iblk m c 0 t)) (iblk m c 1 t) (iblk m c 2 t) (iblk m c 3 t) (iblk m c 4 t)

/-- After every point the scratch holds the codes of the point's rows as floats. -/
theorem scratch_eq (c : Dev nD) : ∀ (n : ℕ) (hn : n < cfg0.N), (outsAt0 m c n hn).2.2.2.2.2 = k0_pay1 (iblk m c 0 ⟨n, hn⟩) := by
  intro n
  induction n with
  | zero =>
    intro hn
    rw [outsAt0_A m c ⟨0, hn⟩ (by rfl) (by show 0 % 7 ≤ 5; decide) (by show ¬0 % 7 = 6; decide), sout_A]
  | succ n ih =>
    intro hn
    by_cases h0 : (n + 1) % 7 = 0
    · rw [outsAt0_A m c ⟨n + 1, hn⟩ h0 (by rw [h0]; decide) (by rw [h0]; decide), sout_A]
    · have e : (iblk m c 0 ⟨n, Nat.lt_of_succ_lt hn⟩ : Vec F S512x6144 .i8) = iblk m c 0 ⟨n + 1, hn⟩ :=
        iblk0_pred m c ⟨n + 1, hn⟩ h0 (Nat.lt_of_succ_lt hn)
      by_cases h1 : (n + 1) % 7 ≤ 5
      · rw [outsAt0_B m c ⟨n + 1, hn⟩ h0 h1 (by show ¬(n + 1) % 7 = 6; omega)]
        unfold sout0_B_0
        simp only [Nat.add_sub_cancel]
        rw [ih (Nat.lt_of_succ_lt hn), e]
      · rw [outsAt0_C m c ⟨n + 1, hn⟩ h0 h1 (by show (n + 1) % 7 = 6; omega)]
        unfold sout0_C_0
        simp only [Nat.add_sub_cancel]
        rw [ih (Nat.lt_of_succ_lt hn), e]

/-- … so the scratch that a later point of the row finds holds its codes. -/
theorem scratch_pred (c : Dev nD) (t : Fin cfg0.N) (h0 : ¬t.val % 7 = 0) (h : t.val - 1 < cfg0.N) :
    (outsAt0 m c (t.val - 1) h).2.2.2.2.2 = k0_pay1 (iblk m c 0 t) := by
  rw [scratch_eq, iblk0_pred m c t h0 h]

/-- The queries' block after each of the first six points of a row of blocks. -/
theorem q_eq (c : Dev nD) (t : Fin cfg0.N) (h1 : t.val % 7 ≤ 5) :
    (outsAt0 m c t.val t.isLt).1 = qBlk (linBlk m c t) (iblk m c 5 t) (iblk m c 6 t) := by
  by_cases h0 : t.val % 7 = 0
  · rw [outsAt0_A m c t h0 h1 (by omega), out7_A]
    rfl
  · rw [outsAt0_B m c t h0 h1 (by omega), out7_B, scratch_pred m c t h0]
    rfl

/-- After the last point of a row of blocks the queries' block is still that of the point before. -/
theorem q_keep (c : Dev nD) (t : Fin cfg0.N) (h2 : t.val % 7 = 6) (h : t.val - 1 < cfg0.N) :
    (outsAt0 m c t.val t.isLt).1 = qBlk (linBlk m c ⟨t.val - 1, h⟩) (iblk m c 5 ⟨t.val - 1, h⟩) (iblk m c 6 ⟨t.val - 1, h⟩) := by
  rw [outsAt0_C m c t (by omega) (by omega) h2]
  unfold out0_C_7
  exact q_eq m c ⟨t.val - 1, h⟩ (by show (t.val - 1) % 7 ≤ 5; omega)

/-- After the last point of a row of blocks: the blocks of the keys' and values' codes and scales. -/
theorem kv_eq (c : Dev nD) (t : Fin cfg0.N) (h2 : t.val % 7 = 6) :
    (outsAt0 m c t.val t.isLt).2.1 = kcBlk (linBlk m c t) (iblk m c 5 t) (iblk m c 6 t)
    ∧ (outsAt0 m c t.val t.isLt).2.2.1 = ksBlk (linBlk m c t) (iblk m c 5 t) (iblk m c 6 t)
    ∧ (outsAt0 m c t.val t.isLt).2.2.2.1 = vcBlk (k0_pay1 (iblk m c 0 t)) (iblk m c 1 t) (iblk m c 2 t) (iblk m c 3 t) (iblk m c 4 t)
    ∧ (outsAt0 m c t.val t.isLt).2.2.2.2.1 = vsBlk (k0_pay1 (iblk m c 0 t)) (iblk m c 1 t) (iblk m c 2 t) (iblk m c 3 t) (iblk m c 4 t) := by
  rw [outsAt0_C m c t (by omega) (by omega) h2, out8_C, out9_C, out10_C, out11_C, scratch_pred m c t (by omega)]
  refine ⟨rfl, ?_, ?_, ?_⟩
  all_goals dsimp only [linBlk]

end Cert.V.Qkv

end
-- ==== Proof.V.QkvRead.lean ====
/-
  The blocks of the query, key and value projection at the ideal instance, read at an index.
-/
module

public import proofs.«01_k».proof.Proof.V.QkvSpec
public import proofs.«01_k».proof.Proof.V.QkvPieces

@[expose] public section

noncomputable section

namespace Cert.V.Qkv

open Idealize.ShloMosaic
open scoped BigOperators
open Cert.QkvIdeal Cert.QkvIdeal.Gen

/-- The linear layer's block at an index. -/
theorem lin_apply (x0 : Vec Ideal ⟨2, ![512, 6144]⟩ .i8) (x1 : Vec Ideal ⟨2, ![512, 128]⟩ .f32) (x2 : Vec Ideal ⟨2, ![6144, 512]⟩ .i8)
    (x3 x4 : Vec Ideal ⟨2, ![1, 512]⟩ .f32) (r : Fin 512) (c : Fin 512) :
    (lin (F := Ideal) (k0_pay1 x0) x1 x2 x3 x4 (ix2 r c) : EReal) = linM x0 x1 x2 x3 x4 r c := by
  pointwise [lin, k0_pay2, k0_pay1, col0, linM, linAt, dotAt]

section
variable (y : Vec Ideal ⟨2, ![512, 512]⟩ .f32) (x5 x6 : Vec Ideal ⟨2, ![512, 64]⟩ .f32)

/-- The head of a block's row that starts at column `o`. -/
def hd (o : ℕ) (ho : o + 128 ≤ 512) (r : Fin 512) : Fin 128 → EReal := headAt (fun r c => (y (ix2 r c) : EReal)) o ho r

/-- … turned by the row's angles. -/
def rot (o : ℕ) (ho : o + 128 ≤ 512) (r : Fin 512) : Fin 128 → EReal := rotAt (fun r c => (y (ix2 r c) : EReal)) x5 x6 o ho r

theorem pay8_apply (r : Fin 512) (d : Fin 128) : (k0_pay8 (F := Ideal) y x5 x6 (ix2 r d) : EReal) = rot y x5 x6 0 (by omega) r d := by
  pointwise [k0_pay8, rot, rotAt, rotOf, headAt]
  split
  · rfl
  · simp only [show 64 + (d.val - 64) = d.val by omega]

theorem pay9_apply (r : Fin 512) (d : Fin 128) : (k0_pay9 (F := Ideal) y x5 x6 (ix2 r d) : EReal) = rot y x5 x6 128 (by omega) r d := by
  pointwise [k0_pay9, rot, rotAt, rotOf, headAt]
  split
  · rfl
  · simp only [show 64 + (d.val - 64) = d.val by omega]

theorem pay10_apply (r : Fin 512) (d : Fin 128) : (k0_pay10 (F := Ideal) y x5 x6 (ix2 r d) : EReal) = rot y x5 x6 256 (by omega) r d := by
  pointwise [k0_pay10, rot, rotAt, rotOf, headAt]
  split
  · rfl
  · simp only [show 64 + (d.val - 64) = d.val by omega]

theorem pay11_apply (r : Fin 512) (d : Fin 128) : (k0_pay11 (F := Ideal) y x5 x6 (ix2 r d) : EReal) = rot y x5 x6 384 (by omega) r d := by
  pointwise [k0_pay11, rot, rotAt, rotOf, headAt]
  split
  · rfl
  · simp only [show 64 + (d.val - 64) = d.val by omega]

theorem pay12_apply (r : Fin 512) (d : Fin 128) : (k0_pay12 (F := Ideal) y x5 x6 (ix2 r d) : EReal) = rot y x5 x6 0 (by omega) r d := by
  pointwise [k0_pay12, rot, rotAt, rotOf, headAt]
  split
  · rfl
  · simp only [show 64 + (d.val - 64) = d.val by omega]

theorem pay21_apply (r : Fin 512) (d : Fin 128) : (k0_pay21 (F := Ideal) y x5 x6 (ix2 r d) : EReal) = rot y x5 x6 128 (by omega) r d := by
  pointwise [k0_pay21, rot, rotAt, rotOf, headAt]
  split
  · rfl
  · simp only [show 64 + (d.val - 64) = d.val by omega]

/-- A head's greatest magnitude times the 127th is the quotient of the scale. -/
theorem headScale_named (v : Fin 128 → EReal) :
    headScale v = if rowMax (fun d => absOf (v d)) = 0 then 1 else rowMax (fun d => absOf (v d)) * (Named.named (F := Ideal) (φ := .f32) Cert.QkvIdeal.κ "inv_127" 0x3C010204#32 : EReal) := by
  rw [IdealRules.named_const.ideal_named_scalar Cert.QkvIdeal.κ "inv_127" (φ := .f32) 0x3C010204#32 _ rfl, mul_inv_127]
  rfl

theorem pay13_apply (r : Fin 512) (l : Fin 1) : (k0_pay13 (F := Ideal) y x5 x6 (ix2 r l) : EReal)
    = headScale fun d => (k0_pay12 (F := Ideal) y x5 x6 (ix2 r d) : EReal) := by
  rw [headScale_named]
  pointwise [k0_pay13, rowMax, absOf]
  rfl

theorem pay22_apply (r : Fin 512) (l : Fin 1) : (k0_pay22 (F := Ideal) y x5 x6 (ix2 r l) : EReal)
    = headScale fun d => (k0_pay21 (F := Ideal) y x5 x6 (ix2 r d) : EReal) := by
  rw [headScale_named]
  pointwise [k0_pay22, rowMax, absOf]
  rfl

theorem pay17_apply (r : Fin 512) (l : Fin 1) : (k0_pay17 (F := Ideal) y (ix2 r l) : EReal)
    = headScale (hd y 256 (by omega) r) := by
  rw [headScale_named]
  pointwise [k0_pay17, k0_pay16, rowMax, absOf, hd, headAt]
  rfl

theorem pay14_apply (r : Fin 512) (d : Fin 128) : k0_pay14 (F := Ideal) y x5 x6 (ix2 r d)
    = codeOf (k0_pay12 (F := Ideal) y x5 x6 (ix2 r d)) (k0_pay13 (F := Ideal) y x5 x6 (ix2 r 0)) := by
  pointwise [k0_pay14, codeOf]

theorem pay23_apply (r : Fin 512) (d : Fin 128) : k0_pay23 (F := Ideal) y x5 x6 (ix2 r d)
    = codeOf (k0_pay21 (F := Ideal) y x5 x6 (ix2 r d)) (k0_pay22 (F := Ideal) y x5 x6 (ix2 r 0)) := by
  pointwise [k0_pay23, codeOf]

theorem pay15_apply (r : Fin 512) (d : Fin 128) : (k0_pay15 (F := Ideal) y x5 x6 (ix2 r d) : EReal)
    = k0_pay13 (F := Ideal) y x5 x6 (ix2 r 0) := by
  pointwise [k0_pay15]

theorem pay3_apply (s : FVec Ideal ⟨2, ![512, 1]⟩ .f32) (r : Fin 512) (d : Fin 128) : (k0_pay3 (F := Ideal) s (ix2 r d) : EReal) = s (ix2 r 0) := by
  pointwise [k0_pay3]

theorem pay20_apply (s : FVec Ideal ⟨2, ![512, 1]⟩ .f32) (r : Fin 512) (d : Fin 128) : (k0_pay20 (F := Ideal) s (ix2 r d) : EReal) = s (ix2 r 0) := by
  pointwise [k0_pay20]

theorem vc0_apply (r : Fin 512) (d : Fin 128) : k0_pay19 (F := Ideal) (k0_pay16 y) (k0_pay18 y) (ix2 r d)
    = codeOf (hd y 256 (by omega) r d) (k0_pay17 (F := Ideal) y (ix2 r 0)) := by
  pointwise [k0_pay19, k0_pay18, k0_pay16, codeOf, hd, headAt]
end

section
variable (xs : Vec Ideal ⟨2, ![512, 6144]⟩ .bf16) (x1 : Vec Ideal ⟨2, ![512, 1]⟩ .f32) (x2 : Vec Ideal ⟨2, ![6144, 512]⟩ .i8)
    (x3 x4 : Vec Ideal ⟨2, ![1, 512]⟩ .f32)

theorem pay5_apply (r : Fin 512) (l : Fin 1) : (k0_pay5 (F := Ideal) xs x2 x1 x3 x4 (ix2 r l) : EReal)
    = headScale (hd (k0_pay2 (F := Ideal) xs x2 x1 x3 x4) 384 (by omega) r) := by
  rw [headScale_named]
  unfold hd headAt
  pointwise [k0_pay5, k0_pay4, rowMax, absOf]
  rfl

theorem pay6_apply (r : Fin 512) (d : Fin 128) : k0_pay6 (F := Ideal) xs x2 x1 x3 x4 (ix2 r d)
    = codeOf (hd (k0_pay2 (F := Ideal) xs x2 x1 x3 x4) 384 (by omega) r d) (k0_pay5 (F := Ideal) xs x2 x1 x3 x4 (ix2 r 0)) := by
  unfold hd headAt
  pointwise [k0_pay6, k0_pay4, codeOf]

theorem pay7_apply (r : Fin 512) (d : Fin 128) : (k0_pay7 (F := Ideal) xs x2 x1 x3 x4 (ix2 r d) : EReal)
    = k0_pay5 (F := Ideal) xs x2 x1 x3 x4 (ix2 r 0) := by
  pointwise [k0_pay7]
end

end Cert.V.Qkv

end
-- ==== Proof.V.QkvBlocks.lean ====
/-
  The output blocks of the query, key and value projection at the ideal instance, read at an index: heads of 128 columns
  side by side.
-/
module

public import proofs.«01_k».proof.Proof.V.QkvRead

@[expose] public section

noncomputable section

namespace Cert.V.Qkv

open Idealize.ShloMosaic
open scoped BigOperators
open Cert.QkvIdeal Cert.QkvIdeal.Gen

/-- A block of two heads side by side, read at an index. -/
theorem two_heads {e : EltTy} (p0 p1 : Vec Ideal S512x128 e) (E : Fin 512 → Fin 256 → Elt Ideal e)
    (h0 : ∀ (r : Fin 512) (d : Fin 128), p0 (ix2 r d) = E r ⟨d.val, by omega⟩)
    (h1 : ∀ (r : Fin 512) (d : Fin 128), p1 (ix2 r d) = E r ⟨128 + d.val, by omega⟩) (r : Fin 512) (c : Fin 256) :
    View.canon (Val := Elt Ideal) [⟨Rect.unit (s := S512x256) ![0, 128] ![512, 128] inb_S512x256_S512x128_0_128, p1⟩,
      ⟨Rect.unit (s := S512x256) ![0, 0] ![512, 128] inb_S512x256_S512x128_0_0, p0⟩] (ix2 r c) = E r c := by
  refine View.canon_apply_of_pieces (fun y => E (y 0) (y 1)) _ ?_ (ix2 r c) ?_
  swap
  · exact View.cover_of_tiledL (s := S512x256) _ S512x128.size (by sl_kernel_rfl) _
  intro pc hpc x
  rcases List.mem_cons.mp hpc with rfl | hpc
  · have hx : (x : S512x128.Idx) = ix2 (x 0) (x 1) := eq_ix2 _
    refine (congrArg p1 hx).trans ((h1 _ _).trans (congrArg₂ E (Fin.ext ?_) (Fin.ext ?_)))
    · show (x 0).val = 0 + 1 * (x 0).val; omega
    · show 128 + (x 1).val = 128 + 1 * (x 1).val; omega
  rcases List.mem_cons.mp hpc with rfl | hpc
  · have hx : (x : S512x128.Idx) = ix2 (x 0) (x 1) := eq_ix2 _
    refine (congrArg p0 hx).trans ((h0 _ _).trans (congrArg₂ E (Fin.ext ?_) (Fin.ext ?_)))
    · show (x 0).val = 0 + 1 * (x 0).val; omega
    · show (x 1).val = 0 + 1 * (x 1).val; omega
  nomatch hpc

/-- A block of four heads side by side, read at an index. -/
theorem four_heads {e : EltTy} (p0 p1 p2 p3 : Vec Ideal S512x128 e) (E : Fin 512 → Fin 512 → Elt Ideal e)
    (h0 : ∀ (r : Fin 512) (d : Fin 128), p0 (ix2 r d) = E r ⟨d.val, by omega⟩)
    (h1 : ∀ (r : Fin 512) (d : Fin 128), p1 (ix2 r d) = E r ⟨128 + d.val, by omega⟩)
    (h2 : ∀ (r : Fin 512) (d : Fin 128), p2 (ix2 r d) = E r ⟨256 + d.val, by omega⟩)
    (h3 : ∀ (r : Fin 512) (d : Fin 128), p3 (ix2 r d) = E r ⟨384 + d.val, by omega⟩) (r c : Fin 512) :
    View.canon (Val := Elt Ideal) [⟨Rect.unit (s := S512x512) ![0, 384] ![512, 128] inb_S512x512_S512x128_0_384, p3⟩,
      ⟨Rect.unit (s := S512x512) ![0, 256] ![512, 128] inb_S512x512_S512x128_0_256, p2⟩,
      ⟨Rect.unit (s := S512x512) ![0, 128] ![512, 128] inb_S512x512_S512x128_0_128, p1⟩,
      ⟨Rect.unit (s := S512x512) ![0, 0] ![512, 128] inb_S512x512_S512x128_0_0, p0⟩] (ix2 r c) = E r c := by
  refine View.canon_apply_of_pieces (fun y => E (y 0) (y 1)) _ ?_ (ix2 r c) ?_
  swap
  · exact View.cover_of_tiledL (s := S512x512) _ S512x128.size (by sl_kernel_rfl) _
  intro pc hpc x
  rcases List.mem_cons.mp hpc with rfl | hpc
  · have hx : (x : S512x128.Idx) = ix2 (x 0) (x 1) := eq_ix2 _
    refine (congrArg p3 hx).trans ((h3 _ _).trans (congrArg₂ E (Fin.ext ?_) (Fin.ext ?_)))
    · show (x 0).val = 0 + 1 * (x 0).val; omega
    · show 384 + (x 1).val = 384 + 1 * (x 1).val; omega
  rcases List.mem_cons.mp hpc with rfl | hpc
  · have hx : (x : S512x128.Idx) = ix2 (x 0) (x 1) := eq_ix2 _
    refine (congrArg p2 hx).trans ((h2 _ _).trans (congrArg₂ E (Fin.ext ?_) (Fin.ext ?_)))
    · show (x 0).val = 0 + 1 * (x 0).val; omega
    · show 256 + (x 1).val = 256 + 1 * (x 1).val; omega
  rcases List.mem_cons.mp hpc with rfl | hpc
  · have hx : (x : S512x128.Idx) = ix2 (x 0) (x 1) := eq_ix2 _
    refine (congrArg p1 hx).trans ((h1 _ _).trans (congrArg₂ E (Fin.ext ?_) (Fin.ext ?_)))
    · show (x 0).val = 0 + 1 * (x 0).val; omega
    · show 128 + (x 1).val = 128 + 1 * (x 1).val; omega
  rcases List.mem_cons.mp hpc with rfl | hpc
  · have hx : (x : S512x128.Idx) = ix2 (x 0) (x 1) := eq_ix2 _
    refine (congrArg p0 hx).trans ((h0 _ _).trans (congrArg₂ E (Fin.ext ?_) (Fin.ext ?_)))
    · show (x 0).val = 0 + 1 * (x 0).val; omega
    · show (x 1).val = 0 + 1 * (x 1).val; omega
  nomatch hpc

section
variable (y : Vec Ideal ⟨2, ![512, 512]⟩ .f32) (x5 x6 : Vec Ideal ⟨2, ![512, 64]⟩ .f32)

/-- The turned head that column `c` lies in, of the heads from column `o` on. -/
theorem rot_of {o o' : ℕ} (h : o = o') (ho : o + 128 ≤ 512) (ho' : o' + 128 ≤ 512) (r : Fin 512) :
    rot y x5 x6 o ho r = rot y x5 x6 o' ho' r := by subst h; rfl

theorem hd_of {o o' : ℕ} (h : o = o') (ho : o + 128 ≤ 512) (ho' : o' + 128 ≤ 512) (r : Fin 512) :
    hd y o ho r = hd y o' ho' r := by subst h; rfl

/-- The queries' block at an index. -/
theorem qBlk_apply (r c : Fin 512) :
    (qBlk (F := Ideal) y x5 x6 (ix2 r c) : EReal) = rot y x5 x6 (c.val / 128 * 128) (by omega) r ⟨c.val % 128, by omega⟩ := by
  refine four_heads (e := .bf16) (k0_pay8 (F := Ideal) y x5 x6) (k0_pay9 (F := Ideal) y x5 x6) (k0_pay10 (F := Ideal) y x5 x6) (k0_pay11 (F := Ideal) y x5 x6)
    (fun r c => (rot y x5 x6 (c.val / 128 * 128) (by omega) r ⟨c.val % 128, by omega⟩ : EReal))
    (fun r d => (pay8_apply y x5 x6 r d).trans ?_) (fun r d => (pay9_apply y x5 x6 r d).trans ?_)
    (fun r d => (pay10_apply y x5 x6 r d).trans ?_) (fun r d => (pay11_apply y x5 x6 r d).trans ?_) r c
  · have hd : d.val < 128 := d.isLt
    exact (congrFun (rot_of y x5 x6 (by show 0 = d.val / 128 * 128; omega) _ _ r) d).trans
      (congrArg _ (Fin.ext (by show d.val = d.val % 128; omega)))
  · have hd : d.val < 128 := d.isLt
    exact (congrFun (rot_of y x5 x6 (by show 128 = (128 + d.val) / 128 * 128; omega) _ _ r) d).trans
      (congrArg _ (Fin.ext (by show d.val = (128 + d.val) % 128; omega)))
  · have hd : d.val < 128 := d.isLt
    exact (congrFun (rot_of y x5 x6 (by show 256 = (256 + d.val) / 128 * 128; omega) _ _ r) d).trans
      (congrArg _ (Fin.ext (by show d.val = (256 + d.val) % 128; omega)))
  · have hd : d.val < 128 := d.isLt
    exact (congrFun (rot_of y x5 x6 (by show 384 = (384 + d.val) / 128 * 128; omega) _ _ r) d).trans
      (congrArg _ (Fin.ext (by show d.val = (384 + d.val) % 128; omega)))

/-- The key head that column `c` lies in. -/
def kHead (r : Fin 512) (c : Fin 256) : Fin 128 → EReal := rot y x5 x6 (c.val / 128 * 128) (by omega) r

/-- The value head that column `c` lies in. -/
def vHead (r : Fin 512) (c : Fin 256) : Fin 128 → EReal := hd y (256 + c.val / 128 * 128) (by omega) r

theorem kHead0 (r : Fin 512) (d : Fin 128) : (fun k => (k0_pay12 (F := Ideal) y x5 x6 (ix2 r k) : EReal)) = kHead y x5 x6 r ⟨d.val, by omega⟩ :=
  funext fun k => (pay12_apply y x5 x6 r k).trans (congrFun (rot_of y x5 x6 (by show 0 = d.val / 128 * 128; omega) _ _ r) k)

theorem kHead1 (r : Fin 512) (d : Fin 128) : (fun k => (k0_pay21 (F := Ideal) y x5 x6 (ix2 r k) : EReal)) = kHead y x5 x6 r ⟨128 + d.val, by omega⟩ :=
  funext fun k => (pay21_apply y x5 x6 r k).trans (congrFun (rot_of y x5 x6 (by show 128 = (128 + d.val) / 128 * 128; omega) _ _ r) k)

theorem vHead0 (r : Fin 512) (d : Fin 128) : hd y 256 (by omega) r = vHead y r ⟨d.val, by omega⟩ :=
  hd_of y (by show 256 = 256 + d.val / 128 * 128; omega) _ _ r

theorem vHead1 (r : Fin 512) (d : Fin 128) : hd y 384 (by omega) r = vHead y r ⟨128 + d.val, by omega⟩ :=
  hd_of y (by show 384 = 256 + (128 + d.val) / 128 * 128; omega) _ _ r

theorem mod0 (d : Fin 128) : d = (⟨d.val % 128, by omega⟩ : Fin 128) := Fin.ext (by show d.val = d.val % 128; omega)

theorem mod1 (d : Fin 128) : d = (⟨(128 + d.val) % 128, by omega⟩ : Fin 128) := Fin.ext (by show d.val = (128 + d.val) % 128; omega)

/-- The block of the keys' codes at an index. -/
theorem kcBlk_apply (r : Fin 512) (c : Fin 256) :
    kcBlk (F := Ideal) y x5 x6 (ix2 r c) = codeOf (kHead y x5 x6 r c ⟨c.val % 128, by omega⟩) (headScale (kHead y x5 x6 r c)) := by
  refine two_heads (e := .i8) (k0_pay14 (F := Ideal) y x5 x6) (k0_pay23 (F := Ideal) y x5 x6)
    (fun r c => codeOf (kHead y x5 x6 r c ⟨c.val % 128, by omega⟩) (headScale (kHead y x5 x6 r c)))
    (fun r d => (pay14_apply y x5 x6 r d).trans ?_) (fun r d => (pay23_apply y x5 x6 r d).trans ?_) r c
  · refine congrArg₂ codeOf ((congrFun (kHead0 y x5 x6 r d) d).trans (congrArg _ (mod0 d))) ?_
    exact (pay13_apply y x5 x6 r 0).trans (congrArg headScale (kHead0 y x5 x6 r d))
  · refine congrArg₂ codeOf ((congrFun (kHead1 y x5 x6 r d) d).trans (congrArg _ (mod1 d))) ?_
    exact (pay22_apply y x5 x6 r 0).trans (congrArg headScale (kHead1 y x5 x6 r d))

/-- The block of the keys' scales at an index. -/
theorem ksBlk_apply (r : Fin 512) (c : Fin 256) :
    (ksBlk (F := Ideal) y x5 x6 (ix2 r c) : EReal) = headScale (kHead y x5 x6 r c) := by
  refine two_heads (e := .f32) (k0_pay15 (F := Ideal) y x5 x6) (k0_pay3 (F := Ideal) (k0_pay22 (F := Ideal) y x5 x6))
    (fun r c => (headScale (kHead y x5 x6 r c) : EReal))
    (fun r d => (pay15_apply y x5 x6 r d).trans ?_) (fun r d => (pay3_apply _ r d).trans ?_) r c
  · exact (pay13_apply y x5 x6 r 0).trans (congrArg headScale (kHead0 y x5 x6 r d))
  · exact (pay22_apply y x5 x6 r 0).trans (congrArg headScale (kHead1 y x5 x6 r d))
end

section
variable (xs : Vec Ideal ⟨2, ![512, 6144]⟩ .bf16) (x1 : Vec Ideal ⟨2, ![512, 128]⟩ .f32) (x2 : Vec Ideal ⟨2, ![6144, 512]⟩ .i8)
    (x3 x4 : Vec Ideal ⟨2, ![1, 512]⟩ .f32)

/-- The block of the values' codes at an index. -/
theorem vcBlk_apply (r : Fin 512) (c : Fin 256) :
    vcBlk (F := Ideal) xs x1 x2 x3 x4 (ix2 r c)
      = codeOf (vHead (lin (F := Ideal) xs x1 x2 x3 x4) r c ⟨c.val % 128, by omega⟩) (headScale (vHead (lin (F := Ideal) xs x1 x2 x3 x4) r c)) := by
  refine two_heads (e := .i8) (k0_pay19 (F := Ideal) (k0_pay16 (lin xs x1 x2 x3 x4)) (k0_pay18 (lin xs x1 x2 x3 x4))) (k0_pay6 (F := Ideal) xs x2 (col0 x1) x3 x4)
    (fun r c => codeOf (vHead (lin (F := Ideal) xs x1 x2 x3 x4) r c ⟨c.val % 128, by omega⟩) (headScale (vHead (lin (F := Ideal) xs x1 x2 x3 x4) r c)))
    (fun r d => (vc0_apply _ r d).trans ?_) (fun r d => (pay6_apply _ _ _ _ _ r d).trans ?_) r c
  · refine congrArg₂ codeOf ((congrFun (vHead0 _ r d) d).trans (congrArg _ (mod0 d))) ?_
    exact (pay17_apply _ r 0).trans (congrArg headScale (vHead0 _ r d))
  · refine congrArg₂ codeOf ((congrFun (vHead1 _ r d) d).trans (congrArg _ (mod1 d))) ?_
    exact (pay5_apply _ _ _ _ _ r 0).trans (congrArg headScale (vHead1 _ r d))

/-- The block of the values' scales at an index. -/
theorem vsBlk_apply (r : Fin 512) (c : Fin 256) :
    (vsBlk (F := Ideal) xs x1 x2 x3 x4 (ix2 r c) : EReal) = headScale (vHead (lin (F := Ideal) xs x1 x2 x3 x4) r c) := by
  refine two_heads (e := .f32) (k0_pay20 (F := Ideal) (k0_pay17 (lin xs x1 x2 x3 x4))) (k0_pay7 (F := Ideal) xs x2 (col0 x1) x3 x4)
    (fun r c => (headScale (vHead (lin (F := Ideal) xs x1 x2 x3 x4) r c) : EReal))
    (fun r d => (pay20_apply _ r d).trans ?_) (fun r d => (pay7_apply _ _ _ _ _ r d).trans ?_) r c
  · exact (pay17_apply _ r 0).trans (congrArg headScale (vHead0 _ r d))
  · exact (pay5_apply _ _ _ _ _ r 0).trans (congrArg headScale (vHead1 _ r d))
end

end Cert.V.Qkv

end
-- ==== Proof.V.QkvValue.lean ====
/-
  The result arrays of the query, key and value projection, whole: the blocks put together are functions of the argument
  arrays.
-/
module

public import Idealize.ShloMosaic.Lib.Pipeline.ValueKit
public import proofs.«01_k».proof.Proof.V.QkvBlocks

@[expose] public section

noncomputable section

namespace Cert.V.Qkv

open Idealize.ShloMosaic
open Cert.QkvIdeal Cert.QkvIdeal.Gen Cert.QkvIdeal.Value Idealize.ShloMosaic.TcCoe

variable (m : (ℓ : Loc nD τ sig) → Buf (Elt Ideal) ℓ)

/-- Where each input window's block sits at point `t`. -/
theorem index_facts : ∀ t : Fin cfg0.N,
    win0_0.index t = ![t.val / 7, 0]
    ∧ win0_1.index t = ![t.val / 7, 0]
    ∧ win0_2.index t = ![0, t.val % 7]
    ∧ win0_3.index t = ![0, t.val % 7]
    ∧ win0_4.index t = ![0, t.val % 7]
    ∧ win0_5.index t = ![t.val / 7, 0]
    ∧ win0_6.index t = ![t.val / 7, 0]
    ∧ win0_7.index t = ![t.val / 7, min (t.val % 7) 5]
    ∧ win0_8.index t = ![t.val / 7, 0]
    ∧ win0_9.index t = ![t.val / 7, 0]
    ∧ win0_10.index t = ![t.val / 7, 0]
    ∧ win0_11.index t = ![t.val / 7, 0] :=
  (by decide +kernel : ∀ t : Fin grid0.N,
    win0_0.index t = ![t.val / 7, 0]
    ∧ win0_1.index t = ![t.val / 7, 0]
    ∧ win0_2.index t = ![0, t.val % 7]
    ∧ win0_3.index t = ![0, t.val % 7]
    ∧ win0_4.index t = ![0, t.val % 7]
    ∧ win0_5.index t = ![t.val / 7, 0]
    ∧ win0_6.index t = ![t.val / 7, 0]
    ∧ win0_7.index t = ![t.val / 7, min (t.val % 7) 5]
    ∧ win0_8.index t = ![t.val / 7, 0]
    ∧ win0_9.index t = ![t.val / 7, 0]
    ∧ win0_10.index t = ![t.val / 7, 0]
    ∧ win0_11.index t = ![t.val / 7, 0])

/-- The queries' block is not written back at the last point that stores into it, but at the one after. -/
theorem flush7 : ∀ t : Fin cfg0.N, (cfg0.win 7).flush t = true → ¬t.val % 7 = 5 :=
  (by decide +kernel : ∀ t : Fin grid0.N, (cfg0.win 7).flush t = true → ¬t.val % 7 = 5)

theorem flush8 : ∀ t : Fin cfg0.N, (cfg0.win 8).flush t = true → t.val % 7 = 6 :=
  (by decide +kernel : ∀ t : Fin grid0.N, (cfg0.win 8).flush t = true → t.val % 7 = 6)

theorem flush9 : ∀ t : Fin cfg0.N, (cfg0.win 9).flush t = true → t.val % 7 = 6 :=
  (by decide +kernel : ∀ t : Fin grid0.N, (cfg0.win 9).flush t = true → t.val % 7 = 6)

theorem flush10 : ∀ t : Fin cfg0.N, (cfg0.win 10).flush t = true → t.val % 7 = 6 :=
  (by decide +kernel : ∀ t : Fin grid0.N, (cfg0.win 10).flush t = true → t.val % 7 = 6)

theorem flush11 : ∀ t : Fin cfg0.N, (cfg0.win 11).flush t = true → t.val % 7 = 6 :=
  (by decide +kernel : ∀ t : Fin grid0.N, (cfg0.win 11).flush t = true → t.val % 7 = 6)

/-- Input window 0's block, read at an index, is its argument array at the index shifted by the block's origin. -/
theorem iblk0 (c : Dev nD) (t : Fin cfg0.N) (y : S512x6144.Idx) (i : S2048x6144.Idx)
    (h : ∀ a : Fin 2, win0_0.index t a * S512x6144.size a + 1 * (y a).val = (i a).val) :
    (iblk m c 0 t : Vec Ideal S512x6144 .i8) y = (m ((c : Thread nD τ).loc main_arg0) : Vec Ideal S2048x6144 .i8) i :=
  congrArg (m ((c : Thread nD τ).loc main_arg0) : Vec Ideal S2048x6144 .i8) (funext fun a => Fin.ext (h a))

/-- Input window 1's block, read at an index, is its argument array at the index shifted by the block's origin. -/
theorem iblk1 (c : Dev nD) (t : Fin cfg0.N) (y : S512x128.Idx) (i : S2048x128.Idx)
    (h : ∀ a : Fin 2, win0_1.index t a * S512x128.size a + 1 * (y a).val = (i a).val) :
    (iblk m c 1 t : Vec Ideal S512x128 .f32) y = (m ((c : Thread nD τ).loc main_arg1) : Vec Ideal S2048x128 .f32) i :=
  congrArg (m ((c : Thread nD τ).loc main_arg1) : Vec Ideal S2048x128 .f32) (funext fun a => Fin.ext (h a))

/-- Input window 2's block, read at an index, is its argument array at the index shifted by the block's origin. -/
theorem iblk2 (c : Dev nD) (t : Fin cfg0.N) (y : S6144x512.Idx) (i : S6144x3584.Idx)
    (h : ∀ a : Fin 2, win0_2.index t a * S6144x512.size a + 1 * (y a).val = (i a).val) :
    (iblk m c 2 t : Vec Ideal S6144x512 .i8) y = (m ((c : Thread nD τ).loc main_arg2) : Vec Ideal S6144x3584 .i8) i :=
  congrArg (m ((c : Thread nD τ).loc main_arg2) : Vec Ideal S6144x3584 .i8) (funext fun a => Fin.ext (h a))

/-- Input window 3's block, read at an index, is its argument array at the index shifted by the block's origin. -/
theorem iblk3 (c : Dev nD) (t : Fin cfg0.N) (y : S1x512.Idx) (i : S1x3584.Idx)
    (h : ∀ a : Fin 2, win0_3.index t a * S1x512.size a + 1 * (y a).val = (i a).val) :
    (iblk m c 3 t : Vec Ideal S1x512 .f32) y = (m ((c : Thread nD τ).loc main_arg3) : Vec Ideal S1x3584 .f32) i :=
  congrArg (m ((c : Thread nD τ).loc main_arg3) : Vec Ideal S1x3584 .f32) (funext fun a => Fin.ext (h a))

/-- Input window 4's block, read at an index, is its argument array at the index shifted by the block's origin. -/
theorem iblk4 (c : Dev nD) (t : Fin cfg0.N) (y : S1x512.Idx) (i : S1x3584.Idx)
    (h : ∀ a : Fin 2, win0_4.index t a * S1x512.size a + 1 * (y a).val = (i a).val) :
    (iblk m c 4 t : Vec Ideal S1x512 .f32) y = (m ((c : Thread nD τ).loc main_arg4) : Vec Ideal S1x3584 .f32) i :=
  congrArg (m ((c : Thread nD τ).loc main_arg4) : Vec Ideal S1x3584 .f32) (funext fun a => Fin.ext (h a))

/-- Input window 5's block, read at an index, is its argument array at the index shifted by the block's origin. -/
theorem iblk5 (c : Dev nD) (t : Fin cfg0.N) (y : S512x64.Idx) (i : S2048x64.Idx)
    (h : ∀ a : Fin 2, win0_5.index t a * S512x64.size a + 1 * (y a).val = (i a).val) :
    (iblk m c 5 t : Vec Ideal S512x64 .f32) y = (m ((c : Thread nD τ).loc main_arg5) : Vec Ideal S2048x64 .f32) i :=
  congrArg (m ((c : Thread nD τ).loc main_arg5) : Vec Ideal S2048x64 .f32) (funext fun a => Fin.ext (h a))

/-- Input window 6's block, read at an index, is its argument array at the index shifted by the block's origin. -/
theorem iblk6 (c : Dev nD) (t : Fin cfg0.N) (y : S512x64.Idx) (i : S2048x64.Idx)
    (h : ∀ a : Fin 2, win0_6.index t a * S512x64.size a + 1 * (y a).val = (i a).val) :
    (iblk m c 6 t : Vec Ideal S512x64 .f32) y = (m ((c : Thread nD τ).loc main_arg6) : Vec Ideal S2048x64 .f32) i :=
  congrArg (m ((c : Thread nD τ).loc main_arg6) : Vec Ideal S2048x64 .f32) (funext fun a => Fin.ext (h a))

/-- The linear layer's block at a point is the whole array's, at the point's rows and columns. -/
theorem linBlk_apply (c : Dev nD) (t : Fin cfg0.N) (r : Fin 512) (k : Fin 512) (R : Fin 2048) (C : Fin 3584)
    (hR : R.val = t.val / 7 * 512 + r.val) (hC : C.val = t.val % 7 * 512 + k.val) :
    (linBlk m c t (ix2 r k) : EReal) = linM (m ((c : Thread nD τ).loc main_arg0)) (m ((c : Thread nD τ).loc main_arg1)) (m ((c : Thread nD τ).loc main_arg2)) (m ((c : Thread nD τ).loc main_arg3)) (m ((c : Thread nD τ).loc main_arg4)) R C := by
  obtain ⟨e0, e1, e2, e3, e4, -⟩ := index_facts t
  unfold linBlk
  refine (lin_apply _ _ _ _ _ _ _).trans ?_
  unfold linM
  refine linAt_congr (fun u => ?_) ?_ (fun u => ?_) ?_ ?_
  · refine iblk0 m c _ _ _ fun a => ?_
    rw [e0]
    fin_cases a
    · show t.val / 7 * 512 + 1 * r.val = R.val; omega
    · show 0 * 6144 + 1 * u.val = u.val; omega
  · refine iblk1 m c _ _ _ fun a => ?_
    rw [e1]
    fin_cases a
    · show t.val / 7 * 512 + 1 * r.val = R.val; omega
    · rfl
  · refine iblk2 m c _ _ _ fun a => ?_
    rw [e2]
    fin_cases a
    · show 0 * 6144 + 1 * u.val = u.val; omega
    · show t.val % 7 * 512 + 1 * k.val = C.val; omega
  · refine iblk3 m c _ _ _ fun a => ?_
    rw [e3]
    fin_cases a
    · rfl
    · show t.val % 7 * 512 + 1 * k.val = C.val; omega
  · refine iblk4 m c _ _ _ fun a => ?_
    rw [e4]
    fin_cases a
    · rfl
    · show t.val % 7 * 512 + 1 * k.val = C.val; omega

/-- A head of a point's block is the array's head at the point's rows and columns. -/
theorem hd_block (c : Dev nD) (t : Fin cfg0.N) (r : Fin 512) (R : Fin 2048) (o O : ℕ) (ho : o + 128 ≤ 512) (hO : O + 128 ≤ 3584)
    (hR : R.val = t.val / 7 * 512 + r.val) (hoO : O = t.val % 7 * 512 + o) :
    hd (linBlk m c t) o ho r = headAt (linM (m ((c : Thread nD τ).loc main_arg0)) (m ((c : Thread nD τ).loc main_arg1)) (m ((c : Thread nD τ).loc main_arg2)) (m ((c : Thread nD τ).loc main_arg3)) (m ((c : Thread nD τ).loc main_arg4))) O hO R := by
  unfold hd headAt
  funext d
  exact linBlk_apply m c t r _ R _ hR (by show O + d.val = t.val % 7 * 512 + (o + d.val); omega)

/-- … and so is a turned head. -/
theorem rot_block (c : Dev nD) (t : Fin cfg0.N) (r : Fin 512) (R : Fin 2048) (o O : ℕ) (ho : o + 128 ≤ 512) (hO : O + 128 ≤ 3584)
    (hR : R.val = t.val / 7 * 512 + r.val) (hoO : O = t.val % 7 * 512 + o) :
    rot (linBlk m c t) (iblk m c 5 t) (iblk m c 6 t) o ho r
      = rotAt (linM (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) O hO R := by
  obtain ⟨-, -, -, -, -, e5, e6, -⟩ := index_facts t
  have h5 : (fun d : Fin 64 => ((iblk m c 5 t : Vec Ideal S512x64 .f32) (ix2 r d) : EReal))
      = fun d => ((m ((c : Thread nD τ).loc main_arg5) : Vec Ideal S2048x64 .f32) (ix2 R d) : EReal) := funext fun d => by
    refine iblk5 m c _ _ _ fun a => ?_
    rw [e5]
    fin_cases a
    · show t.val / 7 * 512 + 1 * r.val = R.val; omega
    · show 0 * 64 + 1 * d.val = d.val; omega
  have h6 : (fun d : Fin 64 => ((iblk m c 6 t : Vec Ideal S512x64 .f32) (ix2 r d) : EReal))
      = fun d => ((m ((c : Thread nD τ).loc main_arg6) : Vec Ideal S2048x64 .f32) (ix2 R d) : EReal) := funext fun d => by
    refine iblk6 m c _ _ _ fun a => ?_
    rw [e6]
    fin_cases a
    · show t.val / 7 * 512 + 1 * r.val = R.val; omega
    · show 0 * 64 + 1 * d.val = d.val; omega
  unfold rot rotAt
  rw [h5, h6]
  exact congrArg (fun v => rotOf v _ _) (hd_block m c t r R o O ho hO hR hoO)

/-- The key head of a column of the last point's block. -/
theorem kHead_block (c : Dev nD) (t : Fin cfg0.N) (h6 : t.val % 7 = 6) (r : Fin 512) (k : Fin 256) (R : Fin 2048) (hR : R.val = t.val / 7 * 512 + r.val) :
    kHead (linBlk m c t) (iblk m c 5 t) (iblk m c 6 t) r k = keyAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R k :=
  rot_block m c t r R _ _ _ _ hR (by show 3072 + k.val / 128 * 128 = t.val % 7 * 512 + k.val / 128 * 128; omega)

/-- The value head of a column of the last point's block. -/
theorem vHead_block (c : Dev nD) (t : Fin cfg0.N) (h6 : t.val % 7 = 6) (r : Fin 512) (k : Fin 256) (R : Fin 2048) (hR : R.val = t.val / 7 * 512 + r.val) :
    vHead (linBlk m c t) r k = valAt (m ((c : Thread nD τ).loc main_arg0)) (m ((c : Thread nD τ).loc main_arg1)) (m ((c : Thread nD τ).loc main_arg2)) (m ((c : Thread nD τ).loc main_arg3)) (m ((c : Thread nD τ).loc main_arg4)) R k :=
  hd_block m c t r R _ _ _ _ hR (by rw [h6]; show 3328 + k.val / 128 * 128 = 6 * 512 + (256 + k.val / 128 * 128); omega)

/-- An entry of the queries' block that point `t` finds or makes. -/
theorem q_apply (c : Dev nD) (t : Fin cfg0.N) (h5 : t.val % 7 ≤ 5) (r k : Fin 512) (R : Fin 2048) (C : Fin 3072)
    (hR : R.val = t.val / 7 * 512 + r.val) (hC : C.val = t.val % 7 * 512 + k.val) :
    (qBlk (linBlk m c t) (iblk m c 5 t) (iblk m c 6 t) (ix2 r k) : EReal) = spec0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R C) := by
  have hk : k.val < 512 := k.isLt
  refine (qBlk_apply _ _ _ r k).trans ?_
  refine (congrFun (rot_block m c t r R (k.val / 128 * 128) (C.val / 128 * 128) (by omega) (by omega) hR (by omega)) _).trans ?_
  exact congrArg (rotAt _ _ _ _ _ _) (Fin.ext (by show k.val % 128 = C.val % 128; omega))

/-- The kernel's queries are `spec0` of its argument arrays. -/
theorem final7 (c : Dev nD) : (dats m 0 c).arrAt 7 cfg0.N = spec0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have h5 := flush7 t hf
  have hI := (index_facts t).2.2.2.2.2.2.2.1
  have h7 : t.val % 7 < 7 := Nat.mod_lt _ (by decide)
  blk_simp
  rw [after0_7]
  have hy : (y : S512x512.Idx) = ix2 (y 0) (y 1) := eq_ix2 _
  have hi : (((cfg0.win 7).blk t).view.emb y : S2048x3072.Idx) = ix2 (((cfg0.win 7).blk t).view.emb y 0) (((cfg0.win 7).blk t).view.emb y 1) := eq_ix2 _
  have e0 : (((cfg0.win 7).blk t).view.emb y 0).val = t.val / 7 * 512 + (y 0).val := by
    show win0_7.index t 0 * 512 + 1 * (y 0).val = _
    rw [hI]
    show t.val / 7 * 512 + 1 * (y 0).val = _
    omega
  have e1 : (((cfg0.win 7).blk t).view.emb y 1).val = min (t.val % 7) 5 * 512 + (y 1).val := by
    show win0_7.index t 1 * 512 + 1 * (y 1).val = _
    rw [hI]
    show min (t.val % 7) 5 * 512 + 1 * (y 1).val = _
    omega
  by_cases h6 : t.val % 7 = 6
  · have hlt : t.val - 1 < cfg0.N := lt_of_le_of_lt (Nat.sub_le _ _) t.isLt
    rw [q_keep m c t h6 hlt]
    refine (congrArg (qBlk (linBlk m c ⟨t.val - 1, hlt⟩) _ _) hy).trans ?_
    refine (q_apply m c ⟨t.val - 1, hlt⟩ (by show (t.val - 1) % 7 ≤ 5; omega) (y 0) (y 1) (((cfg0.win 7).blk t).view.emb y 0) (((cfg0.win 7).blk t).view.emb y 1)
      (by rw [e0]; show _ = (t.val - 1) / 7 * 512 + _; omega) (by rw [e1]; show _ = (t.val - 1) % 7 * 512 + _; omega)).trans ?_
    exact congrArg (spec0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) hi.symm
  · rw [q_eq m c t (by omega)]
    refine (congrArg (qBlk (linBlk m c t) _ _) hy).trans ?_
    refine (q_apply m c t (by omega) (y 0) (y 1) (((cfg0.win 7).blk t).view.emb y 0) (((cfg0.win 7).blk t).view.emb y 1)
      e0 (by rw [e1]; omega)).trans ?_
    exact congrArg (spec0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) hi.symm

/-- The kernel's array of the keys' codes is `spec1` of its argument arrays. -/
theorem final8 (c : Dev nD) : (dats m 0 c).arrAt 8 cfg0.N = spec1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have h6 := flush8 t hf
  have hI := (index_facts t).2.2.2.2.2.2.2.2.1
  blk_simp
  rw [after0_8, (kv_eq m c t h6).1]
  have hy : (y : S512x256.Idx) = ix2 (y 0) (y 1) := eq_ix2 _
  have e0 : (((cfg0.win 8).blk t).view.emb y 0).val = t.val / 7 * 512 + (y 0).val := by
    show win0_8.index t 0 * 512 + 1 * (y 0).val = _
    rw [hI]
    show t.val / 7 * 512 + 1 * (y 0).val = _
    omega
  have e1 : (((cfg0.win 8).blk t).view.emb y 1).val = (y 1).val := by
    show win0_8.index t 1 * 256 + 1 * (y 1).val = _
    rw [hI]
    show 0 * 256 + 1 * (y 1).val = _
    omega
  have e1' : (y 1 : Fin 256) = (((cfg0.win 8).blk t).view.emb y 1 : Fin 256) := Fin.ext e1.symm
  have hH := (kHead_block m c t h6 (y 0) (y 1) (((cfg0.win 8).blk t).view.emb y 0) e0).trans
    (congrArg (keyAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y 0)) e1')
  refine (congrArg (kcBlk (linBlk m c t) (iblk m c 5 t) (iblk m c 6 t)) hy).trans ((kcBlk_apply _ _ _ _ _).trans ?_)
  exact congrArg₂ codeOf ((congrFun hH _).trans (congrArg _ (Fin.ext (by show (y 1).val % 128 = (((cfg0.win 8).blk t).view.emb y 1).val % 128; rw [e1])))) (congrArg headScale hH)

/-- The kernel's array of the keys' scales is `spec2` of its argument arrays. -/
theorem final9 (c : Dev nD) : (dats m 0 c).arrAt 9 cfg0.N = spec2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have h6 := flush9 t hf
  have hI := (index_facts t).2.2.2.2.2.2.2.2.2.1
  blk_simp
  rw [after0_9, (kv_eq m c t h6).2.1]
  have hy : (y : S512x256.Idx) = ix2 (y 0) (y 1) := eq_ix2 _
  have e0 : (((cfg0.win 9).blk t).view.emb y 0).val = t.val / 7 * 512 + (y 0).val := by
    show win0_9.index t 0 * 512 + 1 * (y 0).val = _
    rw [hI]
    show t.val / 7 * 512 + 1 * (y 0).val = _
    omega
  have e1 : (((cfg0.win 9).blk t).view.emb y 1).val = (y 1).val := by
    show win0_9.index t 1 * 256 + 1 * (y 1).val = _
    rw [hI]
    show 0 * 256 + 1 * (y 1).val = _
    omega
  have e1' : (y 1 : Fin 256) = (((cfg0.win 9).blk t).view.emb y 1 : Fin 256) := Fin.ext e1.symm
  have hH := (kHead_block m c t h6 (y 0) (y 1) (((cfg0.win 9).blk t).view.emb y 0) e0).trans
    (congrArg (keyAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y 0)) e1')
  refine (congrArg (ksBlk (linBlk m c t) (iblk m c 5 t) (iblk m c 6 t)) hy).trans ((ksBlk_apply _ _ _ _ _).trans ?_)
  exact congrArg headScale hH

/-- The kernel's array of the values' codes is `spec3` of its argument arrays. -/
theorem final10 (c : Dev nD) : (dats m 0 c).arrAt 10 cfg0.N = spec3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have h6 := flush10 t hf
  have hI := (index_facts t).2.2.2.2.2.2.2.2.2.2.1
  blk_simp
  rw [after0_10, (kv_eq m c t h6).2.2.1]
  have hy : (y : S512x256.Idx) = ix2 (y 0) (y 1) := eq_ix2 _
  have e0 : (((cfg0.win 10).blk t).view.emb y 0).val = t.val / 7 * 512 + (y 0).val := by
    show win0_10.index t 0 * 512 + 1 * (y 0).val = _
    rw [hI]
    show t.val / 7 * 512 + 1 * (y 0).val = _
    omega
  have e1 : (((cfg0.win 10).blk t).view.emb y 1).val = (y 1).val := by
    show win0_10.index t 1 * 256 + 1 * (y 1).val = _
    rw [hI]
    show 0 * 256 + 1 * (y 1).val = _
    omega
  have e1' : (y 1 : Fin 256) = (((cfg0.win 10).blk t).view.emb y 1 : Fin 256) := Fin.ext e1.symm
  have hH := (vHead_block m c t h6 (y 0) (y 1) (((cfg0.win 10).blk t).view.emb y 0) e0).trans
    (congrArg (valAt (m ((c : Thread nD τ).loc main_arg0)) (m ((c : Thread nD τ).loc main_arg1)) (m ((c : Thread nD τ).loc main_arg2)) (m ((c : Thread nD τ).loc main_arg3)) (m ((c : Thread nD τ).loc main_arg4)) (((cfg0.win 10).blk t).view.emb y 0)) e1')
  refine (congrArg (vcBlk (k0_pay1 (iblk m c 0 t)) (iblk m c 1 t) (iblk m c 2 t) (iblk m c 3 t) (iblk m c 4 t)) hy).trans ((vcBlk_apply _ _ _ _ _ _ _).trans ?_)
  exact congrArg₂ codeOf ((congrFun hH _).trans (congrArg _ (Fin.ext (by show (y 1).val % 128 = (((cfg0.win 10).blk t).view.emb y 1).val % 128; rw [e1])))) (congrArg headScale hH)

/-- The kernel's array of the values' scales is `spec4` of its argument arrays. -/
theorem final11 (c : Dev nD) : (dats m 0 c).arrAt 11 cfg0.N = spec4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have h6 := flush11 t hf
  have hI := (index_facts t).2.2.2.2.2.2.2.2.2.2.2
  blk_simp
  rw [after0_11, (kv_eq m c t h6).2.2.2]
  have hy : (y : S512x256.Idx) = ix2 (y 0) (y 1) := eq_ix2 _
  have e0 : (((cfg0.win 11).blk t).view.emb y 0).val = t.val / 7 * 512 + (y 0).val := by
    show win0_11.index t 0 * 512 + 1 * (y 0).val = _
    rw [hI]
    show t.val / 7 * 512 + 1 * (y 0).val = _
    omega
  have e1 : (((cfg0.win 11).blk t).view.emb y 1).val = (y 1).val := by
    show win0_11.index t 1 * 256 + 1 * (y 1).val = _
    rw [hI]
    show 0 * 256 + 1 * (y 1).val = _
    omega
  have e1' : (y 1 : Fin 256) = (((cfg0.win 11).blk t).view.emb y 1 : Fin 256) := Fin.ext e1.symm
  have hH := (vHead_block m c t h6 (y 0) (y 1) (((cfg0.win 11).blk t).view.emb y 0) e0).trans
    (congrArg (valAt (m ((c : Thread nD τ).loc main_arg0)) (m ((c : Thread nD τ).loc main_arg1)) (m ((c : Thread nD τ).loc main_arg2)) (m ((c : Thread nD τ).loc main_arg3)) (m ((c : Thread nD τ).loc main_arg4)) (((cfg0.win 11).blk t).view.emb y 0)) e1')
  refine (congrArg (vsBlk (k0_pay1 (iblk m c 0 t)) (iblk m c 1 t) (iblk m c 2 t) (iblk m c 3 t) (iblk m c 4 t)) hy).trans ((vsBlk_apply _ _ _ _ _ _ _).trans ?_)
  exact congrArg headScale hH

end Cert.V.Qkv

end
-- ==== Proof.V.QkvRefQuant.lean ====
/-
  The reference's quantiser of the keys and values, at an index, from its heads.
-/
module

public import proofs.«01_k».proof.Proof.V.QkvSpec
public import proofs.«01_k».proof.Proof.Gen.QkvRefIdeal.Value

@[expose] public section

noncomputable section

namespace Cert.V.Qkv

open Idealize.ShloMosaic
open scoped BigOperators

open Cert.QkvRefIdeal Cert.QkvRefIdeal.Gen Cert.QkvRefIdeal.Value

/-- The reference's codes of the keys, from its turned heads. -/
theorem ref_kc (v15 v17 : FVec Ideal S2048x1x64 .f32) (v38 v39 v41 : FVec Ideal S2048x2x64 .f32) (r : Fin 2048) (j : Fin 256) :
    k0_pay14 (F := Ideal) v15 v17 v38 v39 v41 (ix2 r j)
      = codeOf (k0_pay12 (F := Ideal) v15 v17 v38 v39 v41 (ix3 r ⟨j.val / 128, by omega⟩ ⟨j.val % 128, by omega⟩))
        (headScale fun d => (k0_pay12 (F := Ideal) v15 v17 v38 v39 v41 (ix3 r ⟨j.val / 128, by omega⟩ d) : EReal)) := by
  pointwise [k0_pay14, k0_pay13, headScale, codeOf, scaleOf, rowMax, absOf]
  rfl

/-- … its scales. -/
theorem ref_ks (v15 v17 : FVec Ideal S2048x1x64 .f32) (v38 v39 v41 : FVec Ideal S2048x2x64 .f32) (r : Fin 2048) (j : Fin 256) :
    (k0_pay15 (F := Ideal) v15 v17 v38 v39 v41 (ix2 r j) : EReal)
      = headScale fun d => (k0_pay12 (F := Ideal) v15 v17 v38 v39 v41 (ix3 r ⟨j.val / 128, by omega⟩ d) : EReal) := by
  pointwise [k0_pay15, k0_pay13, headScale, codeOf, scaleOf, rowMax, absOf]
  rfl

/-- The reference's codes of the values, from its heads. -/
theorem ref_vc (y : FVec Ideal S2048x3584 .f32) (r : Fin 2048) (j : Fin 256) :
    k0_pay2 (F := Ideal) (k0_pay16 y) (k0_pay18 y) (k0_pay19 y) k0_pay20 (ix2 r j)
      = codeOf (k0_pay16 (F := Ideal) y (ix3 r ⟨j.val / 128, by omega⟩ ⟨j.val % 128, by omega⟩))
        (headScale fun d => (k0_pay16 (F := Ideal) y (ix3 r ⟨j.val / 128, by omega⟩ d) : EReal)) := by
  pointwise [k0_pay2, k0_pay1, k0_pay17, k0_pay18, k0_pay19, k0_pay20, headScale, codeOf, scaleOf, rowMax, absOf]
  rfl

/-- … and its scales. -/
theorem ref_vs (y : FVec Ideal S2048x3584 .f32) (r : Fin 2048) (j : Fin 256) :
    (k0_pay3 (F := Ideal) (k0_pay18 y) (k0_pay19 y) k0_pay20 (ix2 r j) : EReal)
      = headScale fun d => (k0_pay16 (F := Ideal) y (ix3 r ⟨j.val / 128, by omega⟩ d) : EReal) := by
  pointwise [k0_pay3, k0_pay1, k0_pay17, k0_pay18, k0_pay19, k0_pay20, headScale, codeOf, scaleOf, rowMax, absOf]
  rfl

end Cert.V.Qkv

end
-- ==== Proof.V.QkvRef.lean ====
/-
  What the reference computes of the query, key and value projection, at an index.
-/
module

public import proofs.«01_k».proof.Proof.V.QkvSpec
public import proofs.«01_k».proof.Proof.V.QkvRefQuant
public import proofs.«01_k».proof.Proof.Gen.QkvRefIdeal.Value

@[expose] public section

noncomputable section

namespace Cert.V.Qkv

open Idealize.ShloMosaic
open scoped BigOperators

section
variable (x0 : Vec Ideal ⟨2, ![2048, 6144]⟩ .i8) (x1 : Vec Ideal ⟨2, ![2048, 128]⟩ .f32) (x2 : Vec Ideal ⟨2, ![6144, 3584]⟩ .i8)
  (x3 x4 : Vec Ideal ⟨2, ![1, 3584]⟩ .f32) (x5 x6 : Vec Ideal ⟨2, ![2048, 64]⟩ .f32)

open Cert.QkvRefIdeal Cert.QkvRefIdeal.Gen Cert.QkvRefIdeal.Value

/-- The reference's linear layer at an index. -/
theorem ref_lin (r : Fin 2048) (c : Fin 3584) :
    (k0_pay4 (F := Ideal) x0 (View.ld x1 r0_1) x2 x3 x4 (ix2 r c) : EReal) = linM x0 x1 x2 x3 x4 r c := by
  pointwise [k0_pay4, linM, linAt, dotAt]

/-- … as an equation of functions. -/
theorem ref_linM : linM x0 x1 x2 x3 x4 = fun r c => (k0_pay4 (F := Ideal) x0 (View.ld x1 r0_1) x2 x3 x4 (ix2 r c) : EReal) :=
  funext fun r => funext fun c => (ref_lin x0 x1 x2 x3 x4 r c).symm

/-- What the reference computes of the queries. -/
theorem ref_eq0 : G7 (F := Ideal) x0 x1 x2 x3 x4 x5 x6 = spec0 x0 x1 x2 x3 x4 x5 x6 := by
  funext i
  idx_vars i
  unfold G7 k0_pay7 spec0 rotAt rotOf headAt
  rw [ref_linM]
  generalize k0_pay4 (F := Ideal) x0 (View.ld x1 r0_1) x2 x3 x4 = y
  pointwise [k0_pay5, k0_pay6]
  split
  · rw [show (⟨i1.val / 128 * 128 + i1.val % 128, by omega⟩ : Fin 3584) = ⟨i1.val, by omega⟩ from Fin.ext (by show i1.val / 128 * 128 + i1.val % 128 = i1.val; omega)]
  · rw [show (⟨i1.val / 128 * 128 + (64 + (i1.val % 128 - 64)), by omega⟩ : Fin 3584) = ⟨i1.val / 128 * 128 + i1.val % 128, by omega⟩ from Fin.ext (by show i1.val / 128 * 128 + (64 + (i1.val % 128 - 64)) = i1.val / 128 * 128 + i1.val % 128; omega)]

theorem hz0 : (![0, 0] : Fin 2 → Nat) = fun _ => 0 := funext fun a => by fin_cases a <;> rfl

/-- The reference's key heads, turned. -/
abbrev refKey : FVec Ideal S2048x2x128 .f32 :=
  k0_pay12 (F := Ideal) (k0_pay22 x0 x1 x2 x3 x4 x5 x6) (k0_pay23 x0 x1 x2 x3 x4 x5 x6) (k0_pay24 x0 x1 x2 x3 x4 x5 x6)
    (k0_pay25 x0 x1 x2 x3 x4 x5 x6) (k0_pay26 x0 x1 x2 x3 x4 x5 x6)

/-- The reference's value heads. -/
abbrev refVal : FVec Ideal S2048x2x128 .f32 := k0_pay16 (F := Ideal) (k0_pay21 x0 x1 x2 x3 x4 x5 x6)

theorem refKey_apply (r : Fin 2048) (h : Fin 2) (d : Fin 128) :
    (refKey x0 x1 x2 x3 x4 x5 x6 (ix3 r h d) : EReal)
      = rotAt (linM x0 x1 x2 x3 x4) x5 x6 (3072 + h.val * 128) (by omega) r d := by
  unfold refKey k0_pay12 k0_pay22 k0_pay23 k0_pay24 k0_pay25 k0_pay26 k0_pay11 k0_pay10 k0_pay9 k0_pay8 rotAt rotOf headAt
  rw [ref_linM, View.ld_unit_zero (S := S2048x6144) hz0, View.ld_unit_zero (S := S6144x3584) hz0, View.ld_unit_zero (S := S1x3584) hz0 _ x3,
    View.ld_unit_zero (S := S1x3584) hz0 _ x4, View.ld_unit_zero (S := S2048x64) hz0 _ x5, View.ld_unit_zero (S := S2048x64) hz0 _ x6]
  generalize k0_pay4 (F := Ideal) x0 (View.ld x1 r0_1) x2 x3 x4 = y
  pointwise [k0_pay5, k0_pay6]
  simp only [Nat.add_assoc]
  split
  · rfl
  · simp only [show 64 + (d.val - 64) = d.val by omega]

theorem refVal_apply (r : Fin 2048) (h : Fin 2) (d : Fin 128) :
    (refVal x0 x1 x2 x3 x4 x5 x6 (ix3 r h d) : EReal)
      = headAt (linM x0 x1 x2 x3 x4) (3328 + h.val * 128) (by omega) r d := by
  unfold refVal k0_pay16 k0_pay21 headAt
  rw [ref_linM, View.ld_unit_zero (S := S2048x6144) hz0, View.ld_unit_zero (S := S6144x3584) hz0, View.ld_unit_zero (S := S1x3584) hz0 _ x3,
    View.ld_unit_zero (S := S1x3584) hz0 _ x4]
  generalize k0_pay4 (F := Ideal) x0 (View.ld x1 r0_1) x2 x3 x4 = y
  pointwise []
  simp only [Nat.add_assoc]

theorem keyAt_eq (r : Fin 2048) (j : Fin 256) :
    keyAt x0 x1 x2 x3 x4 x5 x6 r j = fun d => (refKey x0 x1 x2 x3 x4 x5 x6 (ix3 r ⟨j.val / 128, by omega⟩ d) : EReal) :=
  funext fun d => (refKey_apply x0 x1 x2 x3 x4 x5 x6 r ⟨j.val / 128, by omega⟩ d).symm

theorem valAt_eq (r : Fin 2048) (j : Fin 256) :
    valAt x0 x1 x2 x3 x4 r j = fun d => (refVal x0 x1 x2 x3 x4 x5 x6 (ix3 r ⟨j.val / 128, by omega⟩ d) : EReal) :=
  funext fun d => (refVal_apply x0 x1 x2 x3 x4 x5 x6 r ⟨j.val / 128, by omega⟩ d).symm

/-- What the reference computes of the keys' codes. -/
theorem ref_eq1 : G8 (F := Ideal) x0 x1 x2 x3 x4 x5 x6 = spec1 x0 x1 x2 x3 x4 x5 x6 := by
  funext i
  idx_vars i
  refine (ref_kc _ _ _ _ _ _ _).trans ?_
  show codeOf (refKey x0 x1 x2 x3 x4 x5 x6 _) _ = codeOf (keyAt x0 x1 x2 x3 x4 x5 x6 i0 i1 _) (headScale (keyAt x0 x1 x2 x3 x4 x5 x6 i0 i1))
  rw [keyAt_eq]
  rfl

/-- What the reference computes of the keys' scales. -/
theorem ref_eq2 : G9 (F := Ideal) x0 x1 x2 x3 x4 x5 x6 = spec2 x0 x1 x2 x3 x4 x5 x6 := by
  funext i
  idx_vars i
  refine (ref_ks _ _ _ _ _ _ _).trans ?_
  show _ = headScale (keyAt x0 x1 x2 x3 x4 x5 x6 i0 i1)
  rw [keyAt_eq]

/-- What the reference computes of the values' codes. -/
theorem ref_eq3 : G10 (F := Ideal) x0 x1 x2 x3 x4 x5 x6 = spec3 x0 x1 x2 x3 x4 x5 x6 := by
  funext i
  idx_vars i
  refine (ref_vc (k0_pay21 x0 x1 x2 x3 x4 x5 x6) _ _).trans ?_
  show codeOf (refVal x0 x1 x2 x3 x4 x5 x6 _) _ = codeOf (valAt x0 x1 x2 x3 x4 i0 i1 _) (headScale (valAt x0 x1 x2 x3 x4 i0 i1))
  rw [valAt_eq x0 x1 x2 x3 x4 x5 x6]
  rfl

/-- What the reference computes of the values' scales. -/
theorem ref_eq4 : G11 (F := Ideal) x0 x1 x2 x3 x4 x5 x6 = spec4 x0 x1 x2 x3 x4 x5 x6 := by
  funext i
  idx_vars i
  refine (ref_vs (k0_pay21 x0 x1 x2 x3 x4 x5 x6) _ _).trans ?_
  show _ = headScale (valAt x0 x1 x2 x3 x4 i0 i1)
  rw [valAt_eq x0 x1 x2 x3 x4 x5 x6]
end

end Cert.V.Qkv

end
-- ==== Proof.V.QkvClaim.lean ====
/-
  The query, key and value projection: the kernel and the reference, run at the ideal instance on equal arguments, end with equal results.
-/
module

public import proofs.«01_k».proof.Defs
public import proofs.«01_k».proof.Proof.V.QkvValue
public import proofs.«01_k».proof.Proof.V.QkvRef

@[expose] public section

noncomputable section

namespace Cert.V.Qkv

open Idealize.ShloMosaic Idealize.ShloMosaic.TcCoe Idealize.SL.Sem

/-- The query, key and value projection: both programs leave the same arrays, for all arguments. -/
theorem algebraic : Cert.algebraic_QkvIdeal_QkvRefIdeal (hQkvIdeal := Cert.QkvIdeal.Gen.facts) (hQkvRefIdeal := Cert.QkvRefIdeal.Gen.facts) := by
  intro m g m' g' _ hagree
  refine ⟨fun c => spec0 (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)), fun c => spec1 (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)), fun c => spec2 (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)), fun c => spec3 (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)), fun c => spec4 (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)), ?_, ?_⟩
  · refine (θ_run _ _ _).mono (fun r h c => ?_) (Cert.QkvIdeal.Value.run_blocks (F := Ideal) m g)
    obtain ⟨h0, h1, h2, h3, h4, hrest⟩ := h c
    exact ⟨h0.trans (final7 m c), h1.trans (final8 m c), h2.trans (final9 m c), h3.trans (final10 m c), h4.trans (final11 m c), hrest⟩
  · refine (θ_run _ _ _).mono (fun r h c => ?_) (Cert.QkvRefIdeal.Value.run (F := Ideal) m' g')
    obtain ⟨h0, h1, h2, h3, h4, hrest⟩ := h c
    obtain ⟨a0, a1, a2, a3, a4, a5, a6⟩ := hagree c
    refine ⟨?_, ?_, ?_, ?_, ?_, hrest⟩
    · rw [h0, a0, a1, a2, a3, a4, a5, a6]
      exact ref_eq0 _ _ _ _ _ _ _
    · rw [h1, a0, a1, a2, a3, a4, a5, a6]
      exact ref_eq1 _ _ _ _ _ _ _
    · rw [h2, a0, a1, a2, a3, a4, a5, a6]
      exact ref_eq2 _ _ _ _ _ _ _
    · rw [h3, a0, a1, a2, a3, a4, a5, a6]
      exact ref_eq3 _ _ _ _ _ _ _
    · rw [h4, a0, a1, a2, a3, a4, a5, a6]
      exact ref_eq4 _ _ _ _ _ _ _

end Cert.V.Qkv

end
-- ==== Proof.V.OprojRuns.lean ====
/-
  What the frame of this call shares among its runs: the windows' blocks, the conditions of the branches in closed form,
  and the memrefs the body is called with.
-/
module

public import proofs.«01_k».proof.Proof.Gen.OprojIdeal.Launch
public import proofs.«01_k».proof.Proof.Gen.OprojIdeal.Skeleton
public import proofs.«01_k».proof.Proof.Gen.OprojIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_OprojIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 11 (mod 12) — by arithmetic of the point. -/
theorem hcond0_0 : ∀ t : Fin cfg0.N, cond0_0 (grid0.coords t) ↔ t.val % 12 = 11 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 9 idle: the case stores nothing into it. -/
theorem idleAt0_9_A : ∀ t : Fin cfg0.N, ¬cond0_0 (grid0.coords t) → cfg0.idle 9 (grid0.coords t) = true := by decide +kernel
/-- At the points of case A the pipeline does not write output 9's block back. -/
theorem noFlush0_9_A : ∀ t : Fin cfg0.N, ¬cond0_0 (grid0.coords t) → (cfg0.win 9).flush t = false := by decide +kernel
/-- At the points of case B the printed configuration (`Cfg.idle`) calls output 9 live: the case stores into it. -/
theorem liveAt0_9_B : ∀ t : Fin cfg0.N, cond0_0 (grid0.coords t) → cfg0.idle 9 (grid0.coords t) = false := by decide +kernel
/-- At the points of case A the printed configuration (`Cfg.idle`) calls output 10 idle: the case stores nothing into it. -/
theorem idleAt0_10_A : ∀ t : Fin cfg0.N, ¬cond0_0 (grid0.coords t) → cfg0.idle 10 (grid0.coords t) = true := by decide +kernel
/-- At the points of case A the pipeline does not write output 10's block back. -/
theorem noFlush0_10_A : ∀ t : Fin cfg0.N, ¬cond0_0 (grid0.coords t) → (cfg0.win 10).flush t = false := by decide +kernel
/-- At the points of case B the printed configuration (`Cfg.idle`) calls output 10 live: the case stores into it. -/
theorem liveAt0_10_B : ∀ t : Fin cfg0.N, cond0_0 (grid0.coords t) → cfg0.idle 10 (grid0.coords t) = false := by decide +kernel

/-! ## The kernel body on any staging memrefs: a subtype the run finds -/

/-- One staging buffer of output window 8, through which its contents are stated (`View.read_writes_of_cover`: the
    choice does not matter). -/
abbrev VO0_8 : View sig .tc .vmem S512x512 .f32 := (Memref.whole cc0_stg8_0 : Memref sig .tc .vmem S512x512 .f32).view
/-- One staging buffer of output window 9, through which its contents are stated (`View.read_writes_of_cover`: the
    choice does not matter). -/
abbrev VO0_9 : View sig .tc .vmem S512x6144 .i8 := (Memref.whole cc0_stg9_0 : Memref sig .tc .vmem S512x6144 .i8).view
/-- One staging buffer of output window 10, through which its contents are stated (`View.read_writes_of_cover`: the
    choice does not matter). -/
abbrev VO0_10 : View sig .tc .vmem S512x128 .f32 := (Memref.whole cc0_stg10_0 : Memref sig .tc .vmem S512x128 .f32).view
/-- Each window's current staging memref at point `t`, spelled as the pipeline passes it (`bodyAt0`), and its wholeness. -/
abbrev ms0_0 (t : Fin cfg0.N) : Memref sig .tc .vmem S512x3072 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x6144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x6144 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S12x512x512 .f32 := Memref.whole cc0_scratch0
/-- The scratch `arg13` the kernel carries between points, as a view: what it holds is stated through it. -/
abbrev VS0_0 : View sig .tc .vmem S12x512x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.OprojIdeal.Gen

end
-- ==== Proof.V.OprojRunA.lean ====
/-
  One branch of the body, run on any staging memrefs: the pieces that each output ends with.
-/
module

public import proofs.«01_k».proof.Proof.V.OprojRuns

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 not taken: points 0, 1, … 46: 44 of 48), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x3072 .i8) (harg2 : arg2.IsWhole) (arg3 : Memref sig .tc .vmem S512x128 .f32) (harg3 : arg3.IsWhole) (arg4 : Memref sig .tc .vmem S3072x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x6144 .f32) (harg8 : arg8.IsWhole) (arg9 : Memref sig .tc .vmem S1x6144 .f32) (harg9 : arg9.IsWhole) (arg10 : Memref sig .tc .vmem S512x512 .f32) (harg10 : arg10.IsWhole) (arg11 : Memref sig .tc .vmem S512x6144 .i8) (harg11 : arg11.IsWhole) (arg12 : Memref sig .tc .vmem S512x128 .f32) (harg12 : arg12.IsWhole) (arg13 : Memref sig .tc .vmem S12x512x512 .f32) (harg13 : arg13.IsWhole) (hc0 : ¬cond0_0 i)
    (x0 : Vec F S512x3072 .i8) (x1 : Vec F S512x128 .f32) (x2 : Vec F S3072x512 .i8) (x3 : Vec F S1x512 .f32) (x4 : Vec F S1x512 .f32) (x5 : Vec F S512x512 .bf16) (x6 : Vec F S1x6144 .f32) (x7 : Vec F S1x6144 .f32) :
    Σ' (L8 : List (View.Piece (Elt F) S512x512 .f32)), Σ' (L9 : List (View.Piece (Elt F) S512x6144 .i8)), Σ' (L10 : List (View.Piece (Elt F) S512x128 .f32)), { LS0 : List (View.Piece (Elt F) S12x512x512 .f32) //
      ∀ (xi9 : Vec F S512x6144 .i8) (xi10 : Vec F S512x128 .f32) (xs0 : Vec F S12x512x512 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_oproj i arg2 harg2 arg3 harg3 arg4 harg4 arg5 harg5 arg6 harg6 arg7 harg7 arg8 harg8 arg9 harg9 arg10 harg10 arg11 harg11 arg12 harg12 arg13 harg13) K } := by
  refine ⟨?_, [], [], ?_, fun xi9 xi10 xs0 E K => ?run⟩
  case run =>
    simp only [cc0_oproj_eq_skeleton]; unfold cc0_oproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    iexact HS0

end Cert.OprojIdeal.Gen

end
-- ==== Proof.V.OprojRunB.lean ====
/-
  One branch of the body, run on any staging memrefs: the pieces that each output ends with.
-/
module

public import proofs.«01_k».proof.Proof.V.OprojRunA

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken: points 11, 23, 35, 47), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; a scratch filled one slice per point that the case reads is at ANY contents whose reads at the rectangles of earlier points' slices are the parameters `ps·` (the facts `hps·`); the case's own store into such a scratch is placed by `hl·` (the numbers its offsets are at every point of the case); the pieces are
    the witness that run finds (assigned when `iexact` hands the buffer to the continuation). -/
noncomputable def kernelRun0_B (c : Dev nD) (i : grid0.Coords) (arg2 : Memref sig .tc .vmem S512x3072 .i8) (harg2 : arg2.IsWhole) (arg3 : Memref sig .tc .vmem S512x128 .f32) (harg3 : arg3.IsWhole) (arg4 : Memref sig .tc .vmem S3072x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x6144 .f32) (harg8 : arg8.IsWhole) (arg9 : Memref sig .tc .vmem S1x6144 .f32) (harg9 : arg9.IsWhole) (arg10 : Memref sig .tc .vmem S512x512 .f32) (harg10 : arg10.IsWhole) (arg11 : Memref sig .tc .vmem S512x6144 .i8) (harg11 : arg11.IsWhole) (arg12 : Memref sig .tc .vmem S512x128 .f32) (harg12 : arg12.IsWhole) (arg13 : Memref sig .tc .vmem S12x512x512 .f32) (harg13 : arg13.IsWhole) (hc0 : cond0_0 i) (hl0 : k0_off1 i = ![11, 0, 0])
    (x0 : Vec F S512x3072 .i8) (x1 : Vec F S512x128 .f32) (x2 : Vec F S3072x512 .i8) (x3 : Vec F S1x512 .f32) (x4 : Vec F S1x512 .f32) (x5 : Vec F S512x512 .bf16) (x6 : Vec F S1x6144 .f32) (x7 : Vec F S1x6144 .f32) (ps0_0 : Vec F S1x512x512 .f32) (ps0_1 : Vec F S1x512x512 .f32) (ps0_2 : Vec F S1x512x512 .f32) (ps0_3 : Vec F S1x512x512 .f32) (ps0_4 : Vec F S1x512x512 .f32) (ps0_5 : Vec F S1x512x512 .f32) (ps0_6 : Vec F S1x512x512 .f32) (ps0_7 : Vec F S1x512x512 .f32) (ps0_8 : Vec F S1x512x512 .f32) (ps0_9 : Vec F S1x512x512 .f32) (ps0_10 : Vec F S1x512x512 .f32) :
    Σ' (L8 : List (View.Piece (Elt F) S512x512 .f32)), Σ' (L9 : List (View.Piece (Elt F) S512x6144 .i8)), Σ' (L10 : List (View.Piece (Elt F) S512x128 .f32)), { LS0 : List (View.Piece (Elt F) S12x512x512 .f32) //
      ∀ (xs0 : Vec F S12x512x512 .f32) (hps0_0 : View.readAt (Elt F) arg13.view (Rect.unit (s := S12x512x512) ![0, 0, 0] S1x512x512.size inb_S12x512x512_S1x512x512_0_0_0).toLoadRect (harg13.unread xs0) = ps0_0) (hps0_1 : View.readAt (Elt F) arg13.view (Rect.unit (s := S12x512x512) ![1, 0, 0] S1x512x512.size inb_S12x512x512_S1x512x512_1_0_0).toLoadRect (harg13.unread xs0) = ps0_1) (hps0_2 : View.readAt (Elt F) arg13.view (Rect.unit (s := S12x512x512) ![2, 0, 0] S1x512x512.size inb_S12x512x512_S1x512x512_2_0_0).toLoadRect (harg13.unread xs0) = ps0_2) (hps0_3 : View.readAt (Elt F) arg13.view (Rect.unit (s := S12x512x512) ![3, 0, 0] S1x512x512.size inb_S12x512x512_S1x512x512_3_0_0).toLoadRect (harg13.unread xs0) = ps0_3) (hps0_4 : View.readAt (Elt F) arg13.view (Rect.unit (s := S12x512x512) ![4, 0, 0] S1x512x512.size inb_S12x512x512_S1x512x512_4_0_0).toLoadRect (harg13.unread xs0) = ps0_4) (hps0_5 : View.readAt (Elt F) arg13.view (Rect.unit (s := S12x512x512) ![5, 0, 0] S1x512x512.size inb_S12x512x512_S1x512x512_5_0_0).toLoadRect (harg13.unread xs0) = ps0_5) (hps0_6 : View.readAt (Elt F) arg13.view (Rect.unit (s := S12x512x512) ![6, 0, 0] S1x512x512.size inb_S12x512x512_S1x512x512_6_0_0).toLoadRect (harg13.unread xs0) = ps0_6) (hps0_7 : View.readAt (Elt F) arg13.view (Rect.unit (s := S12x512x512) ![7, 0, 0] S1x512x512.size inb_S12x512x512_S1x512x512_7_0_0).toLoadRect (harg13.unread xs0) = ps0_7) (hps0_8 : View.readAt (Elt F) arg13.view (Rect.unit (s := S12x512x512) ![8, 0, 0] S1x512x512.size inb_S12x512x512_S1x512x512_8_0_0).toLoadRect (harg13.unread xs0) = ps0_8) (hps0_9 : View.readAt (Elt F) arg13.view (Rect.unit (s := S12x512x512) ![9, 0, 0] S1x512x512.size inb_S12x512x512_S1x512x512_9_0_0).toLoadRect (harg13.unread xs0) = ps0_9) (hps0_10 : View.readAt (Elt F) arg13.view (Rect.unit (s := S12x512x512) ![10, 0, 0] S1x512x512.size inb_S12x512x512_S1x512x512_10_0_0).toLoadRect (harg13.unread xs0) = ps0_10) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xs0) LS0)) -∗ K ⟨⟩))
          ⊢ wp frame (wpE (defs₀ (F := F)) Variants.none c none) E (cc0_oproj i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xs0 hps0_0 hps0_1 hps0_2 hps0_3 hps0_4 hps0_5 hps0_6 hps0_7 hps0_8 hps0_9 hps0_10 E K => ?run⟩
  case run =>
    letI : ClosedOff (k0_off1 i) := ⟨![11, 0, 0], hl0⟩
    simp only [cc0_oproj_eq_skeleton]; unfold cc0_oproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    iexact HS0

end Cert.OprojIdeal.Gen

end
-- ==== Proof.V.OprojFrame.lean ====
/-
  The frame of this call: what each output window and the carried scratch hold after each grid point, the body
  obligation, and the run of the whole program. Each point stores one slice of the scratch; the last point of a row of
  blocks reads the eleven before its own, which are the same whatever the scratch held at first.
-/
module

public import proofs.«01_k».proof.Proof.V.OprojRunB
public import proofs.«01_k».proof.Proof.V.OprojRunA
public import Idealize.ShloMosaic.Lib.Claim
public import Idealize.ShloMosaic.Lib.WritesUnit
public import Idealize.ShloMosaic.Lib.VecWindow

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-! ## The runs at a grid point -/

/-- At every point of case B the offsets chain `k0_off1` gives the same numbers, `![11, 0, 0]`: where the case's own
    store into the scratch filled one slice per point lands, which its run takes as a hypothesis (`hl·`). -/
theorem hoff0_k0_off1_B : ∀ t : Fin cfg0.N, t.val % 12 = 11 → k0_off1 (grid0.coords t) = ![11, 0, 0] := by
  decide +kernel

/-- The body's run at a point that is not the last of its row of blocks. -/
abbrev runA (c : Dev nD) (t : Fin cfg0.N) (h0 : ¬t.val % 12 = 11) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)

/-- The body's run at the last point of a row of blocks, with the eleven slices that the points before it stored. -/
abbrev runB (c : Dev nD) (t : Fin cfg0.N) (h0 : t.val % 12 = 11) (p : Fin 11 → Vec F S1x512x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (hoff0_k0_off1_B t h0) (iblk m c 0 t) (iblk m c 1 t) (iblk m c 2 t) (iblk m c 3 t) (iblk m c 4 t) (iblk m c 5 t) (iblk m c 6 t) (iblk m c 7 t) (p 0) (p 1) (p 2) (p 3) (p 4) (p 5) (p 6) (p 7) (p 8) (p 9) (p 10)

/-- The pieces tile the blocks they are stored in. -/
theorem coverA_8 (c : Dev nD) (t : Fin cfg0.N) (h0) (y : S512x512.Idx) : ∃ pc ∈ (runA m c t h0).1, y ∈ pc.1.set :=
  View.cover_of_tiledL (runA m c t h0).1 S512x512.size (by sl_kernel_rfl) y
theorem coverB_8 (c : Dev nD) (t : Fin cfg0.N) (h0) (p) (y : S512x512.Idx) : ∃ pc ∈ (runB m c t h0 p).1, y ∈ pc.1.set :=
  View.cover_of_tiledL (runB m c t h0 p).1 S512x512.size (by sl_kernel_rfl) y
theorem coverB_9 (c : Dev nD) (t : Fin cfg0.N) (h0) (p) (y : S512x6144.Idx) : ∃ pc ∈ (runB m c t h0 p).2.1, y ∈ pc.1.set :=
  View.cover_of_tiledL (runB m c t h0 p).2.1 S512x512.size (by sl_kernel_rfl) y
theorem coverB_10 (c : Dev nD) (t : Fin cfg0.N) (h0) (p) (y : S512x128.Idx) : ∃ pc ∈ (runB m c t h0 p).2.2.1, y ∈ pc.1.set :=
  View.cover_of_tiledL (runB m c t h0 p).2.2.1 S512x128.size (by sl_kernel_rfl) y

/-! ## The slices of the scratch -/

theorem inbS (k : Fin 12) : ∀ a, (![k.val, 0, 0] : Fin 3 → ℕ) a + S1x512x512.size a ≤ S12x512x512.size a := by
  intro a; have := k.isLt
  fin_cases a
  · show k.val + 1 ≤ 12; omega
  · show 0 + 512 ≤ 512; omega
  · show 0 + 512 ≤ 512; omega

/-- Slice `k` of the scratch at contents `x`. -/
def rdS (x : Vec F S12x512x512 .f32) (k : Fin 12) : Vec F S1x512x512 .f32 :=
  VecWindow.window (s := S12x512x512) x ![k.val, 0, 0] S1x512x512.size (inbS k)

/-- A load of slice `k` reads it. -/
theorem readS (x : Vec F S12x512x512 .f32) (k : Fin 12) (inb) :
    View.readAt (Elt F) scM0_0.view (Rect.unit (s := S12x512x512) ![k.val, 0, 0] S1x512x512.size inb).toLoadRect
      ((Memref.isWhole_whole _).unread x) = rdS x k :=
  (View.readAt_unit _ _ inb rfl (inbS k)).trans (by
    rw [show scM0_0.view.read (Elt F) ((Memref.isWhole_whole _).unread x) = x from (Memref.isWhole_whole cc0_scratch0).read_unread x]; rfl)

/-- The slice that point `t` stores. -/
def slice (c : Dev nD) (t : Fin cfg0.N) : Vec F S1x512x512 .f32 :=
  k0_pay2 (View.ld (iblk m c 0 t) (Rect.unit (s := S512x3072) ![0, 0] S512x3072.size inb_S512x3072_S512x3072_0_0))
    (View.ld (iblk m c 2 t) (Rect.unit (s := S3072x512) ![0, 0] S3072x512.size inb_S3072x512_S3072x512_0_0))
    (View.ld (iblk m c 1 t) (Rect.unit (s := S512x128) ![0, 0] S512x1.size inb_S512x128_S512x1_0_0))
    (View.ld (iblk m c 3 t) (Rect.unit (s := S1x512) ![0, 0] S1x512.size inb_S1x512_S1x512_0_0))
    (View.ld (iblk m c 4 t) (Rect.unit (s := S1x512) ![0, 0] S1x512.size inb_S1x512_S1x512_0_0))
    (View.ld (iblk m c 5 t) (Rect.unit (s := S512x512) ![0, 0] S512x512.size inb_S512x512_S512x512_0_0))

/-- A point that is not the last of its row stores its slice and nothing else into the scratch. -/
theorem storeA (c : Dev nD) (t : Fin cfg0.N) (h0) :
    (runA m c t h0).2.2.2.1 = [⟨Rect.unit (k0_off1 (grid0.coords t)) S1x512x512.size (k0_off1_inb (grid0.coords t)), slice m c t⟩] := by
  unfold slice runA kernelRun0_A
  dsimp only
  simp only [View.readAt_eq_ld, (hs0_0 t).read_unread, (hs0_1 t).read_unread, (hs0_2 t).read_unread, (hs0_3 t).read_unread,
    (hs0_4 t).read_unread, (hs0_5 t).read_unread]
  rfl

/-- The scratch before position `n`, from contents `d` before the first point. -/
def scr (c : Dev nD) (d : Vec F S12x512x512 .f32) : (n : ℕ) → n ≤ cfg0.N → Vec F S12x512x512 .f32
  | 0, _ => d
  | n + 1, h =>
    if h0 : n % 12 = 11 then
      scM0_0.view.read (Elt F) (scM0_0.view.writes (Elt F) ((Memref.isWhole_whole _).unread (scr c d n (Nat.le_of_succ_le h)))
        (runB m c ⟨n, h⟩ h0 fun k => rdS (scr c d n (Nat.le_of_succ_le h)) k.castSucc).2.2.2.1)
    else
      scM0_0.view.read (Elt F) (scM0_0.view.writes (Elt F) ((Memref.isWhole_whole _).unread (scr c d n (Nat.le_of_succ_le h)))
        (runA m c ⟨n, h⟩ h0).2.2.2.1)

theorem off1_eq : ∀ t : Fin cfg0.N, k0_off1 (grid0.coords t) = ![t.val % 12, 0, 0] := by decide +kernel

/-- After a store of slice `j`, slice `j` is what was stored and the others are as they were. -/
theorem rdS_same (v : View sig .tc .vmem S12x512x512 .f32) (f : v.ty.Contents (Elt F)) (o : Fin 3 → ℕ) (inb) (w : Vec F S1x512x512 .f32) (k : Fin 12) (ho : o = ![k.val, 0, 0]) :
    rdS (v.read (Elt F) (v.writes (Elt F) f
      [⟨Rect.unit (s := S12x512x512) o S1x512x512.size inb, w⟩])) k = w := by
  subst ho
  funext y
  exact View.read_writes_cons_emb v f (Rect.unit (s := S12x512x512) ![k.val, 0, 0] S1x512x512.size inb) w [] y

theorem rdS_other (v : View sig .tc .vmem S12x512x512 .f32) (f : v.ty.Contents (Elt F)) (o : Fin 3 → ℕ) (inb) (w : Vec F S1x512x512 .f32) (j : ℕ) (k : Fin 12) (ho : o = ![j, 0, 0]) (hk : k.val < j) :
    rdS (v.read (Elt F) (v.writes (Elt F) f
      [⟨Rect.unit (s := S12x512x512) o S1x512x512.size inb, w⟩])) k = rdS (v.read (Elt F) f) k := by
  funext y
  refine (View.read_writes_cons_unit_of_not_mem v f inb w [] _ ho 0 (.inl ?_)).trans ?_
  · show k.val + 1 * (y 0).val < j
    have : (y 0).val < 1 := (y 0).isLt
    omega
  · rfl

/-- The slices stored since the row of blocks began are in the scratch, whatever it held before the first point. -/
theorem scr_slice (c : Dev nD) (d : Vec F S12x512x512 .f32) (n : ℕ) (h : n ≤ cfg0.N) (k : Fin 12) (hk : k.val < n % 12) (t : Fin cfg0.N)
    (ht : t.val = n - n % 12 + k.val) : rdS (scr m c d n h) k = slice m c t := by
  induction n with
  | zero => exact absurd hk (by simp)
  | succ n ih =>
    have h0 : ¬n % 12 = 11 := by omega
    have hn : (n + 1) % 12 = n % 12 + 1 := by omega
    unfold scr
    rw [dif_neg h0, storeA]
    by_cases hkn : k.val = n % 12
    · obtain rfl : t = ⟨n, h⟩ := Fin.ext (by show t.val = n; omega)
      exact rdS_same _ _ _ _ _ k ((off1_eq ⟨n, h⟩).trans (by rw [hkn]))
    · refine (rdS_other _ _ _ _ _ (n % 12) k (off1_eq ⟨n, h⟩) (by omega)).trans ?_
      rw [show scM0_0.view.read (Elt F) ((Memref.isWhole_whole _).unread (scr m c d n (Nat.le_of_succ_le h))) = scr m c d n (Nat.le_of_succ_le h) from (Memref.isWhole_whole cc0_scratch0).read_unread _]
      exact ih _ (by omega) (by omega)

/-- The eleven slices that the last point of a row finds. -/
def slices (c : Dev nD) (t : Fin cfg0.N) (k : Fin 11) : Vec F S1x512x512 .f32 :=
  slice m c ⟨t.val - t.val % 12 + k.val, by have := t.isLt; have : cfg0.N = 48 := N_0; omega⟩

theorem slices_eq (c : Dev nD) (d : Vec F S12x512x512 .f32) (t : Fin cfg0.N) (h0 : t.val % 12 = 11) :
    (fun k : Fin 11 => rdS (scr m c d t.val (Nat.le_of_lt t.isLt)) k.castSucc) = slices m c t :=
  funext fun k => scr_slice m c d t.val _ k.castSucc (by show k.val < t.val % 12; omega) _ rfl

/-! ## What the outputs hold -/

def out8 (c : Dev nD) (t : Fin cfg0.N) : Vec F S512x512 .f32 :=
  if h0 : t.val % 12 = 11 then VO0_8.read (Elt F) (VO0_8.writes (Elt F) VO0_8.junk (runB m c t h0 (slices m c t)).1)
  else VO0_8.read (Elt F) (VO0_8.writes (Elt F) VO0_8.junk (runA m c t h0).1)
def out9 (c : Dev nD) (t : Fin cfg0.N) : Vec F S512x6144 .i8 :=
  if h0 : t.val % 12 = 11 then VO0_9.read (Elt F) (VO0_9.writes (Elt F) VO0_9.junk (runB m c t h0 (slices m c t)).2.1)
  else VO0_9.read (Elt F) VO0_9.junk
def out10 (c : Dev nD) (t : Fin cfg0.N) : Vec F S512x128 .f32 :=
  if h0 : t.val % 12 = 11 then VO0_10.read (Elt F) (VO0_10.writes (Elt F) VO0_10.junk (runB m c t h0 (slices m c t)).2.2.1)
  else VO0_10.read (Elt F) VO0_10.junk

/-- The region invariant before position `n`, from the carried scratch at `dS·` before the first point: each carried
    scratch at what point `n` finds (`prevFrom0`), the others at anything, and the generator register at some state. -/
def PhiSAt (c : Dev nD) (dS0 : Vec F S12x512x512 .f32) (n : ℕ) (h : n ≤ cfg0.N) : sProp (MT nD τ sig Unit (Elt F) ℕ (UR sig nD τ) ℕ) :=
  iprop(iprop(owns (c : Thread nD τ) scM0_0 fullShare (scr m c dS0 n h)) ∗ (∃ r, prngReg c r))

/-- The region invariant: `PhiSAt` at SOME contents of the carried scratch before the first point (what the launch
    hands the region names none). -/
def PhiS (c : Dev nD) (n : ℕ) (h : n ≤ cfg0.N) : sProp (MT nD τ sig Unit (Elt F) ℕ (UR sig nD τ) ℕ) :=
  iprop(∃ dS0, PhiSAt m c dS0 n h)

/-! ## The pipeline's proof data -/

/-- The proof data of the one pipeline on core `c`: the arrays as the region finds them (`V`); after the body at
    point `t` each input's buffer at its block and the outputs' at `outsAt0`; the invariant the class's
    (`PhiS`: at some contents of the carried scratch before the first point, the scoped rest with the carried scratch at what
    each point finds, `prevFrom0`); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => out9 m c t
    | ⟨10, _⟩ => out10 m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 9600000 in
/-- The body at any point: the inputs' memrefs hold their blocks (`before0_W`); the closed forms say which case the point is in (`by_cases`), an output the case reads before covering holds what the point before left (`before0_W_κ`); so the
    run applies; the invariant (`PhiS`) binds what the carried scratch held before the first point and hands the body the carried scratch at what the point finds (`prevFrom0`), the other scratch buffers and the generator register at some state, and takes the carried scratch back at this point's contents over the same first contents; an output the point stores is the proof data's closed term by `outs_indep0_W_κ`; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_castSucc m c t]
  unfold PhiS PhiSAt
  have hN : t.val < 48 := lt_of_lt_of_eq t.isLt (show cfg0.N = 48 from N_0)
  by_cases h0 : t.val % 12 = 11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9_B t ((hcond0_0 t).mpr h0)], after0_9]
    rw [show (dats m 0 c).leavesExact 10 t = owns (c : Thread nD τ) (ms0_10 t) fullShare ((dats m 0 c).after 10 t) from by
      unfold Dat.leavesExact; rw [liveAt0_10_B t ((hcond0_0 t).mpr h0)], after0_10]
    iintro ⟨⟨%dS0, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have eS0 : scr m c dS0 (t.val + 1) t.isLt = scM0_0.view.read (Elt F) (scM0_0.view.writes (Elt F) ((Memref.isWhole_whole _).unread (scr m c dS0 t.val (Nat.le_of_lt t.isLt))) (runB m c t h0 (slices m c t)).2.2.2.1) := by
      rw [← slices_eq m c dS0 t h0]; exact dif_pos h0
    have eO8 : out8 m c t = VO0_8.read (Elt F) (VO0_8.writes (Elt F) VO0_8.junk (runB m c t h0 (slices m c t)).1) := dif_pos h0
    have eO9 : out9 m c t = VO0_9.read (Elt F) (VO0_9.writes (Elt F) VO0_9.junk (runB m c t h0 (slices m c t)).2.1) := dif_pos h0
    have eO10 : out10 m c t = VO0_10.read (Elt F) (VO0_10.writes (Elt F) VO0_10.junk (runB m c t h0 (slices m c t)).2.2.1) := dif_pos h0
    rw [eO8, eO9, eO10]
    iapply ((runB m c t h0 (slices m c t)).2.2.2.2 (scr m c dS0 t.val (Nat.le_of_lt t.isLt)) ((readS _ 0 _).trans (congrFun (slices_eq m c dS0 t h0) 0)) ((readS _ 1 _).trans (congrFun (slices_eq m c dS0 t h0) 1)) ((readS _ 2 _).trans (congrFun (slices_eq m c dS0 t h0) 2)) ((readS _ 3 _).trans (congrFun (slices_eq m c dS0 t h0) 3)) ((readS _ 4 _).trans (congrFun (slices_eq m c dS0 t h0) 4)) ((readS _ 5 _).trans (congrFun (slices_eq m c dS0 t h0) 5)) ((readS _ 6 _).trans (congrFun (slices_eq m c dS0 t h0) 6)) ((readS _ 7 _).trans (congrFun (slices_eq m c dS0 t h0) 7)) ((readS _ 8 _).trans (congrFun (slices_eq m c dS0 t h0) 8)) ((readS _ 9 _).trans (congrFun (slices_eq m c dS0 t h0) 9)) ((readS _ 10 _).trans (congrFun (slices_eq m c dS0 t h0) 10)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    iintro ⟨H0, H1, H2, H3, H4, H5, H6, H7, ⟨%e8, H8⟩, ⟨%e9, H9⟩, ⟨%e10, H10⟩, HS0⟩
    isplitl [HS0 Hg]
    · iexists dS0
      rw [eS0]
      isplitl [HS0]
      · unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB_8 m c t h0 _)
    isplitl [H9]
    · unfold owns; iexists _; isplitr
      swap; · iexact H9
      ipureintro; exact View.read_writes_of_cover _ _ _ _ _ (coverB_9 m c t h0 _)
    unfold owns; iexists _; isplitr
    swap; · iexact H10
    ipureintro; exact View.read_writes_of_cover _ _ _ _ _ (coverB_10 m c t h0 _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [Dat.leavesExact_idle (dats m 0 c) 9 t (idleAt0_9_A t (fun h => h0 ((hcond0_0 t).mp h))) (noFlush0_9_A t (fun h => h0 ((hcond0_0 t).mp h)))]
    rw [Dat.leavesExact_idle (dats m 0 c) 10 t (idleAt0_10_A t (fun h => h0 ((hcond0_0 t).mp h))) (noFlush0_10_A t (fun h => h0 ((hcond0_0 t).mp h)))]
    iintro ⟨⟨%dS0, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have eS0 : scr m c dS0 (t.val + 1) t.isLt = scM0_0.view.read (Elt F) (scM0_0.view.writes (Elt F) ((Memref.isWhole_whole _).unread (scr m c dS0 t.val (Nat.le_of_lt t.isLt))) (runA m c t h0).2.2.2.1) :=
      dif_neg h0
    have eO8 : out8 m c t = VO0_8.read (Elt F) (VO0_8.writes (Elt F) VO0_8.junk (runA m c t h0).1) := dif_neg h0
    rw [eO8]
    iapply ((runA m c t h0).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    iintro ⟨H0, H1, H2, H3, H4, H5, H6, H7, ⟨%e8, H8⟩, H9, H10, HS0⟩
    isplitl [HS0 Hg]
    · iexists dS0
      rw [eS0]
      isplitl [HS0]
      · unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA_8 m c t h0)
    isplitl [H9]; · iexists _; iexact H9
    iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the carried scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS PhiSAt
  iintro ⟨⟨%dS0, HS0⟩, Hg⟩
  iexists dS0
  isplitl [HS0]
  · iexact HS0
  iexact Hg

/-- After the last point the invariant gives `ΦA` back: what the carried scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS PhiSAt
  iintro ⟨%dS0, HS0, Hg⟩
  isplitl [HS0]
  · iexists _; iexact HS0
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_OprojIdeal`'s statement (Defs.lean) at any `F` — Proof.lean cites it at `Bits`:
    `theorem Cert.Proof.claim : Cert.Claim := ⟨Cert.OprojIdeal.Gen.facts, fun m ρ _ => Cert.OprojIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.OprojIdeal.Gen

end
-- ==== Proof.V.OprojBits.lean ====
/-
  The frame of this call as printed. The printed program and its ideal form are one program but for the constant 1/127,
  which the ideal form looks up by name; with the name read as the printed bits they are the same by definition, so the
  frame of the ideal form, which holds over any floats, is the frame of the printed program.
-/
module

public import proofs.«01_k».proof.Defs
public import proofs.«01_k».proof.Proof.Gen.Oproj
public import proofs.«01_k».proof.Proof.V.OprojFrame

@[expose] public section

noncomputable section

namespace Cert.V.Oproj

open Idealize.ShloMosaic Idealize.ShloMosaic.TcCoe Idealize.SL.Sem

/-- A named constant read as its printed bits. -/
local instance printed : Named Bits where
  named _ _ {φ} bits := Scalar.ofBits φ bits

/-- The printed program's frame is the ideal form's, read at the printed constants. -/
theorem frame_eq : Cert.quiescent_Oproj (hOproj := Cert.Oproj.Gen.facts) = (∀ (m : (ℓ : Loc Cert.OprojIdeal.nD Cert.OprojIdeal.τ Cert.OprojIdeal.sig) → Buf (Elt Bits) ℓ) (g : Dev Cert.OprojIdeal.nD → PrngReg), True →
    θ_run (Cert.OprojIdeal.defs (F := Bits)) (onTc (τ := Cert.OprojIdeal.τ) (Cert.OprojIdeal.main (F := Bits))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ r.2.sem = fun _ => 0)) := by
  sl_kernel_rfl

/-- The frame of the printed program. -/
theorem frame : Cert.quiescent_Oproj (hOproj := Cert.Oproj.Gen.facts) := by
  rw [frame_eq]
  exact fun m ρ _ => Cert.OprojIdeal.Gen.frame (F := Bits) m ρ

end Cert.V.Oproj

end
-- ==== Proof.V.OprojSweep.lean ====
/-
  What the program's run leaves in the output arrays and the arguments.
-/
module

public import proofs.«01_k».proof.Proof.V.OprojFrame
public import Idealize.ShloMosaic.Lib.Pipeline.Value

@[expose] public section

noncomputable section

namespace Cert.OprojIdeal.Value

open Cert.OprojIdeal Cert.OprojIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The run of the whole program: each output array is what the points' blocks leave, and the arguments are as launched. -/
theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.OprojIdeal.Value

end
-- ==== Proof.V.OprojSpec.lean ====
/-
  The output projection with the layer norm after it, as functions of its argument arrays: the residual sum, the norm of a
  row, and the quantiser of the normed row.
-/
module

public import proofs.«01_k».proof.Proof.V.Linear
public import proofs.«01_k».proof.Proof.V.Quant

@[expose] public section

noncomputable section

namespace Cert.V.Oproj

open Idealize.ShloMosaic
open scoped BigOperators

/-- The mean of a row of 6144 numbers. -/
def rowMean (y : Fin 6144 → EReal) : EReal := Ideal.div (∑ c, y c) (Ideal.ofBits .f32 0x45C00000#32)

/-- The root of the row's variance, a small number added to it. -/
def rowDen (y : Fin 6144 → EReal) : EReal :=
  Ideal.sqrt (Ideal.div (∑ c, (y c - rowMean y) * (y c - rowMean y)) (Ideal.ofBits .f32 0x45C00000#32) + Ideal.ofBits .f32 0x3727C5AC#32)

/-- A number less the mean, over the root, times the gain, plus the bias. -/
def nv (m d x g b : EReal) : EReal := Ideal.div (x - m) d * g + b

/-- The normed row. -/
def normAt (y g b : Fin 6144 → EReal) (c : Fin 6144) : EReal := nv (rowMean y) (rowDen y) (y c) (g c) (b c)

/-- The scale of the normed row. -/
def normScale (y g b : Fin 6144 → EReal) : EReal := scaleOf (rowMax fun c => absOf (normAt y g b c))

/-- The code of an entry of the normed row. -/
def normCode (y g b : Fin 6144 → EReal) (c : Fin 6144) : BitVec 8 := codeOf (normAt y g b c) (normScale y g b)

/-- The residual sum at an index: the input plus the linear layer, the arrays as the call takes them. -/
def resM {M N : ℕ} (x0 : Vec Ideal ⟨2, ![M, 3072]⟩ .i8) (x1 : Vec Ideal ⟨2, ![M, 128]⟩ .f32) (x2 : Vec Ideal ⟨2, ![3072, N]⟩ .i8)
    (x3 x4 : Vec Ideal ⟨2, ![1, N]⟩ .f32) (x5 : Vec Ideal ⟨2, ![M, N]⟩ .bf16) (r : Fin M) (c : Fin N) : EReal :=
  (x5 (ix2 r c) : EReal) + linAt x0 (fun r => x1 (ix2 r 0)) x2 (fun c => x3 (ix2 0 c)) (fun c => x4 (ix2 0 c)) r c

section
variable (x0 : Vec Ideal ⟨2, ![2048, 3072]⟩ .i8) (x1 : Vec Ideal ⟨2, ![2048, 128]⟩ .f32) (x2 : Vec Ideal ⟨2, ![3072, 6144]⟩ .i8)
  (x3 x4 : Vec Ideal ⟨2, ![1, 6144]⟩ .f32) (x5 : Vec Ideal ⟨2, ![2048, 6144]⟩ .bf16) (x6 x7 : Vec Ideal ⟨2, ![1, 6144]⟩ .f32)

/-- The residual sum. -/
def spec0 (_x6 _x7 : Vec Ideal ⟨2, ![1, 6144]⟩ .f32) : Vec Ideal ⟨2, ![2048, 6144]⟩ .f32 := fun i =>
  (resM x0 x1 x2 x3 x4 x5 (i 0) (i 1) : EReal)

/-- The codes of the normed rows. -/
def spec1 : Vec Ideal ⟨2, ![2048, 6144]⟩ .i8 := fun i =>
  normCode (resM x0 x1 x2 x3 x4 x5 (i 0)) (fun c => x6 (ix2 0 c)) (fun c => x7 (ix2 0 c)) (i 1)

/-- The scales of the normed rows, each in 128 lanes. -/
def spec2 : Vec Ideal ⟨2, ![2048, 128]⟩ .f32 := fun i =>
  (normScale (resM x0 x1 x2 x3 x4 x5 (i 0)) (fun c => x6 (ix2 0 c)) (fun c => x7 (ix2 0 c)) : EReal)

end

end Cert.V.Oproj

end
-- ==== Proof.V.OprojPieces.lean ====
/-
  What the call's body leaves at the last point of a row of blocks, over the twelve slices of the residual stream and
  the norm's gain and bias: the mean, the deviation, the normalised slices, the scale and the codes.
-/
module

public import proofs.«01_k».proof.Proof.V.OprojFrame
public import Idealize.ShloMosaic.Lib.Pipeline.ReadBack

@[expose] public section

set_option maxRecDepth 16384

noncomputable section

namespace Cert.V.Oproj

open Idealize.ShloMosaic Idealize.ShloMosaic.TcCoe Idealize.ShloMosaic.Tactic Idealize.SL.Sem
open Cert.OprojIdeal Cert.OprojIdeal.Gen

variable {F : FTy → Type} [FloatOps F] [Named F]

/-- The 512 columns of a row vector from column `o` on. -/
def cols (g : Vec F S1x6144 .f32) (o : ℕ) (h : ∀ a, (![0, o] : Fin 2 → ℕ) a + S1x512.size a ≤ S1x6144.size a) : Vec F S1x512 .f32 :=
  View.ld g (Rect.unit (s := S1x6144) ![0, o] S1x512.size h)

def W55 (q : Fin 12 → Vec F S1x512x512 .f32) (g b : Vec F S1x6144 .f32) : FVec F S512x1 .f32 :=
  k0_pay5 (q 0) (q 1) (q 2) (q 3) (q 4) (q 5)
def W87 (q : Fin 12 → Vec F S1x512x512 .f32) (g b : Vec F S1x6144 .f32) : FVec F S512x1 .f32 :=
  k0_pay6 (W55 q g b) (q 6) (q 7) (q 8) (q 9) (q 10) (q 11)
def W91 (q : Fin 12 → Vec F S1x512x512 .f32) (g b : Vec F S1x6144 .f32) : FVec F S512x512 .f32 :=
  k0_pay7 (W55 q g b) (q 6) (q 7) (q 8) (q 9) (q 10) (q 11) (q 0)
def W124 (q : Fin 12 → Vec F S1x512x512 .f32) (g b : Vec F S1x6144 .f32) : FVec F S512x1 .f32 :=
  k0_pay8 (W87 q g b) (W91 q g b) (q 0) (q 1) (q 1) (q 2) (q 2)
def W128 (q : Fin 12 → Vec F S1x512x512 .f32) (g b : Vec F S1x6144 .f32) : FVec F S512x512 .f32 :=
  k0_pay9 (W87 q g b) (q 3)
def W160 (q : Fin 12 → Vec F S1x512x512 .f32) (g b : Vec F S1x6144 .f32) : FVec F S512x1 .f32 :=
  k0_pay10 (W87 q g b) (W124 q g b) (W128 q g b) (q 3) (q 4) (q 4) (q 5) (q 5)
def W164 (q : Fin 12 → Vec F S1x512x512 .f32) (g b : Vec F S1x6144 .f32) : FVec F S512x512 .f32 :=
  k0_pay11 (W87 q g b) (q 6)
def W196 (q : Fin 12 → Vec F S1x512x512 .f32) (g b : Vec F S1x6144 .f32) : FVec F S512x1 .f32 :=
  k0_pay12 (W87 q g b) (W160 q g b) (W164 q g b) (q 6) (q 7) (q 7) (q 8) (q 8)
def W200 (q : Fin 12 → Vec F S1x512x512 .f32) (g b : Vec F S1x6144 .f32) : FVec F S512x512 .f32 :=
  k0_pay13 (W87 q g b) (q 9)
def W204 (q : Fin 12 → Vec F S1x512x512 .f32) (g b : Vec F S1x6144 .f32) : FVec F S512x512 .f32 :=
  k0_pay14 (W87 q g b) (q 9)
def W237 (q : Fin 12 → Vec F S1x512x512 .f32) (g b : Vec F S1x6144 .f32) : FVec F S512x1 .f32 :=
  k0_pay15 (W87 q g b) (W196 q g b) (W200 q g b) (W204 q g b) (q 10) (q 10) (q 11) (q 11)
def W238 (q : Fin 12 → Vec F S1x512x512 .f32) (g b : Vec F S1x6144 .f32) : FVec F S512x1 .f32 :=
  k0_pay16 (F := F)
def W242 (q : Fin 12 → Vec F S1x512x512 .f32) (g b : Vec F S1x6144 .f32) : FVec F S512x512 .f32 :=
  k0_pay17 (W87 q g b) (q 0)
def W243 (q : Fin 12 → Vec F S1x512x512 .f32) (g b : Vec F S1x6144 .f32) : FVec F S512x512 .f32 :=
  k0_pay18 (W87 q g b) (W196 q g b) (W200 q g b) (W204 q g b) (q 10) (q 10) (q 11) (q 11)
def N0 (q : Fin 12 → Vec F S1x512x512 .f32) (g b : Vec F S1x6144 .f32) : FVec F S1x512x512 .f32 :=
  k0_pay20 (W242 q g b) (W243 q g b) (cols g 0 inb_S1x6144_S1x512_0_0) (cols b 0 inb_S1x6144_S1x512_0_0)
def N1 (q : Fin 12 → Vec F S1x512x512 .f32) (g b : Vec F S1x6144 .f32) : FVec F S1x512x512 .f32 :=
  k0_pay22 (W87 q g b) (W237 q g b) (q 1) (cols g 512 inb_S1x6144_S1x512_0_512) (cols b 512 inb_S1x6144_S1x512_0_512)
def W276 (q : Fin 12 → Vec F S1x512x512 .f32) (g b : Vec F S1x6144 .f32) : FVec F S512x1 .f32 :=
  k0_pay23 (W87 q g b) (W237 q g b) (W238 q g b) (W242 q g b) (W243 q g b) (cols g 0 inb_S1x6144_S1x512_0_0) (cols b 0 inb_S1x6144_S1x512_0_0) (q 1) (cols g 512 inb_S1x6144_S1x512_0_512) (cols b 512 inb_S1x6144_S1x512_0_512)
def W278 (q : Fin 12 → Vec F S1x512x512 .f32) (g b : Vec F S1x6144 .f32) : FVec F S512x512 .f32 :=
  k0_pay24 (q 2)
def W279 (q : Fin 12 → Vec F S1x512x512 .f32) (g b : Vec F S1x6144 .f32) : FVec F S512x512 .f32 :=
  k0_pay25 (W87 q g b)
def N2 (q : Fin 12 → Vec F S1x512x512 .f32) (g b : Vec F S1x6144 .f32) : FVec F S1x512x512 .f32 :=
  k0_pay27 (W237 q g b) (W278 q g b) (W279 q g b) (cols g 1024 inb_S1x6144_S1x512_0_1024) (cols b 1024 inb_S1x6144_S1x512_0_1024)
def N3 (q : Fin 12 → Vec F S1x512x512 .f32) (g b : Vec F S1x6144 .f32) : FVec F S1x512x512 .f32 :=
  k0_pay29 (W87 q g b) (W237 q g b) (q 3) (cols g 1536 inb_S1x6144_S1x512_0_1536) (cols b 1536 inb_S1x6144_S1x512_0_1536)
def W314 (q : Fin 12 → Vec F S1x512x512 .f32) (g b : Vec F S1x6144 .f32) : FVec F S512x1 .f32 :=
  k0_pay30 (W87 q g b) (W237 q g b) (W276 q g b) (W278 q g b) (W279 q g b) (cols g 1024 inb_S1x6144_S1x512_0_1024) (cols b 1024 inb_S1x6144_S1x512_0_1024) (q 3) (cols g 1536 inb_S1x6144_S1x512_0_1536) (cols b 1536 inb_S1x6144_S1x512_0_1536)
def N4 (q : Fin 12 → Vec F S1x512x512 .f32) (g b : Vec F S1x6144 .f32) : FVec F S1x512x512 .f32 :=
  k0_pay32 (W87 q g b) (W237 q g b) (q 4) (cols g 2048 inb_S1x6144_S1x512_0_2048) (cols b 2048 inb_S1x6144_S1x512_0_2048)
def N5 (q : Fin 12 → Vec F S1x512x512 .f32) (g b : Vec F S1x6144 .f32) : FVec F S1x512x512 .f32 :=
  k0_pay34 (W87 q g b) (W237 q g b) (q 5) (cols g 2560 inb_S1x6144_S1x512_0_2560) (cols b 2560 inb_S1x6144_S1x512_0_2560)
def W352 (q : Fin 12 → Vec F S1x512x512 .f32) (g b : Vec F S1x6144 .f32) : FVec F S512x1 .f32 :=
  k0_pay35 (W87 q g b) (W237 q g b) (W314 q g b) (q 4) (cols g 2048 inb_S1x6144_S1x512_0_2048) (cols b 2048 inb_S1x6144_S1x512_0_2048) (q 5) (cols g 2560 inb_S1x6144_S1x512_0_2560) (cols b 2560 inb_S1x6144_S1x512_0_2560)
def N6 (q : Fin 12 → Vec F S1x512x512 .f32) (g b : Vec F S1x6144 .f32) : FVec F S1x512x512 .f32 :=
  k0_pay37 (W87 q g b) (W237 q g b) (q 6) (cols g 3072 inb_S1x6144_S1x512_0_3072) (cols b 3072 inb_S1x6144_S1x512_0_3072)
def N7 (q : Fin 12 → Vec F S1x512x512 .f32) (g b : Vec F S1x6144 .f32) : FVec F S1x512x512 .f32 :=
  k0_pay39 (W87 q g b) (W237 q g b) (q 7) (cols g 3584 inb_S1x6144_S1x512_0_3584) (cols b 3584 inb_S1x6144_S1x512_0_3584)
def W390 (q : Fin 12 → Vec F S1x512x512 .f32) (g b : Vec F S1x6144 .f32) : FVec F S512x1 .f32 :=
  k0_pay40 (W87 q g b) (W237 q g b) (W352 q g b) (q 6) (cols g 3072 inb_S1x6144_S1x512_0_3072) (cols b 3072 inb_S1x6144_S1x512_0_3072) (q 7) (cols g 3584 inb_S1x6144_S1x512_0_3584) (cols b 3584 inb_S1x6144_S1x512_0_3584)
def N8 (q : Fin 12 → Vec F S1x512x512 .f32) (g b : Vec F S1x6144 .f32) : FVec F S1x512x512 .f32 :=
  k0_pay42 (W87 q g b) (W237 q g b) (q 8) (cols g 4096 inb_S1x6144_S1x512_0_4096) (cols b 4096 inb_S1x6144_S1x512_0_4096)
def N9 (q : Fin 12 → Vec F S1x512x512 .f32) (g b : Vec F S1x6144 .f32) : FVec F S1x512x512 .f32 :=
  k0_pay45 (W87 q g b) (W237 q g b) (q 9) (cols g 4608 inb_S1x6144_S1x512_0_4608) (cols b 4608 inb_S1x6144_S1x512_0_4608)
def W409 (q : Fin 12 → Vec F S1x512x512 .f32) (g b : Vec F S1x6144 .f32) : FVec F S512x1 .f32 :=
  k0_pay43 (W87 q g b) (W237 q g b) (W390 q g b) (q 8) (cols g 4096 inb_S1x6144_S1x512_0_4096) (cols b 4096 inb_S1x6144_S1x512_0_4096)
def W426 (q : Fin 12 → Vec F S1x512x512 .f32) (g b : Vec F S1x6144 .f32) : FVec F S512 .f32 :=
  k0_pay46 (W87 q g b) (W237 q g b) (q 9) (cols g 4608 inb_S1x6144_S1x512_0_4608) (cols b 4608 inb_S1x6144_S1x512_0_4608)
def N10 (q : Fin 12 → Vec F S1x512x512 .f32) (g b : Vec F S1x6144 .f32) : FVec F S1x512x512 .f32 :=
  k0_pay48 (W87 q g b) (W237 q g b) (q 10) (cols g 5120 inb_S1x6144_S1x512_0_5120) (cols b 5120 inb_S1x6144_S1x512_0_5120)
def N11 (q : Fin 12 → Vec F S1x512x512 .f32) (g b : Vec F S1x6144 .f32) : FVec F S1x512x512 .f32 :=
  k0_pay51 (W87 q g b) (W237 q g b) (q 11) (cols g 5632 inb_S1x6144_S1x512_0_5632) (cols b 5632 inb_S1x6144_S1x512_0_5632)
def W447 (q : Fin 12 → Vec F S1x512x512 .f32) (g b : Vec F S1x6144 .f32) : FVec F S512x1 .f32 :=
  k0_pay49 (W87 q g b) (W237 q g b) (W409 q g b) (W426 q g b) (q 10) (cols g 5120 inb_S1x6144_S1x512_0_5120) (cols b 5120 inb_S1x6144_S1x512_0_5120)
def W463 (q : Fin 12 → Vec F S1x512x512 .f32) (g b : Vec F S1x6144 .f32) : FVec F S512x512 .f32 :=
  k0_pay52 (W87 q g b) (W237 q g b) (q 11) (cols g 5632 inb_S1x6144_S1x512_0_5632) (cols b 5632 inb_S1x6144_S1x512_0_5632)
def W472 (q : Fin 12 → Vec F S1x512x512 .f32) (g b : Vec F S1x6144 .f32) : FVec F S512x1 .f32 :=
  k0_pay53 (W447 q g b) (W463 q g b)
def W500 (q : Fin 12 → Vec F S1x512x512 .f32) (g b : Vec F S1x6144 .f32) : FVec F S512x512 .f32 :=
  k0_pay56 (N2 q g b)
def W575 (q : Fin 12 → Vec F S1x512x512 .f32) (g b : Vec F S1x6144 .f32) : IVec S512x512 8 :=
  k0_pay62 (W472 q g b) (N7 q g b)
def W614 (q : Fin 12 → Vec F S1x512x512 .f32) (g b : Vec F S1x6144 .f32) : IVec S512x512 8 :=
  k0_pay65 (W472 q g b) (N10 q g b)

theorem W55_def (q : Fin 12 → Vec F S1x512x512 .f32) (g b : Vec F S1x6144 .f32) :
    k0_pay5 (q 0) (q 1) (q 2) (q 3) (q 4) (q 5) = W55 q g b := rfl
theorem W87_def (q : Fin 12 → Vec F S1x512x512 .f32) (g b : Vec F S1x6144 .f32) :
    k0_pay6 (W55 q g b) (q 6) (q 7) (q 8) (q 9) (q 10) (q 11) = W87 q g b := rfl
theorem W91_def (q : Fin 12 → Vec F S1x512x512 .f32) (g b : Vec F S1x6144 .f32) :
    k0_pay7 (W55 q g b) (q 6) (q 7) (q 8) (q 9) (q 10) (q 11) (q 0) = W91 q g b := rfl
theorem W124_def (q : Fin 12 → Vec F S1x512x512 .f32) (g b : Vec F S1x6144 .f32) :
    k0_pay8 (W87 q g b) (W91 q g b) (q 0) (q 1) (q 1) (q 2) (q 2) = W124 q g b := rfl
theorem W128_def (q : Fin 12 → Vec F S1x512x512 .f32) (g b : Vec F S1x6144 .f32) :
    k0_pay9 (W87 q g b) (q 3) = W128 q g b := rfl
theorem W160_def (q : Fin 12 → Vec F S1x512x512 .f32) (g b : Vec F S1x6144 .f32) :
    k0_pay10 (W87 q g b) (W124 q g b) (W128 q g b) (q 3) (q 4) (q 4) (q 5) (q 5) = W160 q g b := rfl
theorem W164_def (q : Fin 12 → Vec F S1x512x512 .f32) (g b : Vec F S1x6144 .f32) :
    k0_pay11 (W87 q g b) (q 6) = W164 q g b := rfl
theorem W196_def (q : Fin 12 → Vec F S1x512x512 .f32) (g b : Vec F S1x6144 .f32) :
    k0_pay12 (W87 q g b) (W160 q g b) (W164 q g b) (q 6) (q 7) (q 7) (q 8) (q 8) = W196 q g b := rfl
theorem W200_def (q : Fin 12 → Vec F S1x512x512 .f32) (g b : Vec F S1x6144 .f32) :
    k0_pay13 (W87 q g b) (q 9) = W200 q g b := rfl
theorem W204_def (q : Fin 12 → Vec F S1x512x512 .f32) (g b : Vec F S1x6144 .f32) :
    k0_pay14 (W87 q g b) (q 9) = W204 q g b := rfl
theorem W237_def (q : Fin 12 → Vec F S1x512x512 .f32) (g b : Vec F S1x6144 .f32) :
    k0_pay15 (W87 q g b) (W196 q g b) (W200 q g b) (W204 q g b) (q 10) (q 10) (q 11) (q 11) = W237 q g b := rfl
theorem W238_def (q : Fin 12 → Vec F S1x512x512 .f32) (g b : Vec F S1x6144 .f32) :
    k0_pay16 (F := F) = W238 q g b := rfl
theorem W242_def (q : Fin 12 → Vec F S1x512x512 .f32) (g b : Vec F S1x6144 .f32) :
    k0_pay17 (W87 q g b) (q 0) = W242 q g b := rfl
theorem W243_def (q : Fin 12 → Vec F S1x512x512 .f32) (g b : Vec F S1x6144 .f32) :
    k0_pay18 (W87 q g b) (W196 q g b) (W200 q g b) (W204 q g b) (q 10) (q 10) (q 11) (q 11) = W243 q g b := rfl
theorem N0_def (q : Fin 12 → Vec F S1x512x512 .f32) (g b : Vec F S1x6144 .f32) :
    k0_pay20 (W242 q g b) (W243 q g b) (cols g 0 inb_S1x6144_S1x512_0_0) (cols b 0 inb_S1x6144_S1x512_0_0) = N0 q g b := rfl
theorem N1_def (q : Fin 12 → Vec F S1x512x512 .f32) (g b : Vec F S1x6144 .f32) :
    k0_pay22 (W87 q g b) (W237 q g b) (q 1) (cols g 512 inb_S1x6144_S1x512_0_512) (cols b 512 inb_S1x6144_S1x512_0_512) = N1 q g b := rfl
theorem W276_def (q : Fin 12 → Vec F S1x512x512 .f32) (g b : Vec F S1x6144 .f32) :
    k0_pay23 (W87 q g b) (W237 q g b) (W238 q g b) (W242 q g b) (W243 q g b) (cols g 0 inb_S1x6144_S1x512_0_0) (cols b 0 inb_S1x6144_S1x512_0_0) (q 1) (cols g 512 inb_S1x6144_S1x512_0_512) (cols b 512 inb_S1x6144_S1x512_0_512) = W276 q g b := rfl
theorem W278_def (q : Fin 12 → Vec F S1x512x512 .f32) (g b : Vec F S1x6144 .f32) :
    k0_pay24 (q 2) = W278 q g b := rfl
theorem W279_def (q : Fin 12 → Vec F S1x512x512 .f32) (g b : Vec F S1x6144 .f32) :
    k0_pay25 (W87 q g b) = W279 q g b := rfl
theorem N2_def (q : Fin 12 → Vec F S1x512x512 .f32) (g b : Vec F S1x6144 .f32) :
    k0_pay27 (W237 q g b) (W278 q g b) (W279 q g b) (cols g 1024 inb_S1x6144_S1x512_0_1024) (cols b 1024 inb_S1x6144_S1x512_0_1024) = N2 q g b := rfl
theorem N3_def (q : Fin 12 → Vec F S1x512x512 .f32) (g b : Vec F S1x6144 .f32) :
    k0_pay29 (W87 q g b) (W237 q g b) (q 3) (cols g 1536 inb_S1x6144_S1x512_0_1536) (cols b 1536 inb_S1x6144_S1x512_0_1536) = N3 q g b := rfl
theorem W314_def (q : Fin 12 → Vec F S1x512x512 .f32) (g b : Vec F S1x6144 .f32) :
    k0_pay30 (W87 q g b) (W237 q g b) (W276 q g b) (W278 q g b) (W279 q g b) (cols g 1024 inb_S1x6144_S1x512_0_1024) (cols b 1024 inb_S1x6144_S1x512_0_1024) (q 3) (cols g 1536 inb_S1x6144_S1x512_0_1536) (cols b 1536 inb_S1x6144_S1x512_0_1536) = W314 q g b := rfl
theorem N4_def (q : Fin 12 → Vec F S1x512x512 .f32) (g b : Vec F S1x6144 .f32) :
    k0_pay32 (W87 q g b) (W237 q g b) (q 4) (cols g 2048 inb_S1x6144_S1x512_0_2048) (cols b 2048 inb_S1x6144_S1x512_0_2048) = N4 q g b := rfl
theorem N5_def (q : Fin 12 → Vec F S1x512x512 .f32) (g b : Vec F S1x6144 .f32) :
    k0_pay34 (W87 q g b) (W237 q g b) (q 5) (cols g 2560 inb_S1x6144_S1x512_0_2560) (cols b 2560 inb_S1x6144_S1x512_0_2560) = N5 q g b := rfl
theorem W352_def (q : Fin 12 → Vec F S1x512x512 .f32) (g b : Vec F S1x6144 .f32) :
    k0_pay35 (W87 q g b) (W237 q g b) (W314 q g b) (q 4) (cols g 2048 inb_S1x6144_S1x512_0_2048) (cols b 2048 inb_S1x6144_S1x512_0_2048) (q 5) (cols g 2560 inb_S1x6144_S1x512_0_2560) (cols b 2560 inb_S1x6144_S1x512_0_2560) = W352 q g b := rfl
theorem N6_def (q : Fin 12 → Vec F S1x512x512 .f32) (g b : Vec F S1x6144 .f32) :
    k0_pay37 (W87 q g b) (W237 q g b) (q 6) (cols g 3072 inb_S1x6144_S1x512_0_3072) (cols b 3072 inb_S1x6144_S1x512_0_3072) = N6 q g b := rfl
theorem N7_def (q : Fin 12 → Vec F S1x512x512 .f32) (g b : Vec F S1x6144 .f32) :
    k0_pay39 (W87 q g b) (W237 q g b) (q 7) (cols g 3584 inb_S1x6144_S1x512_0_3584) (cols b 3584 inb_S1x6144_S1x512_0_3584) = N7 q g b := rfl
theorem W390_def (q : Fin 12 → Vec F S1x512x512 .f32) (g b : Vec F S1x6144 .f32) :
    k0_pay40 (W87 q g b) (W237 q g b) (W352 q g b) (q 6) (cols g 3072 inb_S1x6144_S1x512_0_3072) (cols b 3072 inb_S1x6144_S1x512_0_3072) (q 7) (cols g 3584 inb_S1x6144_S1x512_0_3584) (cols b 3584 inb_S1x6144_S1x512_0_3584) = W390 q g b := rfl
theorem N8_def (q : Fin 12 → Vec F S1x512x512 .f32) (g b : Vec F S1x6144 .f32) :
    k0_pay42 (W87 q g b) (W237 q g b) (q 8) (cols g 4096 inb_S1x6144_S1x512_0_4096) (cols b 4096 inb_S1x6144_S1x512_0_4096) = N8 q g b := rfl
theorem N9_def (q : Fin 12 → Vec F S1x512x512 .f32) (g b : Vec F S1x6144 .f32) :
    k0_pay45 (W87 q g b) (W237 q g b) (q 9) (cols g 4608 inb_S1x6144_S1x512_0_4608) (cols b 4608 inb_S1x6144_S1x512_0_4608) = N9 q g b := rfl
theorem W409_def (q : Fin 12 → Vec F S1x512x512 .f32) (g b : Vec F S1x6144 .f32) :
    k0_pay43 (W87 q g b) (W237 q g b) (W390 q g b) (q 8) (cols g 4096 inb_S1x6144_S1x512_0_4096) (cols b 4096 inb_S1x6144_S1x512_0_4096) = W409 q g b := rfl
theorem W426_def (q : Fin 12 → Vec F S1x512x512 .f32) (g b : Vec F S1x6144 .f32) :
    k0_pay46 (W87 q g b) (W237 q g b) (q 9) (cols g 4608 inb_S1x6144_S1x512_0_4608) (cols b 4608 inb_S1x6144_S1x512_0_4608) = W426 q g b := rfl
theorem N10_def (q : Fin 12 → Vec F S1x512x512 .f32) (g b : Vec F S1x6144 .f32) :
    k0_pay48 (W87 q g b) (W237 q g b) (q 10) (cols g 5120 inb_S1x6144_S1x512_0_5120) (cols b 5120 inb_S1x6144_S1x512_0_5120) = N10 q g b := rfl
theorem N11_def (q : Fin 12 → Vec F S1x512x512 .f32) (g b : Vec F S1x6144 .f32) :
    k0_pay51 (W87 q g b) (W237 q g b) (q 11) (cols g 5632 inb_S1x6144_S1x512_0_5632) (cols b 5632 inb_S1x6144_S1x512_0_5632) = N11 q g b := rfl
theorem W447_def (q : Fin 12 → Vec F S1x512x512 .f32) (g b : Vec F S1x6144 .f32) :
    k0_pay49 (W87 q g b) (W237 q g b) (W409 q g b) (W426 q g b) (q 10) (cols g 5120 inb_S1x6144_S1x512_0_5120) (cols b 5120 inb_S1x6144_S1x512_0_5120) = W447 q g b := rfl
theorem W463_def (q : Fin 12 → Vec F S1x512x512 .f32) (g b : Vec F S1x6144 .f32) :
    k0_pay52 (W87 q g b) (W237 q g b) (q 11) (cols g 5632 inb_S1x6144_S1x512_0_5632) (cols b 5632 inb_S1x6144_S1x512_0_5632) = W463 q g b := rfl
theorem W472_def (q : Fin 12 → Vec F S1x512x512 .f32) (g b : Vec F S1x6144 .f32) :
    k0_pay53 (W447 q g b) (W463 q g b) = W472 q g b := rfl
theorem W500_def (q : Fin 12 → Vec F S1x512x512 .f32) (g b : Vec F S1x6144 .f32) :
    k0_pay56 (N2 q g b) = W500 q g b := rfl
theorem W575_def (q : Fin 12 → Vec F S1x512x512 .f32) (g b : Vec F S1x6144 .f32) :
    k0_pay62 (W472 q g b) (N7 q g b) = W575 q g b := rfl
theorem W614_def (q : Fin 12 → Vec F S1x512x512 .f32) (g b : Vec F S1x6144 .f32) :
    k0_pay65 (W472 q g b) (N10 q g b) = W614 q g b := rfl
theorem cols_0 (g : Vec F S1x6144 .f32) : View.ld g (Rect.unit (s := S1x6144) ![0, 0] ![1, 512] inb_S1x6144_S1x512_0_0) = cols g 0 inb_S1x6144_S1x512_0_0 := rfl
theorem cols_512 (g : Vec F S1x6144 .f32) : View.ld g (Rect.unit (s := S1x6144) ![0, 512] ![1, 512] inb_S1x6144_S1x512_0_512) = cols g 512 inb_S1x6144_S1x512_0_512 := rfl
theorem cols_1024 (g : Vec F S1x6144 .f32) : View.ld g (Rect.unit (s := S1x6144) ![0, 1024] ![1, 512] inb_S1x6144_S1x512_0_1024) = cols g 1024 inb_S1x6144_S1x512_0_1024 := rfl
theorem cols_1536 (g : Vec F S1x6144 .f32) : View.ld g (Rect.unit (s := S1x6144) ![0, 1536] ![1, 512] inb_S1x6144_S1x512_0_1536) = cols g 1536 inb_S1x6144_S1x512_0_1536 := rfl
theorem cols_2048 (g : Vec F S1x6144 .f32) : View.ld g (Rect.unit (s := S1x6144) ![0, 2048] ![1, 512] inb_S1x6144_S1x512_0_2048) = cols g 2048 inb_S1x6144_S1x512_0_2048 := rfl
theorem cols_2560 (g : Vec F S1x6144 .f32) : View.ld g (Rect.unit (s := S1x6144) ![0, 2560] ![1, 512] inb_S1x6144_S1x512_0_2560) = cols g 2560 inb_S1x6144_S1x512_0_2560 := rfl
theorem cols_3072 (g : Vec F S1x6144 .f32) : View.ld g (Rect.unit (s := S1x6144) ![0, 3072] ![1, 512] inb_S1x6144_S1x512_0_3072) = cols g 3072 inb_S1x6144_S1x512_0_3072 := rfl
theorem cols_3584 (g : Vec F S1x6144 .f32) : View.ld g (Rect.unit (s := S1x6144) ![0, 3584] ![1, 512] inb_S1x6144_S1x512_0_3584) = cols g 3584 inb_S1x6144_S1x512_0_3584 := rfl
theorem cols_4096 (g : Vec F S1x6144 .f32) : View.ld g (Rect.unit (s := S1x6144) ![0, 4096] ![1, 512] inb_S1x6144_S1x512_0_4096) = cols g 4096 inb_S1x6144_S1x512_0_4096 := rfl
theorem cols_4608 (g : Vec F S1x6144 .f32) : View.ld g (Rect.unit (s := S1x6144) ![0, 4608] ![1, 512] inb_S1x6144_S1x512_0_4608) = cols g 4608 inb_S1x6144_S1x512_0_4608 := rfl
theorem cols_5120 (g : Vec F S1x6144 .f32) : View.ld g (Rect.unit (s := S1x6144) ![0, 5120] ![1, 512] inb_S1x6144_S1x512_0_5120) = cols g 5120 inb_S1x6144_S1x512_0_5120 := rfl
theorem cols_5632 (g : Vec F S1x6144 .f32) : View.ld g (Rect.unit (s := S1x6144) ![0, 5632] ![1, 512] inb_S1x6144_S1x512_0_5632) = cols g 5632 inb_S1x6144_S1x512_0_5632 := rfl

/-- The stores of the codes: twelve slices of 512 columns. -/
def codePieces (q : Fin 12 → Vec F S1x512x512 .f32) (g b : Vec F S1x6144 .f32) : List (View.Piece (Elt F) S512x6144 .i8) :=
  [⟨Rect.unit (s := S512x6144) ![0, 5632] S512x512.size inb_S512x6144_S512x512_0_5632, k0_pay3 (W472 q g b) (N11 q g b)⟩,
    ⟨Rect.unit (s := S512x6144) ![0, 5120] S512x512.size inb_S512x6144_S512x512_0_5120, W614 q g b⟩,
    ⟨Rect.unit (s := S512x6144) ![0, 4608] S512x512.size inb_S512x6144_S512x512_0_4608, k0_pay64 (W472 q g b) (N9 q g b)⟩,
    ⟨Rect.unit (s := S512x6144) ![0, 4096] S512x512.size inb_S512x6144_S512x512_0_4096, k0_pay63 (W472 q g b) (N8 q g b)⟩,
    ⟨Rect.unit (s := S512x6144) ![0, 3584] S512x512.size inb_S512x6144_S512x512_0_3584, W575 q g b⟩,
    ⟨Rect.unit (s := S512x6144) ![0, 3072] S512x512.size inb_S512x6144_S512x512_0_3072, k0_pay61 (W472 q g b) (N6 q g b)⟩,
    ⟨Rect.unit (s := S512x6144) ![0, 2560] S512x512.size inb_S512x6144_S512x512_0_2560, k0_pay60 (W472 q g b) (N5 q g b)⟩,
    ⟨Rect.unit (s := S512x6144) ![0, 2048] S512x512.size inb_S512x6144_S512x512_0_2048, k0_pay59 (W472 q g b) (N4 q g b)⟩,
    ⟨Rect.unit (s := S512x6144) ![0, 1536] S512x512.size inb_S512x6144_S512x512_0_1536, k0_pay58 (W472 q g b) (N3 q g b)⟩,
    ⟨Rect.unit (s := S512x6144) ![0, 1024] S512x512.size inb_S512x6144_S512x512_0_1024, k0_pay57 (W472 q g b) (W500 q g b)⟩,
    ⟨Rect.unit (s := S512x6144) ![0, 512] S512x512.size inb_S512x6144_S512x512_0_512, k0_pay55 (W447 q g b) (W463 q g b) (N1 q g b)⟩,
    ⟨Rect.unit (s := S512x6144) ![0, 0] S512x512.size inb_S512x6144_S512x512_0_0, k0_pay54 (W447 q g b) (W463 q g b) (N0 q g b)⟩]

/-- A load of a slice reads the store into it last made. -/
theorem load_own {κ : Kind} {sp : Space} {S : Shape} {e : EltTy} (v : View sig κ sp S e) (o o' z : Fin S.rank → ℕ) (inb) (w : (Rect.unit (s := S) o z inb).shape.Idx → Elt F e) (L)
    (inb') (ho : o = o') :
    v.readCov (⟨Rect.unit (s := S) o z inb, w⟩ :: L) (Rect.unit (s := S) o' z inb').toLoadRect = w := by
  subst ho
  exact View.readCov_cons_toLoadRect _ _ _ _

variable (m : (ℓ : Loc nD τ sig) → Buf (Elt F) ℓ)

/-- The residual stream's block that point `t` stores. -/
def resBlk (c : Dev nD) (t : Fin cfg0.N) : FVec F S512x512 .f32 :=
  k0_pay1 (View.ld (iblk m c 0 t) (Rect.unit (s := S512x3072) ![0, 0] S512x3072.size inb_S512x3072_S512x3072_0_0))
    (View.ld (iblk m c 2 t) (Rect.unit (s := S3072x512) ![0, 0] S3072x512.size inb_S3072x512_S3072x512_0_0))
    (View.ld (iblk m c 1 t) (Rect.unit (s := S512x128) ![0, 0] S512x1.size inb_S512x128_S512x1_0_0))
    (View.ld (iblk m c 3 t) (Rect.unit (s := S1x512) ![0, 0] S1x512.size inb_S1x512_S1x512_0_0))
    (View.ld (iblk m c 4 t) (Rect.unit (s := S1x512) ![0, 0] S1x512.size inb_S1x512_S1x512_0_0))
    (View.ld (iblk m c 5 t) (Rect.unit (s := S512x512) ![0, 0] S512x512.size inb_S512x512_S512x512_0_0))

theorem slice_eq (c : Dev nD) (t : Fin cfg0.N) : slice m c t = shapeCast S1x512x512 (resBlk m c t) shapeCasts_S512x512_S1x512x512 := rfl

set_option maxHeartbeats 400000 in
/-- The stores of the codes at the last point of a row of blocks, over the slices that the points of the row stored. -/
theorem runB_codes (c : Dev nD) (t : Fin cfg0.N) (h0 : t.val % 12 = 11) (p : Fin 11 → Vec F S1x512x512 .f32) (q : Fin 12 → Vec F S1x512x512 .f32)
    (hq : ∀ k : Fin 11, q k.castSucc = p k) (hq' : q 11 = slice m c t) :
    (runB m c t h0 p).2.1 = codePieces q (iblk m c 6 t) (iblk m c 7 t) := by
  unfold runB kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  have own (w) (hw : w = q 11) (L : List (View.Piece (Elt F) S12x512x512 .f32)) : View.readCov (Val := Elt F) (View.whole cc0_scratch0) (⟨Rect.unit (s := S12x512x512) ![BitVec.toNat (Scalar.indexCast (BitVec.ofNat 32 ↑(grid0.coords t 1))), 0, 0]
      ![1, 512, 512] (k0_off1_inb (grid0.coords t)), w⟩ :: L) (Rect.unit (s := S12x512x512) ![11, 0, 0] ![1, 512, 512] inb_S12x512x512_S1x512x512_11_0_0).toLoadRect = q 11 :=
    (load_own (View.whole cc0_scratch0) _ _ _ _ w L _ (hoff0_k0_off1_B t h0)).trans hw
  have e0 : p 0 = q 0 := (hq 0).symm
  have e1 : p 1 = q 1 := (hq 1).symm
  have e2 : p 2 = q 2 := (hq 2).symm
  have e3 : p 3 = q 3 := (hq 3).symm
  have e4 : p 4 = q 4 := (hq 4).symm
  have e5 : p 5 = q 5 := (hq 5).symm
  have e6 : p 6 = q 6 := (hq 6).symm
  have e7 : p 7 = q 7 := (hq 7).symm
  have e8 : p 8 = q 8 := (hq 8).symm
  have e9 : p 9 = q 9 := (hq 9).symm
  have e10 : p 10 = q 10 := (hq 10).symm
  have hq2 := hq'
  unfold slice at hq2
  simp (disch := decide) only [↓ View.readCov_cons_toLoadRect, ↓ View.readCov_skip, e0, e1, e2, e3, e4, e5, e6, e7, e8, e9, e10]
  rw [own _ (by exact hq2.symm)]
  simp only [cols_5632, cols_5120, cols_4608, cols_4096, cols_3584, cols_3072, cols_2560, cols_2048, cols_1536, cols_1024, cols_512, cols_0, W55_def q (iblk m c 6 t) (iblk m c 7 t), W87_def q (iblk m c 6 t) (iblk m c 7 t), W91_def q (iblk m c 6 t) (iblk m c 7 t), W124_def q (iblk m c 6 t) (iblk m c 7 t), W128_def q (iblk m c 6 t) (iblk m c 7 t), W160_def q (iblk m c 6 t) (iblk m c 7 t), W164_def q (iblk m c 6 t) (iblk m c 7 t), W196_def q (iblk m c 6 t) (iblk m c 7 t), W200_def q (iblk m c 6 t) (iblk m c 7 t), W204_def q (iblk m c 6 t) (iblk m c 7 t), W237_def q (iblk m c 6 t) (iblk m c 7 t), W238_def q (iblk m c 6 t) (iblk m c 7 t), W242_def q (iblk m c 6 t) (iblk m c 7 t), W243_def q (iblk m c 6 t) (iblk m c 7 t), N0_def q (iblk m c 6 t) (iblk m c 7 t), N1_def q (iblk m c 6 t) (iblk m c 7 t), W276_def q (iblk m c 6 t) (iblk m c 7 t), W278_def q (iblk m c 6 t) (iblk m c 7 t), W279_def q (iblk m c 6 t) (iblk m c 7 t), N2_def q (iblk m c 6 t) (iblk m c 7 t), N3_def q (iblk m c 6 t) (iblk m c 7 t), W314_def q (iblk m c 6 t) (iblk m c 7 t), N4_def q (iblk m c 6 t) (iblk m c 7 t), N5_def q (iblk m c 6 t) (iblk m c 7 t), W352_def q (iblk m c 6 t) (iblk m c 7 t), N6_def q (iblk m c 6 t) (iblk m c 7 t), N7_def q (iblk m c 6 t) (iblk m c 7 t), W390_def q (iblk m c 6 t) (iblk m c 7 t), N8_def q (iblk m c 6 t) (iblk m c 7 t), N9_def q (iblk m c 6 t) (iblk m c 7 t), W409_def q (iblk m c 6 t) (iblk m c 7 t), W426_def q (iblk m c 6 t) (iblk m c 7 t), N10_def q (iblk m c 6 t) (iblk m c 7 t), N11_def q (iblk m c 6 t) (iblk m c 7 t), W447_def q (iblk m c 6 t) (iblk m c 7 t), W463_def q (iblk m c 6 t) (iblk m c 7 t), W472_def q (iblk m c 6 t) (iblk m c 7 t), W500_def q (iblk m c 6 t) (iblk m c 7 t), W575_def q (iblk m c 6 t) (iblk m c 7 t), W614_def q (iblk m c 6 t) (iblk m c 7 t)]
  rfl

set_option maxHeartbeats 400000 in
/-- The stores of the scale, one lane wide over all lanes. -/
theorem runB_scale (c : Dev nD) (t : Fin cfg0.N) (h0 : t.val % 12 = 11) (p : Fin 11 → Vec F S1x512x512 .f32) (q : Fin 12 → Vec F S1x512x512 .f32)
    (hq : ∀ k : Fin 11, q k.castSucc = p k) (hq' : q 11 = slice m c t) :
    (runB m c t h0 p).2.2.1 = [⟨Rect.unit (s := S512x128) ![0, 0] S512x128.size inb_S512x128_S512x128_0_0, k0_pay4 (W472 q (iblk m c 6 t) (iblk m c 7 t))⟩] := by
  unfold runB kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread]
  have own (w) (hw : w = q 11) (L : List (View.Piece (Elt F) S12x512x512 .f32)) : View.readCov (Val := Elt F) (View.whole cc0_scratch0) (⟨Rect.unit (s := S12x512x512) ![BitVec.toNat (Scalar.indexCast (BitVec.ofNat 32 ↑(grid0.coords t 1))), 0, 0]
      ![1, 512, 512] (k0_off1_inb (grid0.coords t)), w⟩ :: L) (Rect.unit (s := S12x512x512) ![11, 0, 0] ![1, 512, 512] inb_S12x512x512_S1x512x512_11_0_0).toLoadRect = q 11 :=
    (load_own (View.whole cc0_scratch0) _ _ _ _ w L _ (hoff0_k0_off1_B t h0)).trans hw
  have e0 : p 0 = q 0 := (hq 0).symm
  have e1 : p 1 = q 1 := (hq 1).symm
  have e2 : p 2 = q 2 := (hq 2).symm
  have e3 : p 3 = q 3 := (hq 3).symm
  have e4 : p 4 = q 4 := (hq 4).symm
  have e5 : p 5 = q 5 := (hq 5).symm
  have e6 : p 6 = q 6 := (hq 6).symm
  have e7 : p 7 = q 7 := (hq 7).symm
  have e8 : p 8 = q 8 := (hq 8).symm
  have e9 : p 9 = q 9 := (hq 9).symm
  have e10 : p 10 = q 10 := (hq 10).symm
  have hq2 := hq'
  unfold slice at hq2
  simp (disch := decide) only [↓ View.readCov_cons_toLoadRect, ↓ View.readCov_skip, e0, e1, e2, e3, e4, e5, e6, e7, e8, e9, e10]
  rw [own _ (by exact hq2.symm)]
  simp only [cols_5632, cols_5120, cols_4608, cols_4096, cols_3584, cols_3072, cols_2560, cols_2048, cols_1536, cols_1024, cols_512, cols_0, W55_def q (iblk m c 6 t) (iblk m c 7 t), W87_def q (iblk m c 6 t) (iblk m c 7 t), W91_def q (iblk m c 6 t) (iblk m c 7 t), W124_def q (iblk m c 6 t) (iblk m c 7 t), W128_def q (iblk m c 6 t) (iblk m c 7 t), W160_def q (iblk m c 6 t) (iblk m c 7 t), W164_def q (iblk m c 6 t) (iblk m c 7 t), W196_def q (iblk m c 6 t) (iblk m c 7 t), W200_def q (iblk m c 6 t) (iblk m c 7 t), W204_def q (iblk m c 6 t) (iblk m c 7 t), W237_def q (iblk m c 6 t) (iblk m c 7 t), W238_def q (iblk m c 6 t) (iblk m c 7 t), W242_def q (iblk m c 6 t) (iblk m c 7 t), W243_def q (iblk m c 6 t) (iblk m c 7 t), N0_def q (iblk m c 6 t) (iblk m c 7 t), N1_def q (iblk m c 6 t) (iblk m c 7 t), W276_def q (iblk m c 6 t) (iblk m c 7 t), W278_def q (iblk m c 6 t) (iblk m c 7 t), W279_def q (iblk m c 6 t) (iblk m c 7 t), N2_def q (iblk m c 6 t) (iblk m c 7 t), N3_def q (iblk m c 6 t) (iblk m c 7 t), W314_def q (iblk m c 6 t) (iblk m c 7 t), N4_def q (iblk m c 6 t) (iblk m c 7 t), N5_def q (iblk m c 6 t) (iblk m c 7 t), W352_def q (iblk m c 6 t) (iblk m c 7 t), N6_def q (iblk m c 6 t) (iblk m c 7 t), N7_def q (iblk m c 6 t) (iblk m c 7 t), W390_def q (iblk m c 6 t) (iblk m c 7 t), N8_def q (iblk m c 6 t) (iblk m c 7 t), N9_def q (iblk m c 6 t) (iblk m c 7 t), W409_def q (iblk m c 6 t) (iblk m c 7 t), W426_def q (iblk m c 6 t) (iblk m c 7 t), N10_def q (iblk m c 6 t) (iblk m c 7 t), N11_def q (iblk m c 6 t) (iblk m c 7 t), W447_def q (iblk m c 6 t) (iblk m c 7 t), W463_def q (iblk m c 6 t) (iblk m c 7 t), W472_def q (iblk m c 6 t) (iblk m c 7 t), W500_def q (iblk m c 6 t) (iblk m c 7 t), W575_def q (iblk m c 6 t) (iblk m c 7 t), W614_def q (iblk m c 6 t) (iblk m c 7 t)]

/-- The store of the residual stream's block, at the last point of a row of blocks -/
theorem runB_res (c : Dev nD) (t : Fin cfg0.N) (h0 : t.val % 12 = 11) (p : Fin 11 → Vec F S1x512x512 .f32) :
    (runB m c t h0 p).1 = [⟨Rect.unit (s := S512x512) ![0, 0] S512x512.size inb_S512x512_S512x512_0_0, resBlk m c t⟩] := by
  unfold resBlk runB kernelRun0_B
  dsimp only
  simp only [View.readAt_eq_ld, (hs0_0 t).read_unread, (hs0_1 t).read_unread, (hs0_2 t).read_unread, (hs0_3 t).read_unread,
    (hs0_4 t).read_unread, (hs0_5 t).read_unread]
  rfl

/-- … and at the others. -/
theorem runA_res (c : Dev nD) (t : Fin cfg0.N) (h0 : ¬t.val % 12 = 11) :
    (runA m c t h0).1 = [⟨Rect.unit (s := S512x512) ![0, 0] S512x512.size inb_S512x512_S512x512_0_0, resBlk m c t⟩] := by
  unfold resBlk runA kernelRun0_A
  dsimp only
  simp only [View.readAt_eq_ld, (hs0_0 t).read_unread, (hs0_1 t).read_unread, (hs0_2 t).read_unread, (hs0_3 t).read_unread,
    (hs0_4 t).read_unread, (hs0_5 t).read_unread]
  rfl

end Cert.V.Oproj

end
-- ==== Proof.V.OprojPays.lean ====
/-
  What the output projection's last point of a row of blocks computes, at the ideal instance, read at an index, one
  stored or carried value at a time.
-/
module

public import proofs.«01_k».proof.Proof.V.OprojSpec
public import proofs.«01_k».proof.Proof.V.OprojPieces

@[expose] public section

noncomputable section

namespace Cert.V.Oproj

open Idealize.ShloMosaic
open scoped BigOperators
open Cert.OprojIdeal Cert.OprojIdeal.Gen

/-- A slice of 512 columns. -/
abbrev Sl := Vec Ideal ⟨3, ![1, 512, 512]⟩ .f32
/-- A block of rows. -/
abbrev Mx := FVec Ideal ⟨2, ![512, 512]⟩ .f32
/-- A column: one number for a row. -/
abbrev Col := FVec Ideal ⟨2, ![512, 1]⟩ .f32
/-- 512 entries of a row vector. -/
abbrev Rw := Vec Ideal ⟨2, ![1, 512]⟩ .f32

/-- The sum of a slice's row. -/
def sumOf (a : Sl) (r : Fin 512) : EReal := ∑ l : Fin 512, (a (ix3 0 r l) : EReal)

/-- The sum of the squares of a slice's row less `m`. -/
def sqOf (m : EReal) (a : Sl) (r : Fin 512) : EReal := ∑ l : Fin 512, ((a (ix3 0 r l) : EReal) - m) * ((a (ix3 0 r l) : EReal) - m)

/-- The greatest magnitude of a row. -/
def mxOf (f : Fin 512 → EReal) : EReal := rowMax fun l => absOf (f l)

/-- The residual sum's block at an index. -/
theorem pay1_apply (x0 : Vec Ideal ⟨2, ![512, 3072]⟩ .i8) (x2 : Vec Ideal ⟨2, ![3072, 512]⟩ .i8) (x1 : Vec Ideal ⟨2, ![512, 1]⟩ .f32)
    (x3 x4 : Rw) (x5 : Vec Ideal ⟨2, ![512, 512]⟩ .bf16) (r c : Fin 512) :
    (k0_pay1 (F := Ideal) x0 x2 x1 x3 x4 x5 (ix2 r c) : EReal)
      = (x5 (ix2 r c) : EReal) + linAt x0 (fun r => x1 (ix2 r 0)) x2 (fun c => x3 (ix2 0 c)) (fun c => x4 (ix2 0 c)) r c := by
  pointwise [k0_pay1, linAt, dotAt] <;> rfl

/-- A row of a slice is the residual sum's. -/
theorem pay2_apply (x0 : Vec Ideal ⟨2, ![512, 3072]⟩ .i8) (x2 : Vec Ideal ⟨2, ![3072, 512]⟩ .i8) (x1 : Vec Ideal ⟨2, ![512, 1]⟩ .f32)
    (x3 x4 : Rw) (x5 : Vec Ideal ⟨2, ![512, 512]⟩ .bf16) (r c : Fin 512) :
    (k0_pay2 (F := Ideal) x0 x2 x1 x3 x4 x5 (ix3 0 r c) : EReal) = k0_pay1 (F := Ideal) x0 x2 x1 x3 x4 x5 (ix2 r c) := by
  pointwise [k0_pay2] <;> rfl

theorem pay5_apply (a b c d e f : Sl) (r : Fin 512) : (k0_pay5 (F := Ideal) a b c d e f (ix2 r 0) : EReal)
    = 0 + sumOf a r + sumOf b r + sumOf c r + sumOf d r + sumOf e r + sumOf f r := by
  pointwise [k0_pay5, sumOf] <;> rfl

theorem pay6_apply (s : Col) (a b c d e f : Sl) (r : Fin 512) : (k0_pay6 (F := Ideal) s a b c d e f (ix2 r 0) : EReal)
    = Ideal.div (s (ix2 r 0) + sumOf a r + sumOf b r + sumOf c r + sumOf d r + sumOf e r + sumOf f r) (Ideal.ofBits .f32 0x45C00000#32) := by
  pointwise [k0_pay6, sumOf] <;> rfl

theorem pay7_apply (s : Col) (a b c d e f x : Sl) (r l : Fin 512) : (k0_pay7 (F := Ideal) s a b c d e f x (ix2 r l) : EReal)
    = x (ix3 0 r l) - k0_pay6 (F := Ideal) s a b c d e f (ix2 r 0) := by
  pointwise [k0_pay7] <;> rfl

theorem pay8_apply (m : Col) (w : Mx) (a b c : Sl) (r : Fin 512) : (k0_pay8 (F := Ideal) m w a b b c c (ix2 r 0) : EReal)
    = 0 + (∑ l : Fin 512, (w (ix2 r l) : EReal) * (a (ix3 0 r l) - m (ix2 r 0))) + sqOf (m (ix2 r 0)) b r + sqOf (m (ix2 r 0)) c r := by
  pointwise [k0_pay8, sqOf] <;> rfl

theorem pay18_apply (m v : Col) (w w' : Mx) (a b c d : Sl) (r l : Fin 512) : (k0_pay18 (F := Ideal) m v w w' a b c d (ix2 r l) : EReal)
    = k0_pay15 (F := Ideal) m v w w' a b c d (ix2 r 0) := by
  pointwise [k0_pay18] <;> rfl

theorem pay15_apply (m v : Col) (w w' : Mx) (a b : Sl) (r : Fin 512) : (k0_pay15 (F := Ideal) m v w w' a a b b (ix2 r 0) : EReal)
    = Ideal.sqrt (Ideal.div (v (ix2 r 0) + (∑ l : Fin 512, (w (ix2 r l) : EReal) * w' (ix2 r l)) + sqOf (m (ix2 r 0)) a r + sqOf (m (ix2 r 0)) b r)
        (Ideal.ofBits .f32 0x45C00000#32) + Ideal.ofBits .f32 0x3727C5AC#32) := by
  pointwise [k0_pay15, sqOf] <;> rfl

theorem pay16_apply (r : Fin 512) : (k0_pay16 (F := Ideal) (ix2 r 0) : EReal) = 0 := by
  pointwise [k0_pay16] <;> rfl

theorem pay24_apply (x : Sl) (r l : Fin 512) : (k0_pay24 (F := Ideal) x (ix2 r l) : EReal) = x (ix3 0 r l) := by
  pointwise [k0_pay24] <;> rfl

theorem pay56_apply (x : Sl) (r l : Fin 512) : (k0_pay56 (F := Ideal) x (ix2 r l) : EReal) = x (ix3 0 r l) := by
  pointwise [k0_pay56] <;> rfl

theorem pay25_apply (m : Col) (r l : Fin 512) : (k0_pay25 (F := Ideal) m (ix2 r l) : EReal) = m (ix2 r 0) := by
  pointwise [k0_pay25] <;> rfl

theorem pay20_apply (x d : Mx) (g b : Rw) (r l : Fin 512) : (k0_pay20 (F := Ideal) x d g b (ix3 0 r l) : EReal)
    = Ideal.div (x (ix2 r l)) (d (ix2 r l)) * g (ix2 0 l) + b (ix2 0 l) := by
  pointwise [k0_pay20, k0_pay19] <;> rfl

theorem pay27_apply (d : Col) (x m : Mx) (g b : Rw) (r l : Fin 512) : (k0_pay27 (F := Ideal) d x m g b (ix3 0 r l) : EReal)
    = nv (m (ix2 r l)) (d (ix2 r 0)) (x (ix2 r l)) (g (ix2 0 l)) (b (ix2 0 l)) := by
  pointwise [k0_pay27, k0_pay26, nv] <;> rfl

theorem pay10_apply (m v : Col) (w : Mx) (a b c : Sl) (r : Fin 512) : (k0_pay10 (F := Ideal) m v w a b b c c (ix2 r 0) : EReal)
    = v (ix2 r 0) + (∑ l : Fin 512, (w (ix2 r l) : EReal) * (a (ix3 0 r l) - m (ix2 r 0))) + sqOf (m (ix2 r 0)) b r + sqOf (m (ix2 r 0)) c r := by
  pointwise [k0_pay10, sqOf] <;> rfl

theorem pay12_apply (m v : Col) (w : Mx) (a b c : Sl) (r : Fin 512) : (k0_pay12 (F := Ideal) m v w a b b c c (ix2 r 0) : EReal)
    = v (ix2 r 0) + (∑ l : Fin 512, (w (ix2 r l) : EReal) * (a (ix3 0 r l) - m (ix2 r 0))) + sqOf (m (ix2 r 0)) b r + sqOf (m (ix2 r 0)) c r := by
  pointwise [k0_pay12, sqOf] <;> rfl

theorem pay9_apply (m : Col) (x : Sl) (r l : Fin 512) : (k0_pay9 (F := Ideal) m x (ix2 r l) : EReal) = x (ix3 0 r l) - m (ix2 r 0) := by
  pointwise [k0_pay9] <;> rfl

theorem pay11_apply (m : Col) (x : Sl) (r l : Fin 512) : (k0_pay11 (F := Ideal) m x (ix2 r l) : EReal) = x (ix3 0 r l) - m (ix2 r 0) := by
  pointwise [k0_pay11] <;> rfl

theorem pay13_apply (m : Col) (x : Sl) (r l : Fin 512) : (k0_pay13 (F := Ideal) m x (ix2 r l) : EReal) = x (ix3 0 r l) - m (ix2 r 0) := by
  pointwise [k0_pay13] <;> rfl

theorem pay14_apply (m : Col) (x : Sl) (r l : Fin 512) : (k0_pay14 (F := Ideal) m x (ix2 r l) : EReal) = x (ix3 0 r l) - m (ix2 r 0) := by
  pointwise [k0_pay14] <;> rfl

theorem pay17_apply (m : Col) (x : Sl) (r l : Fin 512) : (k0_pay17 (F := Ideal) m x (ix2 r l) : EReal) = x (ix3 0 r l) - m (ix2 r 0) := by
  pointwise [k0_pay17] <;> rfl

theorem pay22_apply (m d : Col) (x : Sl) (g b : Rw) (r l : Fin 512) : (k0_pay22 (F := Ideal) m d x g b (ix3 0 r l) : EReal)
    = nv (m (ix2 r 0)) (d (ix2 r 0)) (x (ix3 0 r l)) (g (ix2 0 l)) (b (ix2 0 l)) := by
  pointwise [k0_pay22, k0_pay21, nv] <;> rfl

theorem pay29_apply (m d : Col) (x : Sl) (g b : Rw) (r l : Fin 512) : (k0_pay29 (F := Ideal) m d x g b (ix3 0 r l) : EReal)
    = nv (m (ix2 r 0)) (d (ix2 r 0)) (x (ix3 0 r l)) (g (ix2 0 l)) (b (ix2 0 l)) := by
  pointwise [k0_pay29, k0_pay28, nv] <;> rfl

theorem pay32_apply (m d : Col) (x : Sl) (g b : Rw) (r l : Fin 512) : (k0_pay32 (F := Ideal) m d x g b (ix3 0 r l) : EReal)
    = nv (m (ix2 r 0)) (d (ix2 r 0)) (x (ix3 0 r l)) (g (ix2 0 l)) (b (ix2 0 l)) := by
  pointwise [k0_pay32, k0_pay31, nv] <;> rfl

theorem pay34_apply (m d : Col) (x : Sl) (g b : Rw) (r l : Fin 512) : (k0_pay34 (F := Ideal) m d x g b (ix3 0 r l) : EReal)
    = nv (m (ix2 r 0)) (d (ix2 r 0)) (x (ix3 0 r l)) (g (ix2 0 l)) (b (ix2 0 l)) := by
  pointwise [k0_pay34, k0_pay33, nv] <;> rfl

theorem pay37_apply (m d : Col) (x : Sl) (g b : Rw) (r l : Fin 512) : (k0_pay37 (F := Ideal) m d x g b (ix3 0 r l) : EReal)
    = nv (m (ix2 r 0)) (d (ix2 r 0)) (x (ix3 0 r l)) (g (ix2 0 l)) (b (ix2 0 l)) := by
  pointwise [k0_pay37, k0_pay36, nv] <;> rfl

theorem pay39_apply (m d : Col) (x : Sl) (g b : Rw) (r l : Fin 512) : (k0_pay39 (F := Ideal) m d x g b (ix3 0 r l) : EReal)
    = nv (m (ix2 r 0)) (d (ix2 r 0)) (x (ix3 0 r l)) (g (ix2 0 l)) (b (ix2 0 l)) := by
  pointwise [k0_pay39, k0_pay38, nv] <;> rfl

theorem pay42_apply (m d : Col) (x : Sl) (g b : Rw) (r l : Fin 512) : (k0_pay42 (F := Ideal) m d x g b (ix3 0 r l) : EReal)
    = nv (m (ix2 r 0)) (d (ix2 r 0)) (x (ix3 0 r l)) (g (ix2 0 l)) (b (ix2 0 l)) := by
  pointwise [k0_pay42, k0_pay41, nv] <;> rfl

theorem pay45_apply (m d : Col) (x : Sl) (g b : Rw) (r l : Fin 512) : (k0_pay45 (F := Ideal) m d x g b (ix3 0 r l) : EReal)
    = nv (m (ix2 r 0)) (d (ix2 r 0)) (x (ix3 0 r l)) (g (ix2 0 l)) (b (ix2 0 l)) := by
  pointwise [k0_pay45, k0_pay44, nv] <;> rfl

theorem pay48_apply (m d : Col) (x : Sl) (g b : Rw) (r l : Fin 512) : (k0_pay48 (F := Ideal) m d x g b (ix3 0 r l) : EReal)
    = nv (m (ix2 r 0)) (d (ix2 r 0)) (x (ix3 0 r l)) (g (ix2 0 l)) (b (ix2 0 l)) := by
  pointwise [k0_pay48, k0_pay47, nv] <;> rfl

theorem pay51_apply (m d : Col) (x : Sl) (g b : Rw) (r l : Fin 512) : (k0_pay51 (F := Ideal) m d x g b (ix3 0 r l) : EReal)
    = nv (m (ix2 r 0)) (d (ix2 r 0)) (x (ix3 0 r l)) (g (ix2 0 l)) (b (ix2 0 l)) := by
  pointwise [k0_pay51, k0_pay50, nv] <;> rfl

theorem pay23_apply (m d z : Col) (x0 d0 : Mx) (g b : Rw) (y : Sl) (g' b' : Rw) (r : Fin 512) :
    (k0_pay23 (F := Ideal) m d z x0 d0 g b y g' b' (ix2 r 0) : EReal)
    = max (max (z (ix2 r 0)) (mxOf fun l => Ideal.div (x0 (ix2 r l)) (d0 (ix2 r l)) * g (ix2 0 l) + b (ix2 0 l))) (mxOf fun l => nv (m (ix2 r 0)) (d (ix2 r 0)) (y (ix3 0 r l)) (g' (ix2 0 l)) (b' (ix2 0 l))) := by
  pointwise [k0_pay23, k0_pay19, k0_pay21, nv, mxOf, rowMax, absOf]
  rfl

theorem pay30_apply (m d z : Col) (x0 m0 : Mx) (g b : Rw) (y : Sl) (g' b' : Rw) (r : Fin 512) :
    (k0_pay30 (F := Ideal) m d z x0 m0 g b y g' b' (ix2 r 0) : EReal)
    = max (max (z (ix2 r 0)) (mxOf fun l => nv (m0 (ix2 r l)) (d (ix2 r 0)) (x0 (ix2 r l)) (g (ix2 0 l)) (b (ix2 0 l)))) (mxOf fun l => nv (m (ix2 r 0)) (d (ix2 r 0)) (y (ix3 0 r l)) (g' (ix2 0 l)) (b' (ix2 0 l))) := by
  pointwise [k0_pay30, k0_pay26, k0_pay28, nv, mxOf, rowMax, absOf]
  rfl

theorem pay35_apply (m d z : Col) (x : Sl) (g b : Rw) (y : Sl) (g' b' : Rw) (r : Fin 512) :
    (k0_pay35 (F := Ideal) m d z x g b y g' b' (ix2 r 0) : EReal)
    = max (max (z (ix2 r 0)) (mxOf fun l => nv (m (ix2 r 0)) (d (ix2 r 0)) (x (ix3 0 r l)) (g (ix2 0 l)) (b (ix2 0 l)))) (mxOf fun l => nv (m (ix2 r 0)) (d (ix2 r 0)) (y (ix3 0 r l)) (g' (ix2 0 l)) (b' (ix2 0 l))) := by
  pointwise [k0_pay35, k0_pay31, k0_pay33, nv, mxOf, rowMax, absOf]
  rfl

theorem pay40_apply (m d z : Col) (x : Sl) (g b : Rw) (y : Sl) (g' b' : Rw) (r : Fin 512) :
    (k0_pay40 (F := Ideal) m d z x g b y g' b' (ix2 r 0) : EReal)
    = max (max (z (ix2 r 0)) (mxOf fun l => nv (m (ix2 r 0)) (d (ix2 r 0)) (x (ix3 0 r l)) (g (ix2 0 l)) (b (ix2 0 l)))) (mxOf fun l => nv (m (ix2 r 0)) (d (ix2 r 0)) (y (ix3 0 r l)) (g' (ix2 0 l)) (b' (ix2 0 l))) := by
  pointwise [k0_pay40, k0_pay36, k0_pay38, nv, mxOf, rowMax, absOf]
  rfl

theorem pay43_apply (m d z : Col) (x : Sl) (g b : Rw) (r : Fin 512) :
    (k0_pay43 (F := Ideal) m d z x g b (ix2 r 0) : EReal) = max (z (ix2 r 0)) (mxOf fun l => nv (m (ix2 r 0)) (d (ix2 r 0)) (x (ix3 0 r l)) (g (ix2 0 l)) (b (ix2 0 l))) := by
  pointwise [k0_pay43, k0_pay41, nv, mxOf, rowMax, absOf]
  rfl

theorem pay46_apply (m d : Col) (x : Sl) (g b : Rw) (r : Fin 512) :
    (k0_pay46 (F := Ideal) m d x g b (ix1 r) : EReal) = (mxOf fun l => nv (m (ix2 r 0)) (d (ix2 r 0)) (x (ix3 0 r l)) (g (ix2 0 l)) (b (ix2 0 l))) := by
  pointwise [k0_pay46, k0_pay44, nv, mxOf, rowMax, absOf]
  rfl

theorem pay49_apply (m d z : Col) (v : FVec Ideal ⟨1, ![512]⟩ .f32) (x : Sl) (g b : Rw) (r : Fin 512) :
    (k0_pay49 (F := Ideal) m d z v x g b (ix2 r 0) : EReal) = max (max (z (ix2 r 0)) (v (ix1 r))) (mxOf fun l => nv (m (ix2 r 0)) (d (ix2 r 0)) (x (ix3 0 r l)) (g (ix2 0 l)) (b (ix2 0 l))) := by
  pointwise [k0_pay49, k0_pay47, nv, mxOf, rowMax, absOf]
  rfl

/-- A row's greatest magnitude times the 127th is the quotient of the scale. -/
theorem scale_named (a : EReal) :
    scaleOf a = if a = 0 then 1 else a * (Named.named (F := Ideal) (φ := .f32) Cert.OprojIdeal.κ "inv_127" 0x3C010204#32 : EReal) := by
  rw [IdealRules.named_const.ideal_named_scalar Cert.OprojIdeal.κ "inv_127" (φ := .f32) 0x3C010204#32 _ rfl, mul_inv_127]
  rfl

theorem pay53_apply (m d z : Col) (x : Sl) (g b : Rw) (r : Fin 512) :
    (k0_pay53 (F := Ideal) z (k0_pay52 (F := Ideal) m d x g b) (ix2 r 0) : EReal) = scaleOf (max (z (ix2 r 0)) (mxOf fun l => nv (m (ix2 r 0)) (d (ix2 r 0)) (x (ix3 0 r l)) (g (ix2 0 l)) (b (ix2 0 l)))) := by
  rw [scale_named]
  pointwise [k0_pay53, k0_pay52, k0_pay50, nv, mxOf, rowMax, absOf]
  rfl

theorem pay4_apply (s : Col) (r : Fin 512) (l : Fin 128) : (k0_pay4 (F := Ideal) s (ix2 r l) : EReal) = s (ix2 r 0) := by
  pointwise [k0_pay4] <;> rfl

theorem pay57_apply (s : Col) (x : Mx) (r l : Fin 512) : k0_pay57 (F := Ideal) s x (ix2 r l) = codeOf (x (ix2 r l)) (s (ix2 r 0)) := by
  pointwise [k0_pay57, codeOf] <;> rfl

theorem pay3_apply (s : Col) (x : Sl) (r l : Fin 512) : k0_pay3 (F := Ideal) s x (ix2 r l) = codeOf (x (ix3 0 r l)) (s (ix2 r 0)) := by
  pointwise [k0_pay3, codeOf] <;> rfl

theorem pay58_apply (s : Col) (x : Sl) (r l : Fin 512) : k0_pay58 (F := Ideal) s x (ix2 r l) = codeOf (x (ix3 0 r l)) (s (ix2 r 0)) := by
  pointwise [k0_pay58, codeOf] <;> rfl

theorem pay59_apply (s : Col) (x : Sl) (r l : Fin 512) : k0_pay59 (F := Ideal) s x (ix2 r l) = codeOf (x (ix3 0 r l)) (s (ix2 r 0)) := by
  pointwise [k0_pay59, codeOf] <;> rfl

theorem pay60_apply (s : Col) (x : Sl) (r l : Fin 512) : k0_pay60 (F := Ideal) s x (ix2 r l) = codeOf (x (ix3 0 r l)) (s (ix2 r 0)) := by
  pointwise [k0_pay60, codeOf] <;> rfl

theorem pay61_apply (s : Col) (x : Sl) (r l : Fin 512) : k0_pay61 (F := Ideal) s x (ix2 r l) = codeOf (x (ix3 0 r l)) (s (ix2 r 0)) := by
  pointwise [k0_pay61, codeOf] <;> rfl

theorem pay62_apply (s : Col) (x : Sl) (r l : Fin 512) : k0_pay62 (F := Ideal) s x (ix2 r l) = codeOf (x (ix3 0 r l)) (s (ix2 r 0)) := by
  pointwise [k0_pay62, codeOf] <;> rfl

theorem pay63_apply (s : Col) (x : Sl) (r l : Fin 512) : k0_pay63 (F := Ideal) s x (ix2 r l) = codeOf (x (ix3 0 r l)) (s (ix2 r 0)) := by
  pointwise [k0_pay63, codeOf] <;> rfl

theorem pay64_apply (s : Col) (x : Sl) (r l : Fin 512) : k0_pay64 (F := Ideal) s x (ix2 r l) = codeOf (x (ix3 0 r l)) (s (ix2 r 0)) := by
  pointwise [k0_pay64, codeOf] <;> rfl

theorem pay65_apply (s : Col) (x : Sl) (r l : Fin 512) : k0_pay65 (F := Ideal) s x (ix2 r l) = codeOf (x (ix3 0 r l)) (s (ix2 r 0)) := by
  pointwise [k0_pay65, codeOf] <;> rfl

theorem pay54_apply (z : Col) (w : Mx) (x : Sl) (r l : Fin 512) : k0_pay54 (F := Ideal) z w x (ix2 r l)
    = codeOf (x (ix3 0 r l)) (k0_pay53 (F := Ideal) z w (ix2 r 0)) := by
  pointwise [k0_pay54, codeOf] <;> rfl

theorem pay55_apply (z : Col) (w : Mx) (x : Sl) (r l : Fin 512) : k0_pay55 (F := Ideal) z w x (ix2 r l)
    = codeOf (x (ix3 0 r l)) (k0_pay53 (F := Ideal) z w (ix2 r 0)) := by
  pointwise [k0_pay55, codeOf] <;> rfl

end Cert.V.Oproj

end
-- ==== Proof.V.OprojNorm.lean ====
/-
  The layer norm that the output projection's last point of a row of blocks computes slice by slice is the norm of the
  whole row; and so are its scale and its codes.
-/
module

public import proofs.«01_k».proof.Proof.V.OprojPays

@[expose] public section

noncomputable section

namespace Cert.V.Oproj

open Idealize.ShloMosaic
open scoped BigOperators
open Cert.OprojIdeal Cert.OprojIdeal.Gen

/-- Column `l` of slice `k`, among all the columns. -/
def at12 (k : Fin 12) (l : Fin 512) : Fin 6144 := ⟨k.val * 512 + l.val, by have := k.isLt; have := l.isLt; omega⟩

/-- Row `r` of twelve slices side by side. -/
def rowOf (q : Fin 12 → Sl) (r : Fin 512) (c : Fin 6144) : EReal :=
  (q ⟨c.val / 512, by have := c.isLt; omega⟩ (ix3 0 r ⟨c.val % 512, by omega⟩) : EReal)

theorem rowOf_at (q : Fin 12 → Sl) (r : Fin 512) (k : Fin 12) (l : Fin 512) : rowOf q r (at12 k l) = (q k (ix3 0 r l) : EReal) := by
  have hl := l.isLt
  have h0 : (⟨(at12 k l).val / 512, by have := (at12 k l).isLt; omega⟩ : Fin 12) = k :=
    Fin.ext (by show (k.val * 512 + l.val) / 512 = k.val; omega)
  have h1 : (⟨(at12 k l).val % 512, by omega⟩ : Fin 512) = l := Fin.ext (by show (k.val * 512 + l.val) % 512 = l.val; omega)
  unfold rowOf
  rw [h0, h1]

/-- Every column lies in a slice. -/
theorem at12_surj (c : Fin 6144) : ∃ k l, c = at12 k l :=
  ⟨⟨c.val / 512, by have := c.isLt; omega⟩, ⟨c.val % 512, by omega⟩, Fin.ext (by show c.val = c.val / 512 * 512 + c.val % 512; omega)⟩

/-- Twelve numbers added up one after the other. -/
theorem sum12 (S : Fin 12 → EReal) : ∑ k, S k = 0 + S 0 + S 1 + S 2 + S 3 + S 4 + S 5 + S 6 + S 7 + S 8 + S 9 + S 10 + S 11 := by
  simp only [Fin.sum_univ_castSucc, Finset.univ_eq_empty, Finset.sum_empty]
  rfl

/-- A sum over the columns is a sum over the slices. -/
theorem sum_at12 (f : Fin 6144 → EReal) : ∑ c, f c = ∑ k : Fin 12, ∑ l : Fin 512, f (at12 k l) :=
  Fin.sum_univ_tiles 12 512 rfl f

/-- The greatest of numbers none of which is negative, slice by slice from zero. -/
theorem max12 (f : Fin 6144 → EReal) (hf : ∀ c, 0 ≤ f c) (M : Fin 12 → EReal) (hM : ∀ k, M k = rowMax fun l : Fin 512 => f (at12 k l)) :
    max (max (max (max (max (max (max (max (max (max (max (max 0 (M 0)) (M 1)) (M 2)) (M 3)) (M 4)) (M 5)) (M 6)) (M 7)) (M 8)) (M 9)) (M 10)) (M 11)
      = rowMax f := by
  have hk : ∀ A, (∀ k, M k ≤ A) ↔ ∀ c, f c ≤ A := fun A => by
    constructor
    · intro h c
      obtain ⟨k, l, rfl⟩ := at12_surj c
      refine le_trans ?_ (h k)
      rw [hM, rowMax_eq_sup]
      exact Finset.le_sup (f := fun l : Fin 512 => f (at12 k l)) (Finset.mem_univ l)
    · intro h k
      rw [hM, rowMax_eq_sup]
      exact Finset.sup_le fun l _ => h _
  refine eq_of_forall_ge_iff fun A => ?_
  rw [rowMax_eq_sup, Finset.sup_le_iff]
  simp only [max_le_iff]
  constructor
  · rintro ⟨⟨⟨⟨⟨⟨⟨⟨⟨⟨⟨⟨-, h0⟩, h1⟩, h2⟩, h3⟩, h4⟩, h5⟩, h6⟩, h7⟩, h8⟩, h9⟩, h10⟩, h11⟩
    intro c _
    refine (hk A).mp (fun k => ?_) c
    fin_cases k
    · exact h0
    · exact h1
    · exact h2
    · exact h3
    · exact h4
    · exact h5
    · exact h6
    · exact h7
    · exact h8
    · exact h9
    · exact h10
    · exact h11
  · intro h
    have h' := (hk A).mpr fun c => h c (Finset.mem_univ c)
    exact ⟨⟨⟨⟨⟨⟨⟨⟨⟨⟨⟨⟨le_trans (hf 0) (h 0 (Finset.mem_univ 0)), h' 0⟩, h' 1⟩, h' 2⟩, h' 3⟩, h' 4⟩, h' 5⟩, h' 6⟩, h' 7⟩, h' 8⟩, h' 9⟩, h' 10⟩, h' 11⟩

/-- An entry of 512 columns of a row vector. -/
theorem cols_at (g : Vec Ideal ⟨2, ![1, 6144]⟩ .f32) (o : ℕ) (h : ∀ a, (![0, o] : Fin 2 → ℕ) a + S1x512.size a ≤ S1x6144.size a) (k : Fin 12) (l : Fin 512)
    (ho : o = k.val * 512) : (cols (F := Ideal) g o h (ix2 0 l) : EReal) = g (ix2 0 (at12 k l)) := by
  refine congrArg g (funext fun a => Fin.ext ?_)
  fin_cases a
  · rfl
  · show o + 1 * l.val = k.val * 512 + l.val
    omega

section
variable (q : Fin 12 → Sl) (g b : Vec Ideal ⟨2, ![1, 6144]⟩ .f32) (r : Fin 512)

theorem sumOf_row (k : Fin 12) : sumOf (q k) r = ∑ l : Fin 512, rowOf q r (at12 k l) :=
  Finset.sum_congr rfl fun l _ => (rowOf_at q r k l).symm

theorem sqOf_row (m : EReal) (k : Fin 12) : sqOf m (q k) r = ∑ l : Fin 512, (rowOf q r (at12 k l) - m) * (rowOf q r (at12 k l) - m) :=
  Finset.sum_congr rfl fun l _ => by rw [rowOf_at]

/-- The mean. -/
theorem W87_apply : (W87 (F := Ideal) q g b (ix2 r 0) : EReal) = rowMean (rowOf q r) := by
  unfold W87 W55
  rw [pay6_apply, pay5_apply]
  unfold rowMean
  rw [sum_at12, sum12]
  simp only [sumOf_row]

/-- The sums of the squares, the first of two equal factors stored before. -/
theorem sq_of (m : EReal) (x : Sl) (w : Mx) (M : EReal) (hM : M = m) (hw : ∀ l, (w (ix2 r l) : EReal) = x (ix3 0 r l) - m) :
    (∑ l : Fin 512, (w (ix2 r l) : EReal) * ((x (ix3 0 r l) : EReal) - M)) = sqOf m x r := by
  subst hM
  exact Finset.sum_congr rfl fun l _ => by rw [hw]

theorem W91_apply (l : Fin 512) : (W91 (F := Ideal) q g b (ix2 r l) : EReal) = (q 0 (ix3 0 r l) : EReal) - rowMean (rowOf q r) := by
  unfold W91
  rw [pay7_apply, W87_def, W87_apply]

theorem W128_apply (l : Fin 512) : (W128 (F := Ideal) q g b (ix2 r l) : EReal) = (q 3 (ix3 0 r l) : EReal) - rowMean (rowOf q r) := by
  unfold W128
  rw [pay9_apply, W87_apply]

theorem W164_apply (l : Fin 512) : (W164 (F := Ideal) q g b (ix2 r l) : EReal) = (q 6 (ix3 0 r l) : EReal) - rowMean (rowOf q r) := by
  unfold W164
  rw [pay11_apply, W87_apply]

theorem W200_apply (l : Fin 512) : (W200 (F := Ideal) q g b (ix2 r l) : EReal) = (q 9 (ix3 0 r l) : EReal) - rowMean (rowOf q r) := by
  unfold W200
  rw [pay13_apply, W87_apply]

theorem W204_apply (l : Fin 512) : (W204 (F := Ideal) q g b (ix2 r l) : EReal) = (q 9 (ix3 0 r l) : EReal) - rowMean (rowOf q r) := by
  unfold W204
  rw [pay14_apply, W87_apply]

theorem W242_apply (l : Fin 512) : (W242 (F := Ideal) q g b (ix2 r l) : EReal) = (q 0 (ix3 0 r l) : EReal) - rowMean (rowOf q r) := by
  unfold W242
  rw [pay17_apply, W87_apply]

/-- The sums of the squares of the first nine slices. -/
theorem W196_apply : (W196 (F := Ideal) q g b (ix2 r 0) : EReal) = 0 + sqOf (rowMean (rowOf q r)) (q 0) r + sqOf (rowMean (rowOf q r)) (q 1) r
    + sqOf (rowMean (rowOf q r)) (q 2) r + sqOf (rowMean (rowOf q r)) (q 3) r + sqOf (rowMean (rowOf q r)) (q 4) r
    + sqOf (rowMean (rowOf q r)) (q 5) r + sqOf (rowMean (rowOf q r)) (q 6) r + sqOf (rowMean (rowOf q r)) (q 7) r
    + sqOf (rowMean (rowOf q r)) (q 8) r := by
  unfold W196 W160 W124
  rw [pay12_apply, pay10_apply, pay8_apply, W87_apply, sq_of r _ (q 0) _ _ rfl (W91_apply q g b r),
    sq_of r _ (q 3) _ _ rfl (W128_apply q g b r), sq_of r _ (q 6) _ _ rfl (W164_apply q g b r)]

/-- The root. -/
theorem W237_apply : (W237 (F := Ideal) q g b (ix2 r 0) : EReal) = rowDen (rowOf q r) := by
  have h9 : (∑ l : Fin 512, (W200 (F := Ideal) q g b (ix2 r l) : EReal) * W204 (F := Ideal) q g b (ix2 r l)) = sqOf (rowMean (rowOf q r)) (q 9) r :=
    Finset.sum_congr rfl fun l _ => by rw [W200_apply, W204_apply]
  unfold W237
  rw [pay15_apply, W196_apply, W87_apply, h9]
  unfold rowDen
  rw [sum_at12, sum12]
  simp only [sqOf_row]

theorem W243_apply (l : Fin 512) : (W243 (F := Ideal) q g b (ix2 r l) : EReal) = rowDen (rowOf q r) := by
  unfold W243
  rw [pay18_apply, W237_def, W237_apply]

theorem W278_apply (l : Fin 512) : (W278 (F := Ideal) q g b (ix2 r l) : EReal) = q 2 (ix3 0 r l) := by
  unfold W278
  rw [pay24_apply]

theorem W279_apply (l : Fin 512) : (W279 (F := Ideal) q g b (ix2 r l) : EReal) = rowMean (rowOf q r) := by
  unfold W279
  rw [pay25_apply, W87_apply]

/-- The normed row of twelve slices. -/
def nrm : Fin 6144 → EReal := normAt (rowOf q r) (fun c => g (ix2 0 c)) (fun c => b (ix2 0 c))

/-- The greatest magnitude of a slice of the normed row. -/
def nmx (k : Fin 12) : EReal := rowMax fun l : Fin 512 => absOf (nrm q g b r (at12 k l))

/-- One normed entry. -/
theorem nv_row (k : Fin 12) (l : Fin 512) (o : ℕ) (ho : o = k.val * 512) (h h') :
    nv (rowMean (rowOf q r)) (rowDen (rowOf q r)) (q k (ix3 0 r l)) (cols (F := Ideal) g o h (ix2 0 l)) (cols (F := Ideal) b o h' (ix2 0 l))
      = nrm q g b r (at12 k l) := by
  rw [cols_at g o h k l ho, cols_at b o h' k l ho, ← rowOf_at q r k l]
  rfl

theorem mx_row (k : Fin 12) (o : ℕ) (ho : o = k.val * 512) (h h') :
    (mxOf fun l => nv (rowMean (rowOf q r)) (rowDen (rowOf q r)) (q k (ix3 0 r l)) (cols (F := Ideal) g o h (ix2 0 l)) (cols (F := Ideal) b o h' (ix2 0 l)))
      = nmx q g b r k :=
  congrArg mxOf (funext fun l => nv_row q g b r k l o ho h h')

theorem N0_apply (l : Fin 512) : (N0 (F := Ideal) q g b (ix3 0 r l) : EReal) = nrm q g b r (at12 0 l) := by
  unfold N0
  rw [pay20_apply, W242_apply, W243_apply]
  exact nv_row q g b r 0 l 0 rfl _ _

theorem N2_apply (l : Fin 512) : (N2 (F := Ideal) q g b (ix3 0 r l) : EReal) = nrm q g b r (at12 2 l) := by
  unfold N2
  rw [pay27_apply, W278_apply, W279_apply, W237_apply]
  exact nv_row q g b r 2 l 1024 rfl _ _

theorem N1_apply (l : Fin 512) : (N1 (F := Ideal) q g b (ix3 0 r l) : EReal) = nrm q g b r (at12 1 l) := by
  unfold N1
  rw [pay22_apply, W87_apply, W237_apply]
  exact nv_row q g b r 1 l 512 rfl _ _

theorem N3_apply (l : Fin 512) : (N3 (F := Ideal) q g b (ix3 0 r l) : EReal) = nrm q g b r (at12 3 l) := by
  unfold N3
  rw [pay29_apply, W87_apply, W237_apply]
  exact nv_row q g b r 3 l 1536 rfl _ _

theorem N4_apply (l : Fin 512) : (N4 (F := Ideal) q g b (ix3 0 r l) : EReal) = nrm q g b r (at12 4 l) := by
  unfold N4
  rw [pay32_apply, W87_apply, W237_apply]
  exact nv_row q g b r 4 l 2048 rfl _ _

theorem N5_apply (l : Fin 512) : (N5 (F := Ideal) q g b (ix3 0 r l) : EReal) = nrm q g b r (at12 5 l) := by
  unfold N5
  rw [pay34_apply, W87_apply, W237_apply]
  exact nv_row q g b r 5 l 2560 rfl _ _

theorem N6_apply (l : Fin 512) : (N6 (F := Ideal) q g b (ix3 0 r l) : EReal) = nrm q g b r (at12 6 l) := by
  unfold N6
  rw [pay37_apply, W87_apply, W237_apply]
  exact nv_row q g b r 6 l 3072 rfl _ _

theorem N7_apply (l : Fin 512) : (N7 (F := Ideal) q g b (ix3 0 r l) : EReal) = nrm q g b r (at12 7 l) := by
  unfold N7
  rw [pay39_apply, W87_apply, W237_apply]
  exact nv_row q g b r 7 l 3584 rfl _ _

theorem N8_apply (l : Fin 512) : (N8 (F := Ideal) q g b (ix3 0 r l) : EReal) = nrm q g b r (at12 8 l) := by
  unfold N8
  rw [pay42_apply, W87_apply, W237_apply]
  exact nv_row q g b r 8 l 4096 rfl _ _

theorem N9_apply (l : Fin 512) : (N9 (F := Ideal) q g b (ix3 0 r l) : EReal) = nrm q g b r (at12 9 l) := by
  unfold N9
  rw [pay45_apply, W87_apply, W237_apply]
  exact nv_row q g b r 9 l 4608 rfl _ _

theorem N10_apply (l : Fin 512) : (N10 (F := Ideal) q g b (ix3 0 r l) : EReal) = nrm q g b r (at12 10 l) := by
  unfold N10
  rw [pay48_apply, W87_apply, W237_apply]
  exact nv_row q g b r 10 l 5120 rfl _ _

theorem N11_apply (l : Fin 512) : (N11 (F := Ideal) q g b (ix3 0 r l) : EReal) = nrm q g b r (at12 11 l) := by
  unfold N11
  rw [pay51_apply, W87_apply, W237_apply]
  exact nv_row q g b r 11 l 5632 rfl _ _

theorem W500_apply (l : Fin 512) : (W500 (F := Ideal) q g b (ix2 r l) : EReal) = nrm q g b r (at12 2 l) := by
  unfold W500
  rw [pay56_apply, N2_apply]

theorem W276_apply : (W276 (F := Ideal) q g b (ix2 r 0) : EReal) = max (max 0 (nmx q g b r 0)) (nmx q g b r 1) := by
  unfold W276 W238
  rw [pay23_apply, pay16_apply, W87_apply, W237_apply]
  simp only [W242_apply, W243_apply]
  exact congrArg₂ max (congrArg (max 0) (mx_row q g b r 0 0 rfl _ _)) (mx_row q g b r 1 512 rfl _ _)

theorem W314_apply : (W314 (F := Ideal) q g b (ix2 r 0) : EReal)
    = max (max (W276 (F := Ideal) q g b (ix2 r 0)) (nmx q g b r 2)) (nmx q g b r 3) := by
  unfold W314
  rw [pay30_apply, W87_apply, W237_apply]
  simp only [W278_apply, W279_apply]
  exact congrArg₂ max (congrArg (max _) (mx_row q g b r 2 1024 rfl _ _)) (mx_row q g b r 3 1536 rfl _ _)

theorem W352_apply : (W352 (F := Ideal) q g b (ix2 r 0) : EReal)
    = max (max (W314 (F := Ideal) q g b (ix2 r 0)) (nmx q g b r 4)) (nmx q g b r 5) := by
  unfold W352
  rw [pay35_apply, W87_apply, W237_apply]
  exact congrArg₂ max (congrArg (max _) (mx_row q g b r 4 2048 rfl _ _)) (mx_row q g b r 5 2560 rfl _ _)

theorem W390_apply : (W390 (F := Ideal) q g b (ix2 r 0) : EReal)
    = max (max (W352 (F := Ideal) q g b (ix2 r 0)) (nmx q g b r 6)) (nmx q g b r 7) := by
  unfold W390
  rw [pay40_apply, W87_apply, W237_apply]
  exact congrArg₂ max (congrArg (max _) (mx_row q g b r 6 3072 rfl _ _)) (mx_row q g b r 7 3584 rfl _ _)

theorem W409_apply : (W409 (F := Ideal) q g b (ix2 r 0) : EReal) = max (W390 (F := Ideal) q g b (ix2 r 0)) (nmx q g b r 8) := by
  unfold W409
  rw [pay43_apply, W87_apply, W237_apply]
  exact congrArg (max _) (mx_row q g b r 8 4096 rfl _ _)

theorem W426_apply : (W426 (F := Ideal) q g b (ix1 r) : EReal) = nmx q g b r 9 := by
  unfold W426
  rw [pay46_apply, W87_apply, W237_apply]
  exact mx_row q g b r 9 4608 rfl _ _

theorem W447_apply : (W447 (F := Ideal) q g b (ix2 r 0) : EReal)
    = max (max (W409 (F := Ideal) q g b (ix2 r 0)) (nmx q g b r 9)) (nmx q g b r 10) := by
  unfold W447
  rw [pay49_apply, W87_apply, W237_apply, W426_apply]
  exact congrArg (max _) (mx_row q g b r 10 5120 rfl _ _)

/-- The scale of a row. -/
theorem W472_apply : (W472 (F := Ideal) q g b (ix2 r 0) : EReal)
    = normScale (rowOf q r) (fun c => g (ix2 0 c)) (fun c => b (ix2 0 c)) := by
  unfold W472 W463
  rw [pay53_apply, W87_apply, W237_apply, mx_row q g b r 11 5632 rfl, W447_apply, W409_apply, W390_apply, W352_apply, W314_apply, W276_apply]
  exact congrArg scaleOf (max12 (fun c => absOf (nrm q g b r c)) (fun c => absOf_nonneg _) (nmx q g b r) fun k => rfl)

/-- The code of an entry of a row. -/
def cde (c : Fin 6144) : BitVec 8 := normCode (rowOf q r) (fun c => g (ix2 0 c)) (fun c => b (ix2 0 c)) c

theorem code_of (k : Fin 12) (l : Fin 512) (v s : EReal) (hv : v = nrm q g b r (at12 k l)) (hs : s = (W472 (F := Ideal) q g b (ix2 r 0) : EReal)) :
    codeOf v s = cde q g b r (at12 k l) := by
  rw [hv, hs, W472_apply]
  rfl

theorem C0_apply (l : Fin 512) : k0_pay54 (F := Ideal) (W447 q g b) (W463 q g b) (N0 q g b) (ix2 r l) = cde q g b r (at12 0 l) := by
  rw [pay54_apply, W472_def]
  exact code_of q g b r 0 l _ _ (N0_apply q g b r l) rfl

theorem C1_apply (l : Fin 512) : k0_pay55 (F := Ideal) (W447 q g b) (W463 q g b) (N1 q g b) (ix2 r l) = cde q g b r (at12 1 l) := by
  rw [pay55_apply, W472_def]
  exact code_of q g b r 1 l _ _ (N1_apply q g b r l) rfl

theorem C2_apply (l : Fin 512) : k0_pay57 (F := Ideal) (W472 q g b) (W500 q g b) (ix2 r l) = cde q g b r (at12 2 l) := by
  rw [pay57_apply]
  exact code_of q g b r 2 l _ _ (W500_apply q g b r l) rfl

theorem C3_apply (l : Fin 512) : k0_pay58 (F := Ideal) (W472 q g b) (N3 q g b) (ix2 r l) = cde q g b r (at12 3 l) := by
  rw [pay58_apply]
  exact code_of q g b r 3 l _ _ (N3_apply q g b r l) rfl

theorem C4_apply (l : Fin 512) : k0_pay59 (F := Ideal) (W472 q g b) (N4 q g b) (ix2 r l) = cde q g b r (at12 4 l) := by
  rw [pay59_apply]
  exact code_of q g b r 4 l _ _ (N4_apply q g b r l) rfl

theorem C5_apply (l : Fin 512) : k0_pay60 (F := Ideal) (W472 q g b) (N5 q g b) (ix2 r l) = cde q g b r (at12 5 l) := by
  rw [pay60_apply]
  exact code_of q g b r 5 l _ _ (N5_apply q g b r l) rfl

theorem C6_apply (l : Fin 512) : k0_pay61 (F := Ideal) (W472 q g b) (N6 q g b) (ix2 r l) = cde q g b r (at12 6 l) := by
  rw [pay61_apply]
  exact code_of q g b r 6 l _ _ (N6_apply q g b r l) rfl

theorem C7_apply (l : Fin 512) : W575 (F := Ideal) q g b (ix2 r l) = cde q g b r (at12 7 l) := by
  unfold W575
  rw [pay62_apply]
  exact code_of q g b r 7 l _ _ (N7_apply q g b r l) rfl

theorem C8_apply (l : Fin 512) : k0_pay63 (F := Ideal) (W472 q g b) (N8 q g b) (ix2 r l) = cde q g b r (at12 8 l) := by
  rw [pay63_apply]
  exact code_of q g b r 8 l _ _ (N8_apply q g b r l) rfl

theorem C9_apply (l : Fin 512) : k0_pay64 (F := Ideal) (W472 q g b) (N9 q g b) (ix2 r l) = cde q g b r (at12 9 l) := by
  rw [pay64_apply]
  exact code_of q g b r 9 l _ _ (N9_apply q g b r l) rfl

theorem C10_apply (l : Fin 512) : W614 (F := Ideal) q g b (ix2 r l) = cde q g b r (at12 10 l) := by
  unfold W614
  rw [pay65_apply]
  exact code_of q g b r 10 l _ _ (N10_apply q g b r l) rfl

theorem C11_apply (l : Fin 512) : k0_pay3 (F := Ideal) (W472 q g b) (N11 q g b) (ix2 r l) = cde q g b r (at12 11 l) := by
  rw [pay3_apply]
  exact code_of q g b r 11 l _ _ (N11_apply q g b r l) rfl

/-- The block of codes at an index. -/
theorem codes_apply (c : Fin 6144) : View.canon (Val := Elt Ideal) (codePieces (F := Ideal) q g b) (ix2 r c) = cde q g b r c := by
  refine View.canon_apply_of_pieces (Val := Elt Ideal) (S := S512x6144) (e := .i8) (fun i => cde q g b (i 0) (i 1)) _ ?_ (ix2 r c) ?_
  · intro p hp x
    unfold codePieces at hp
    rcases List.mem_cons.mp hp with rfl | hp
    · have hx : (x : S512x512.Idx) = ix2 (x 0) (x 1) := eq_ix2 _
      refine (congrArg _ hx).trans ((C11_apply q g b _ _).trans (congrArg₂ (cde q g b) (Fin.ext ?_) (Fin.ext ?_)))
      · show (x 0).val = 0 + 1 * (x 0).val; omega
      · show 11 * 512 + (x 1).val = 5632 + 1 * (x 1).val; omega
    rcases List.mem_cons.mp hp with rfl | hp
    · have hx : (x : S512x512.Idx) = ix2 (x 0) (x 1) := eq_ix2 _
      refine (congrArg _ hx).trans ((C10_apply q g b _ _).trans (congrArg₂ (cde q g b) (Fin.ext ?_) (Fin.ext ?_)))
      · show (x 0).val = 0 + 1 * (x 0).val; omega
      · show 10 * 512 + (x 1).val = 5120 + 1 * (x 1).val; omega
    rcases List.mem_cons.mp hp with rfl | hp
    · have hx : (x : S512x512.Idx) = ix2 (x 0) (x 1) := eq_ix2 _
      refine (congrArg _ hx).trans ((C9_apply q g b _ _).trans (congrArg₂ (cde q g b) (Fin.ext ?_) (Fin.ext ?_)))
      · show (x 0).val = 0 + 1 * (x 0).val; omega
      · show 9 * 512 + (x 1).val = 4608 + 1 * (x 1).val; omega
    rcases List.mem_cons.mp hp with rfl | hp
    · have hx : (x : S512x512.Idx) = ix2 (x 0) (x 1) := eq_ix2 _
      refine (congrArg _ hx).trans ((C8_apply q g b _ _).trans (congrArg₂ (cde q g b) (Fin.ext ?_) (Fin.ext ?_)))
      · show (x 0).val = 0 + 1 * (x 0).val; omega
      · show 8 * 512 + (x 1).val = 4096 + 1 * (x 1).val; omega
    rcases List.mem_cons.mp hp with rfl | hp
    · have hx : (x : S512x512.Idx) = ix2 (x 0) (x 1) := eq_ix2 _
      refine (congrArg _ hx).trans ((C7_apply q g b _ _).trans (congrArg₂ (cde q g b) (Fin.ext ?_) (Fin.ext ?_)))
      · show (x 0).val = 0 + 1 * (x 0).val; omega
      · show 7 * 512 + (x 1).val = 3584 + 1 * (x 1).val; omega
    rcases List.mem_cons.mp hp with rfl | hp
    · have hx : (x : S512x512.Idx) = ix2 (x 0) (x 1) := eq_ix2 _
      refine (congrArg _ hx).trans ((C6_apply q g b _ _).trans (congrArg₂ (cde q g b) (Fin.ext ?_) (Fin.ext ?_)))
      · show (x 0).val = 0 + 1 * (x 0).val; omega
      · show 6 * 512 + (x 1).val = 3072 + 1 * (x 1).val; omega
    rcases List.mem_cons.mp hp with rfl | hp
    · have hx : (x : S512x512.Idx) = ix2 (x 0) (x 1) := eq_ix2 _
      refine (congrArg _ hx).trans ((C5_apply q g b _ _).trans (congrArg₂ (cde q g b) (Fin.ext ?_) (Fin.ext ?_)))
      · show (x 0).val = 0 + 1 * (x 0).val; omega
      · show 5 * 512 + (x 1).val = 2560 + 1 * (x 1).val; omega
    rcases List.mem_cons.mp hp with rfl | hp
    · have hx : (x : S512x512.Idx) = ix2 (x 0) (x 1) := eq_ix2 _
      refine (congrArg _ hx).trans ((C4_apply q g b _ _).trans (congrArg₂ (cde q g b) (Fin.ext ?_) (Fin.ext ?_)))
      · show (x 0).val = 0 + 1 * (x 0).val; omega
      · show 4 * 512 + (x 1).val = 2048 + 1 * (x 1).val; omega
    rcases List.mem_cons.mp hp with rfl | hp
    · have hx : (x : S512x512.Idx) = ix2 (x 0) (x 1) := eq_ix2 _
      refine (congrArg _ hx).trans ((C3_apply q g b _ _).trans (congrArg₂ (cde q g b) (Fin.ext ?_) (Fin.ext ?_)))
      · show (x 0).val = 0 + 1 * (x 0).val; omega
      · show 3 * 512 + (x 1).val = 1536 + 1 * (x 1).val; omega
    rcases List.mem_cons.mp hp with rfl | hp
    · have hx : (x : S512x512.Idx) = ix2 (x 0) (x 1) := eq_ix2 _
      refine (congrArg _ hx).trans ((C2_apply q g b _ _).trans (congrArg₂ (cde q g b) (Fin.ext ?_) (Fin.ext ?_)))
      · show (x 0).val = 0 + 1 * (x 0).val; omega
      · show 2 * 512 + (x 1).val = 1024 + 1 * (x 1).val; omega
    rcases List.mem_cons.mp hp with rfl | hp
    · have hx : (x : S512x512.Idx) = ix2 (x 0) (x 1) := eq_ix2 _
      refine (congrArg _ hx).trans ((C1_apply q g b _ _).trans (congrArg₂ (cde q g b) (Fin.ext ?_) (Fin.ext ?_)))
      · show (x 0).val = 0 + 1 * (x 0).val; omega
      · show 1 * 512 + (x 1).val = 512 + 1 * (x 1).val; omega
    rcases List.mem_cons.mp hp with rfl | hp
    · have hx : (x : S512x512.Idx) = ix2 (x 0) (x 1) := eq_ix2 _
      refine (congrArg _ hx).trans ((C0_apply q g b _ _).trans (congrArg₂ (cde q g b) (Fin.ext ?_) (Fin.ext ?_)))
      · show (x 0).val = 0 + 1 * (x 0).val; omega
      · show 0 * 512 + (x 1).val = 0 + 1 * (x 1).val; omega
    nomatch hp
  · exact View.cover_of_tiledL (s := S512x6144) _ S512x512.size (by sl_kernel_rfl) _
end

end Cert.V.Oproj

end
-- ==== Proof.V.OprojValue.lean ====
/-
  The result arrays of the output projection, whole: the blocks put together are functions of the argument arrays.
-/
module

public import Idealize.ShloMosaic.Lib.Pipeline.ValueKit
public import proofs.«01_k».proof.Proof.V.OprojNorm

@[expose] public section

noncomputable section

namespace Cert.V.Oproj

open Idealize.ShloMosaic
open Cert.OprojIdeal Cert.OprojIdeal.Gen Idealize.ShloMosaic.TcCoe

variable (m : (ℓ : Loc nD τ sig) → Buf (Elt Ideal) ℓ)

/-- Where each window's block sits at point `t`. -/
theorem index_facts : ∀ t : Fin cfg0.N,
    win0_0.index t = ![t.val / 12, 0]
    ∧ win0_1.index t = ![t.val / 12, 0]
    ∧ win0_2.index t = ![0, t.val % 12]
    ∧ win0_3.index t = ![0, t.val % 12]
    ∧ win0_4.index t = ![0, t.val % 12]
    ∧ win0_5.index t = ![t.val / 12, t.val % 12]
    ∧ win0_6.index t = ![0, 0]
    ∧ win0_7.index t = ![0, 0]
    ∧ win0_8.index t = ![t.val / 12, t.val % 12]
    ∧ win0_9.index t = ![t.val / 12, 0]
    ∧ win0_10.index t = ![t.val / 12, 0] :=
  (by decide +kernel : ∀ t : Fin grid0.N,
    win0_0.index t = ![t.val / 12, 0]
    ∧ win0_1.index t = ![t.val / 12, 0]
    ∧ win0_2.index t = ![0, t.val % 12]
    ∧ win0_3.index t = ![0, t.val % 12]
    ∧ win0_4.index t = ![0, t.val % 12]
    ∧ win0_5.index t = ![t.val / 12, t.val % 12]
    ∧ win0_6.index t = ![0, 0]
    ∧ win0_7.index t = ![0, 0]
    ∧ win0_8.index t = ![t.val / 12, t.val % 12]
    ∧ win0_9.index t = ![t.val / 12, 0]
    ∧ win0_10.index t = ![t.val / 12, 0])

theorem flush9 : ∀ t : Fin cfg0.N, (cfg0.win 9).flush t = true → t.val % 12 = 11 :=
  (by decide +kernel : ∀ t : Fin grid0.N, (cfg0.win 9).flush t = true → t.val % 12 = 11)

theorem flush10 : ∀ t : Fin cfg0.N, (cfg0.win 10).flush t = true → t.val % 12 = 11 :=
  (by decide +kernel : ∀ t : Fin grid0.N, (cfg0.win 10).flush t = true → t.val % 12 = 11)

/-- Input window 0's block, read at an index, is its argument array at the index shifted by the block's origin. -/
theorem iblk0 (c : Dev nD) (t : Fin cfg0.N) (y : S512x3072.Idx) (i : S2048x3072.Idx)
    (h : ∀ a : Fin 2, win0_0.index t a * S512x3072.size a + 1 * (y a).val = (i a).val) :
    (iblk m c 0 t : Vec Ideal S512x3072 .i8) y = (m ((c : Thread nD τ).loc main_arg0) : Vec Ideal S2048x3072 .i8) i :=
  congrArg (m ((c : Thread nD τ).loc main_arg0) : Vec Ideal S2048x3072 .i8) (funext fun a => Fin.ext (h a))

/-- Input window 1's block, read at an index, is its argument array at the index shifted by the block's origin. -/
theorem iblk1 (c : Dev nD) (t : Fin cfg0.N) (y : S512x128.Idx) (i : S2048x128.Idx)
    (h : ∀ a : Fin 2, win0_1.index t a * S512x128.size a + 1 * (y a).val = (i a).val) :
    (iblk m c 1 t : Vec Ideal S512x128 .f32) y = (m ((c : Thread nD τ).loc main_arg1) : Vec Ideal S2048x128 .f32) i :=
  congrArg (m ((c : Thread nD τ).loc main_arg1) : Vec Ideal S2048x128 .f32) (funext fun a => Fin.ext (h a))

/-- Input window 2's block, read at an index, is its argument array at the index shifted by the block's origin. -/
theorem iblk2 (c : Dev nD) (t : Fin cfg0.N) (y : S3072x512.Idx) (i : S3072x6144.Idx)
    (h : ∀ a : Fin 2, win0_2.index t a * S3072x512.size a + 1 * (y a).val = (i a).val) :
    (iblk m c 2 t : Vec Ideal S3072x512 .i8) y = (m ((c : Thread nD τ).loc main_arg2) : Vec Ideal S3072x6144 .i8) i :=
  congrArg (m ((c : Thread nD τ).loc main_arg2) : Vec Ideal S3072x6144 .i8) (funext fun a => Fin.ext (h a))

/-- Input window 3's block, read at an index, is its argument array at the index shifted by the block's origin. -/
theorem iblk3 (c : Dev nD) (t : Fin cfg0.N) (y : S1x512.Idx) (i : S1x6144.Idx)
    (h : ∀ a : Fin 2, win0_3.index t a * S1x512.size a + 1 * (y a).val = (i a).val) :
    (iblk m c 3 t : Vec Ideal S1x512 .f32) y = (m ((c : Thread nD τ).loc main_arg3) : Vec Ideal S1x6144 .f32) i :=
  congrArg (m ((c : Thread nD τ).loc main_arg3) : Vec Ideal S1x6144 .f32) (funext fun a => Fin.ext (h a))

/-- Input window 4's block, read at an index, is its argument array at the index shifted by the block's origin. -/
theorem iblk4 (c : Dev nD) (t : Fin cfg0.N) (y : S1x512.Idx) (i : S1x6144.Idx)
    (h : ∀ a : Fin 2, win0_4.index t a * S1x512.size a + 1 * (y a).val = (i a).val) :
    (iblk m c 4 t : Vec Ideal S1x512 .f32) y = (m ((c : Thread nD τ).loc main_arg4) : Vec Ideal S1x6144 .f32) i :=
  congrArg (m ((c : Thread nD τ).loc main_arg4) : Vec Ideal S1x6144 .f32) (funext fun a => Fin.ext (h a))

/-- Input window 5's block, read at an index, is its argument array at the index shifted by the block's origin. -/
theorem iblk5 (c : Dev nD) (t : Fin cfg0.N) (y : S512x512.Idx) (i : S2048x6144.Idx)
    (h : ∀ a : Fin 2, win0_5.index t a * S512x512.size a + 1 * (y a).val = (i a).val) :
    (iblk m c 5 t : Vec Ideal S512x512 .bf16) y = (m ((c : Thread nD τ).loc main_arg5) : Vec Ideal S2048x6144 .bf16) i :=
  congrArg (m ((c : Thread nD τ).loc main_arg5) : Vec Ideal S2048x6144 .bf16) (funext fun a => Fin.ext (h a))

/-- Input window 6's block is its whole argument array. -/
theorem iblk6 (c : Dev nD) (t : Fin cfg0.N) :
    (iblk m c 6 t : Vec Ideal S1x6144 .f32) = (m ((c : Thread nD τ).loc main_arg6) : Vec Ideal S1x6144 .f32) := by
  have e := (index_facts t).2.2.2.2.2.2.1
  funext y
  refine congrArg (m ((c : Thread nD τ).loc main_arg6) : Vec Ideal S1x6144 .f32) (funext fun a => Fin.ext ?_)
  show win0_6.index t a * S1x6144.size a + 1 * (y a).val = (y a).val
  rw [e]
  fin_cases a
  · show 0 * 1 + 1 * (y 0).val = (y 0).val; omega
  · show 0 * 6144 + 1 * (y 1).val = (y 1).val; omega

/-- Input window 7's block is its whole argument array. -/
theorem iblk7 (c : Dev nD) (t : Fin cfg0.N) :
    (iblk m c 7 t : Vec Ideal S1x6144 .f32) = (m ((c : Thread nD τ).loc main_arg7) : Vec Ideal S1x6144 .f32) := by
  have e := (index_facts t).2.2.2.2.2.2.2.1
  funext y
  refine congrArg (m ((c : Thread nD τ).loc main_arg7) : Vec Ideal S1x6144 .f32) (funext fun a => Fin.ext ?_)
  show win0_7.index t a * S1x6144.size a + 1 * (y a).val = (y a).val
  rw [e]
  fin_cases a
  · show 0 * 1 + 1 * (y 0).val = (y 0).val; omega
  · show 0 * 6144 + 1 * (y 1).val = (y 1).val; omega

/-- The block of the residual sum at a point is the whole array's, at the point's rows and columns. -/
theorem resBlk_apply (c : Dev nD) (t : Fin cfg0.N) (r k : Fin 512) (R : Fin 2048) (C : Fin 6144)
    (hR : R.val = t.val / 12 * 512 + r.val) (hC : C.val = t.val % 12 * 512 + k.val) :
    (resBlk m c t (ix2 r k) : EReal) = resM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R C := by
  obtain ⟨e0, e1, e2, e3, e4, e5, -⟩ := index_facts t
  unfold resBlk
  refine (pay1_apply _ _ _ _ _ _ _ _).trans ?_
  unfold resM
  refine congrArg₂ (fun a b : EReal => a + b) ?_ (linAt_congr (fun u => ?_) ?_ (fun u => ?_) ?_ ?_)
  · refine iblk5 m c t _ _ fun a => ?_
    rw [e5]
    fin_cases a
    · show t.val / 12 * 512 + 1 * (0 + 1 * r.val) = R.val; omega
    · show t.val % 12 * 512 + 1 * (0 + 1 * k.val) = C.val; omega
  · refine iblk0 m c t _ _ fun a => ?_
    rw [e0]
    fin_cases a
    · show t.val / 12 * 512 + 1 * (0 + 1 * r.val) = R.val; omega
    · show 0 * 3072 + 1 * (0 + 1 * u.val) = u.val; omega
  · refine iblk1 m c t _ _ fun a => ?_
    rw [e1]
    fin_cases a
    · show t.val / 12 * 512 + 1 * (0 + 1 * r.val) = R.val; omega
    · rfl
  · refine iblk2 m c t _ _ fun a => ?_
    rw [e2]
    fin_cases a
    · show 0 * 3072 + 1 * (0 + 1 * u.val) = u.val; omega
    · show t.val % 12 * 512 + 1 * (0 + 1 * k.val) = C.val; omega
  · refine iblk3 m c t _ _ fun a => ?_
    rw [e3]
    fin_cases a
    · rfl
    · show t.val % 12 * 512 + 1 * (0 + 1 * k.val) = C.val; omega
  · refine iblk4 m c t _ _ fun a => ?_
    rw [e4]
    fin_cases a
    · rfl
    · show t.val % 12 * 512 + 1 * (0 + 1 * k.val) = C.val; omega

/-- The twelve slices of a row of blocks. -/
def rows12 (c : Dev nD) (t : Fin cfg0.N) (k : Fin 12) : Sl :=
  slice m c ⟨t.val - t.val % 12 + k.val, by have := t.isLt; have : cfg0.N = 48 := N_0; omega⟩

theorem rows12_own (c : Dev nD) (t : Fin cfg0.N) (h0 : t.val % 12 = 11) : rows12 m c t 11 = slice m c t :=
  congrArg (slice m c) (Fin.ext (by show t.val - t.val % 12 + 11 = t.val; omega))

/-- A row of the twelve slices is the row of the whole residual sum. -/
theorem rows12_row (c : Dev nD) (t : Fin cfg0.N) (r : Fin 512) (R : Fin 2048) (hR : R.val = t.val / 12 * 512 + r.val) :
    rowOf (rows12 m c t) r = resM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R := by
  funext C
  obtain ⟨k, l, rfl⟩ := at12_surj C
  rw [rowOf_at]
  unfold rows12
  refine (pay2_apply _ _ _ _ _ _ _ _).trans (resBlk_apply m c _ r l R (at12 k l) ?_ ?_)
  · show R.val = (t.val - t.val % 12 + k.val) / 12 * 512 + r.val
    omega
  · show k.val * 512 + l.val = (t.val - t.val % 12 + k.val) % 12 * 512 + l.val
    omega

theorem hz : (![0, 0] : Fin 2 → Nat) = fun _ => 0 := by
  funext a
  fin_cases a <;> rfl

/-- The block of the residual sum is what every point writes. -/
theorem out8_eq (c : Dev nD) (t : Fin cfg0.N) : out8 m c t = resBlk m c t := by
  unfold out8
  split
  · rename_i h0
    rw [View.read_writes_eq_canon _ _ _ (coverB_8 m c t h0 _), runB_res, View.canon_unit_zero (S := S512x512) hz]
  · rename_i h0
    rw [View.read_writes_eq_canon _ _ _ (coverA_8 m c t h0), runA_res, View.canon_unit_zero (S := S512x512) hz]

/-- The codes of the last point of a row of blocks. -/
theorem out9_eq (c : Dev nD) (t : Fin cfg0.N) (h0 : t.val % 12 = 11) :
    out9 m c t = View.canon (Val := Elt Ideal) (codePieces (rows12 m c t) (iblk m c 6 t) (iblk m c 7 t)) := by
  unfold out9
  rw [dif_pos h0, View.read_writes_eq_canon _ _ _ (coverB_9 m c t h0 _),
    runB_codes m c t h0 (slices m c t) (rows12 m c t) (fun k => rfl) (rows12_own m c t h0)]

/-- … and the scales. -/
theorem out10_eq (c : Dev nD) (t : Fin cfg0.N) (h0 : t.val % 12 = 11) :
    out10 m c t = k0_pay4 (W472 (rows12 m c t) (iblk m c 6 t) (iblk m c 7 t)) := by
  unfold out10
  rw [dif_pos h0, View.read_writes_eq_canon _ _ _ (coverB_10 m c t h0 _),
    runB_scale m c t h0 (slices m c t) (rows12 m c t) (fun k => rfl) (rows12_own m c t h0), View.canon_unit_zero (S := S512x128) hz]

/-- The residual sum. -/
theorem final8 (c : Dev nD) : (dats m 0 c).arrAt 8 cfg0.N = spec0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have hI := (index_facts t).2.2.2.2.2.2.2.2.1
  blk_simp
  rw [after0_8, out8_eq]
  have hy : (y : S512x512.Idx) = ix2 (y 0) (y 1) := eq_ix2 _
  have e0 : (((cfg0.win 8).blk t).view.emb y 0).val = t.val / 12 * 512 + (y 0).val := by
    show win0_8.index t 0 * 512 + 1 * (y 0).val = _
    rw [hI]
    show t.val / 12 * 512 + 1 * (y 0).val = _
    omega
  have e1 : (((cfg0.win 8).blk t).view.emb y 1).val = t.val % 12 * 512 + (y 1).val := by
    show win0_8.index t 1 * 512 + 1 * (y 1).val = _
    rw [hI]
    show t.val % 12 * 512 + 1 * (y 1).val = _
    omega
  exact (congrArg (resBlk m c t) hy).trans (resBlk_apply m c t (y 0) (y 1) (((cfg0.win 8).blk t).view.emb y 0) (((cfg0.win 8).blk t).view.emb y 1) e0 e1)

/-- The codes. -/
theorem final9 (c : Dev nD) : (dats m 0 c).arrAt 9 cfg0.N = spec1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have h0 := flush9 t hf
  have hI := (index_facts t).2.2.2.2.2.2.2.2.2.1
  blk_simp
  rw [after0_9, out9_eq m c t h0, iblk6, iblk7]
  have hy : (y : S512x6144.Idx) = ix2 (y 0) (y 1) := eq_ix2 _
  have e0 : (((cfg0.win 9).blk t).view.emb y 0).val = t.val / 12 * 512 + (y 0).val := by
    show win0_9.index t 0 * 512 + 1 * (y 0).val = _
    rw [hI]
    show t.val / 12 * 512 + 1 * (y 0).val = _
    omega
  have e1 : (((cfg0.win 9).blk t).view.emb y 1).val = (y 1).val := by
    show win0_9.index t 1 * 6144 + 1 * (y 1).val = _
    rw [hI]
    show 0 * 6144 + 1 * (y 1).val = _
    omega
  have e1' : (y 1 : Fin 6144) = (((cfg0.win 9).blk t).view.emb y 1 : Fin 6144) := Fin.ext e1.symm
  refine (congrArg (View.canon (Val := Elt Ideal) (codePieces (rows12 m c t) (m ((c : Thread nD τ).loc main_arg6)) (m ((c : Thread nD τ).loc main_arg7)))) hy).trans ((codes_apply _ _ _ _ _).trans ?_)
  unfold cde spec1
  rw [rows12_row m c t (y 0) (((cfg0.win 9).blk t).view.emb y 0) e0]
  exact congrArg (normCode _ _ _) e1'

/-- The scales. -/
theorem final10 (c : Dev nD) : (dats m 0 c).arrAt 10 cfg0.N = spec2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  have h0 := flush10 t hf
  have hI := (index_facts t).2.2.2.2.2.2.2.2.2.2
  blk_simp
  rw [after0_10, out10_eq m c t h0, iblk6, iblk7]
  have hy : (y : S512x128.Idx) = ix2 (y 0) (y 1) := eq_ix2 _
  have e0 : (((cfg0.win 10).blk t).view.emb y 0).val = t.val / 12 * 512 + (y 0).val := by
    show win0_10.index t 0 * 512 + 1 * (y 0).val = _
    rw [hI]
    show t.val / 12 * 512 + 1 * (y 0).val = _
    omega
  refine (congrArg (k0_pay4 (F := Ideal) (W472 (rows12 m c t) (m ((c : Thread nD τ).loc main_arg6)) (m ((c : Thread nD τ).loc main_arg7)))) hy).trans
    ((pay4_apply _ _ _).trans ((W472_apply _ _ _ _).trans ?_))
  unfold spec2
  rw [rows12_row m c t (y 0) (((cfg0.win 10).blk t).view.emb y 0) e0]

end Cert.V.Oproj

end
-- ==== Proof.V.OprojRef.lean ====
/-
  What the reference computes of the output projection, at an index.
-/
module

public import proofs.«01_k».proof.Proof.V.OprojSpec
public import proofs.«01_k».proof.Proof.Gen.OprojRefIdeal.Value

@[expose] public section

noncomputable section

namespace Cert.V.Oproj

open Idealize.ShloMosaic
open scoped BigOperators

section
variable (x0 : Vec Ideal ⟨2, ![2048, 3072]⟩ .i8) (x1 : Vec Ideal ⟨2, ![2048, 128]⟩ .f32) (x2 : Vec Ideal ⟨2, ![3072, 6144]⟩ .i8)
  (x3 x4 : Vec Ideal ⟨2, ![1, 6144]⟩ .f32) (x5 : Vec Ideal ⟨2, ![2048, 6144]⟩ .bf16) (x6 x7 : Vec Ideal ⟨2, ![1, 6144]⟩ .f32)

open Cert.OprojRefIdeal Cert.OprojRefIdeal.Gen Cert.OprojRefIdeal.Value

/-- The reference's residual sum at an index. -/
theorem ref_res (r : Fin 2048) (c : Fin 6144) :
    (k0_pay5 (F := Ideal) x5 x0 (View.ld x1 r0_2) x2 x3 x4 (ix2 r c) : EReal) = resM x0 x1 x2 x3 x4 x5 r c := by
  pointwise [k0_pay5, resM, linAt, dotAt]

/-- What the reference computes of the residual sum. -/
theorem ref_eq0 : G8 (F := Ideal) x0 x1 x2 x3 x4 x5 x6 x7 = spec0 x0 x1 x2 x3 x4 x5 x6 x7 := by
  funext i
  have hi : i = ix2 (i 0) (i 1) := eq_ix2 _
  exact (congrArg _ hi).trans (ref_res x0 x1 x2 x3 x4 x5 (i 0) (i 1))

/-- A row less its mean. -/
theorem ref_centred (r : Fin 2048) (c : Fin 6144) :
    (k0_pay6 (F := Ideal) x5 x0 (View.ld x1 r0_2) x2 x3 x4 (ix2 r c) : EReal)
      = resM x0 x1 x2 x3 x4 x5 r c - rowMean (resM x0 x1 x2 x3 x4 x5 r) := by
  have h : resM x0 x1 x2 x3 x4 x5 r = fun c => (k0_pay5 (F := Ideal) x5 x0 (View.ld x1 r0_2) x2 x3 x4 (ix2 r c) : EReal) :=
    funext fun c => (ref_res x0 x1 x2 x3 x4 x5 r c).symm
  rw [h]
  unfold k0_pay6
  generalize k0_pay5 (F := Ideal) x5 x0 (View.ld x1 r0_2) x2 x3 x4 = y
  pointwise [rowMean]

/-- The root. -/
theorem ref_den (r : Fin 2048) (c : Fin 6144) :
    (k0_pay7 (F := Ideal) x5 x0 (View.ld x1 r0_2) x2 x3 x4 (ix2 r c) : EReal) = rowDen (resM x0 x1 x2 x3 x4 x5 r) := by
  unfold rowDen
  simp only [← ref_centred]
  unfold k0_pay7
  generalize k0_pay6 (F := Ideal) x5 x0 (View.ld x1 r0_2) x2 x3 x4 = y
  pointwise []

section
variable (x y : FVec Ideal ⟨2, ![2048, 6144]⟩ .f32)

/-- The normed row, of the row less its mean and the root. -/
theorem ref_norm (r : Fin 2048) (c : Fin 6144) : (k0_pay1 (F := Ideal) x6 x7 x y (ix2 r c) : EReal)
    = Ideal.div (x (ix2 r c)) (y (ix2 r c)) * x6 (ix2 0 c) + x7 (ix2 0 c) := by
  pointwise [k0_pay1]

/-- The greatest of a row, as a column. -/
theorem ref_max (r : Fin 2048) : (shapeCast S2048x1 (multiReduction .maximumf [1] S2048 x 0xFF800000#32 reduces_S2048x6144_S2048 (.inl rfl) rfl) shapeCasts_S2048_S2048x1 (ix2 r 0) : EReal)
    = rowMax fun c : Fin 6144 => (x (ix2 r c) : EReal) := by
  unfold rowMax
  pointwise []

/-- A column along the columns. -/
theorem ref_col (s : FVec Ideal S2048x1 .f32) (r : Fin 2048) (c : Fin 6144) :
    (broadcastTo S2048x6144 s broadcasts_S2048x1_S2048x6144 (ix2 r c) : EReal) = s (ix2 r 0) := by
  pointwise []

/-- The scale, whatever the shape. -/
theorem scale_any {S : Shape} (w : FVec Ideal S .f32) (i : S.Idx) :
    (select (cmpf .oeq w (broadcast S (Scalar.ofBits .f32 0x00000000#32 : Ideal .f32))) (broadcast S (Scalar.ofBits .f32 0x3F800000#32 : Ideal .f32))
      (divf w (broadcast S (Scalar.ofBits .f32 0x42FE0000#32 : Ideal .f32))) i : EReal) = scaleOf (w i) := by
  pointwise [scaleOf]

/-- The codes, whatever the shape. -/
theorem code_any {S : Shape} (z w : FVec Ideal S .f32) (i : S.Idx) :
    fptosi 8 (minimumf (broadcast S (Scalar.sitofp .f32 127#32)) (maximumf (broadcast S (Scalar.sitofp .f32 4294967169#32)) (roundeven (divf z w)))) i
      = codeOf (z i) (w i) := by
  rfl

/-- Its scale. -/
theorem ref_scale (r : Fin 2048) : (k0_pay2 (F := Ideal) x6 x7 x y (ix2 r 0) : EReal)
    = scaleOf (rowMax fun c => absOf (k0_pay1 (F := Ideal) x6 x7 x y (ix2 r c))) := by
  unfold k0_pay2
  generalize k0_pay1 (F := Ideal) x6 x7 x y = z
  exact (scale_any (shapeCast S2048x1 (multiReduction .maximumf [1] S2048 (absf z) 0xFF800000#32 reduces_S2048x6144_S2048 (.inl rfl) rfl) shapeCasts_S2048_S2048x1) (ix2 r 0)).trans
    (congrArg scaleOf (ref_max (absf z) r))

/-- Its codes. -/
theorem ref_code (r : Fin 2048) (c : Fin 6144) : k0_pay3 (F := Ideal) x6 x7 x y (ix2 r c)
    = codeOf (k0_pay1 (F := Ideal) x6 x7 x y (ix2 r c)) (k0_pay2 (F := Ideal) x6 x7 x y (ix2 r 0)) := by
  unfold k0_pay3
  generalize k0_pay1 (F := Ideal) x6 x7 x y = z
  generalize k0_pay2 (F := Ideal) x6 x7 x y = s
  exact (code_any z (broadcastTo S2048x6144 s broadcasts_S2048x1_S2048x6144) (ix2 r c)).trans (congrArg (codeOf (z (ix2 r c))) (ref_col s r c))

/-- The scale in each lane. -/
theorem ref_lane (r : Fin 2048) (l : Fin 128) : (k0_pay4 (F := Ideal) x6 x7 x y (ix2 r l) : EReal) = k0_pay2 (F := Ideal) x6 x7 x y (ix2 r 0) := by
  unfold k0_pay4
  generalize k0_pay2 (F := Ideal) x6 x7 x y = s
  pointwise []
end

/-- The row less its mean, over the loads that the reference makes. -/
theorem ref_pay8 (r : Fin 2048) (c : Fin 6144) : (k0_pay8 (F := Ideal) x0 x1 x2 x3 x4 x5 x6 x7 (ix2 r c) : EReal)
    = resM x0 x1 x2 x3 x4 x5 r c - rowMean (resM x0 x1 x2 x3 x4 x5 r) := by
  unfold k0_pay8
  rw [View.ld_unit_zero (S := S2048x6144) hz5 _ x5, View.ld_unit_zero (S := S2048x3072) hz0 _ x0, View.ld_unit_zero (S := S3072x6144) hz2 _ x2, View.ld_unit_zero (S := S1x6144) hz3 _ x3, View.ld_unit_zero (S := S1x6144) hz4 _ x4]
  exact ref_centred x0 x1 x2 x3 x4 x5 r c

/-- … and the root. -/
theorem ref_pay9 (r : Fin 2048) (c : Fin 6144) : (k0_pay9 (F := Ideal) x0 x1 x2 x3 x4 x5 x6 x7 (ix2 r c) : EReal)
    = rowDen (resM x0 x1 x2 x3 x4 x5 r) := by
  unfold k0_pay9
  rw [View.ld_unit_zero (S := S2048x6144) hz5 _ x5, View.ld_unit_zero (S := S2048x3072) hz0 _ x0, View.ld_unit_zero (S := S3072x6144) hz2 _ x2, View.ld_unit_zero (S := S1x6144) hz3 _ x3, View.ld_unit_zero (S := S1x6144) hz4 _ x4]
  exact ref_den x0 x1 x2 x3 x4 x5 r c

/-- The normed row. -/
theorem ref_normAt (r : Fin 2048) (c : Fin 6144) :
    (k0_pay1 (F := Ideal) x6 x7 (k0_pay8 x0 x1 x2 x3 x4 x5 x6 x7) (k0_pay9 x0 x1 x2 x3 x4 x5 x6 x7) (ix2 r c) : EReal)
      = normAt (resM x0 x1 x2 x3 x4 x5 r) (fun c => x6 (ix2 0 c)) (fun c => x7 (ix2 0 c)) c := by
  rw [ref_norm, ref_pay8, ref_pay9]
  rfl

/-- Its scale. -/
theorem ref_normScale (r : Fin 2048) :
    (k0_pay2 (F := Ideal) x6 x7 (k0_pay8 x0 x1 x2 x3 x4 x5 x6 x7) (k0_pay9 x0 x1 x2 x3 x4 x5 x6 x7) (ix2 r 0) : EReal)
      = normScale (resM x0 x1 x2 x3 x4 x5 r) (fun c => x6 (ix2 0 c)) (fun c => x7 (ix2 0 c)) := by
  rw [ref_scale]
  exact congrArg (fun f => scaleOf (rowMax f)) (funext fun c => congrArg absOf (ref_normAt x0 x1 x2 x3 x4 x5 x6 x7 r c))

/-- What the reference computes of the codes. -/
theorem ref_eq1 : G9 (F := Ideal) x0 x1 x2 x3 x4 x5 x6 x7 = spec1 x0 x1 x2 x3 x4 x5 x6 x7 := by
  funext i
  have hi : i = ix2 (i 0) (i 1) := eq_ix2 _
  refine (congrArg _ hi).trans ((ref_code x6 x7 _ _ (i 0) (i 1)).trans ?_)
  exact congrArg₂ codeOf (ref_normAt x0 x1 x2 x3 x4 x5 x6 x7 (i 0) (i 1)) (ref_normScale x0 x1 x2 x3 x4 x5 x6 x7 (i 0))

/-- What the reference computes of the scales. -/
theorem ref_eq2 : G10 (F := Ideal) x0 x1 x2 x3 x4 x5 x6 x7 = spec2 x0 x1 x2 x3 x4 x5 x6 x7 := by
  funext i
  have hi : i = ix2 (i 0) (i 1) := eq_ix2 _
  exact (congrArg _ hi).trans ((ref_lane x6 x7 _ _ (i 0) (i 1)).trans (ref_normScale x0 x1 x2 x3 x4 x5 x6 x7 (i 0)))
end

end Cert.V.Oproj

end
-- ==== Proof.V.OprojClaim.lean ====
/-
  The output projection: the kernel and the reference, run at the ideal instance on equal arguments, end with equal results.
-/
module

public import proofs.«01_k».proof.Defs
public import proofs.«01_k».proof.Proof.V.OprojValue
public import proofs.«01_k».proof.Proof.V.OprojSweep
public import proofs.«01_k».proof.Proof.V.OprojRef

@[expose] public section

noncomputable section

namespace Cert.V.Oproj

open Idealize.ShloMosaic Idealize.ShloMosaic.TcCoe Idealize.SL.Sem

/-- The output projection: both programs leave the same arrays, for all arguments. -/
theorem algebraic : Cert.algebraic_OprojIdeal_OprojRefIdeal (hOprojIdeal := Cert.OprojIdeal.Gen.facts) (hOprojRefIdeal := Cert.OprojRefIdeal.Gen.facts) := by
  intro m g m' g' _ hagree
  refine ⟨fun c => spec0 (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7)), fun c => spec1 (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7)), fun c => spec2 (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7)), ?_, ?_⟩
  · refine (θ_run _ _ _).mono (fun r h c => ?_) (Cert.OprojIdeal.Value.run_blocks (F := Ideal) m g)
    obtain ⟨h0, h1, h2, hrest⟩ := h c
    exact ⟨h0.trans (final8 m c), h1.trans (final9 m c), h2.trans (final10 m c), hrest⟩
  · refine (θ_run _ _ _).mono (fun r h c => ?_) (Cert.OprojRefIdeal.Value.run (F := Ideal) m' g')
    obtain ⟨h0, h1, h2, hrest⟩ := h c
    obtain ⟨a0, a1, a2, a3, a4, a5, a6, a7⟩ := hagree c
    refine ⟨?_, ?_, ?_, hrest⟩
    · rw [h0, a0, a1, a2, a3, a4, a5, a6, a7]
      exact ref_eq0 _ _ _ _ _ _ _ _
    · rw [h1, a0, a1, a2, a3, a4, a5, a6, a7]
      exact ref_eq1 _ _ _ _ _ _ _ _
    · rw [h2, a0, a1, a2, a3, a4, a5, a6, a7]
      exact ref_eq2 _ _ _ _ _ _ _ _

end Cert.V.Oproj

end
-- ==== Proof.V.LnPieces.lean ====
/-
  What the body of the first layer norm leaves at a grid point, written once for all its tiles: two blocks of 128 rows,
  each of 48 tiles of 128 columns.
-/
module

public import proofs.«01_k».proof.Proof.Gen.LnIdeal.Frame

@[expose] public section

set_option maxRecDepth 16384

noncomputable section

namespace Cert.V.Ln

open Idealize.ShloMosaic Idealize.ShloMosaic.TcCoe Idealize.ShloMosaic.Tactic Idealize.SL.Sem
open Cert.LnIdeal Cert.LnIdeal.Gen

variable {F : FTy → Type} [FloatOps F] [Named F]

theorem inbX (q : Fin 2) (t : Fin 48) (a : Fin 2) : (![128 * q.val, 128 * t.val] : Fin 2 → ℕ) a + S128x128.size a ≤ S256x6144.size a := by
  have := q.isLt; have := t.isLt
  fin_cases a
  · show 128 * q.val + 128 ≤ 256; omega
  · show 128 * t.val + 128 ≤ 6144; omega

theorem inbV (t : Fin 48) (a : Fin 2) : (![0, 128 * t.val] : Fin 2 → ℕ) a + S1x128.size a ≤ S1x6144.size a := by
  have := t.isLt
  fin_cases a
  · show 0 + 1 ≤ 1; omega
  · show 128 * t.val + 128 ≤ 6144; omega

theorem inbN (t : Fin 48) (a : Fin 2) : (![0, 128 * t.val] : Fin 2 → ℕ) a + S128x128.size a ≤ S128x6144.size a := by
  have := t.isLt
  fin_cases a
  · show 0 + 128 ≤ 128; omega
  · show 128 * t.val + 128 ≤ 6144; omega

theorem inbS (q : Fin 2) (a : Fin 2) : (![128 * q.val, 0] : Fin 2 → ℕ) a + S128x128.size a ≤ S256x128.size a := by
  have := q.isLt
  fin_cases a
  · show 128 * q.val + 128 ≤ 256; omega
  · show 0 + 128 ≤ 128; omega

/-- The tiles that a grid point loads: of the input, by block of rows and by tile, and of the gain and the bias, by tile. -/
structure Loads (F : FTy → Type) where
  x : Fin 2 → Fin 48 → Vec F S128x128 .bf16
  g : Fin 48 → Vec F S1x128 .f32
  b : Fin 48 → Vec F S1x128 .f32

/-- A tile of the input. -/
def tileX (L : Loads F) (q : Fin 2) (t : Fin 48) : FVec F S128x128 .f32 := extf .f32 (L.x q t) bitsLt_bf16_f32

/-- Tiles `o` to `o + n` added up, one after the other. -/
def sumFrom (f : Fin 48 → FVec F S128x128 .f32) (o : ℕ) : ℕ → FVec F S128x128 .f32
  | 0 => f (Fin.ofNat 48 o)
  | n + 1 => addf (sumFrom f o n) (f (Fin.ofNat 48 (o + (n + 1))))

/-- The sixteen slices of eight rows, added up. -/
def fold8 (p : FVec F S128x128 .f32) : FVec F S8x128 .f32 :=
  addf (addf (addf (addf (addf (addf (addf (addf (addf (addf (addf (addf (addf (addf (addf (extractStridedSlice S8x128 ![0, 0] p slices_S128x128_o0_0_S8x128)
    (extractStridedSlice S8x128 ![8, 0] p slices_S128x128_o8_0_S8x128))
    (extractStridedSlice S8x128 ![16, 0] p slices_S128x128_o16_0_S8x128))
    (extractStridedSlice S8x128 ![24, 0] p slices_S128x128_o24_0_S8x128))
    (extractStridedSlice S8x128 ![32, 0] p slices_S128x128_o32_0_S8x128))
    (extractStridedSlice S8x128 ![40, 0] p slices_S128x128_o40_0_S8x128))
    (extractStridedSlice S8x128 ![48, 0] p slices_S128x128_o48_0_S8x128))
    (extractStridedSlice S8x128 ![56, 0] p slices_S128x128_o56_0_S8x128))
    (extractStridedSlice S8x128 ![64, 0] p slices_S128x128_o64_0_S8x128))
    (extractStridedSlice S8x128 ![72, 0] p slices_S128x128_o72_0_S8x128))
    (extractStridedSlice S8x128 ![80, 0] p slices_S128x128_o80_0_S8x128))
    (extractStridedSlice S8x128 ![88, 0] p slices_S128x128_o88_0_S8x128))
    (extractStridedSlice S8x128 ![96, 0] p slices_S128x128_o96_0_S8x128))
    (extractStridedSlice S8x128 ![104, 0] p slices_S128x128_o104_0_S8x128))
    (extractStridedSlice S8x128 ![112, 0] p slices_S128x128_o112_0_S8x128))
    (extractStridedSlice S8x128 ![120, 0] p slices_S128x128_o120_0_S8x128)

/-- All rows' sum in every row of eight. -/
def all8 (s : FVec F S8x128 .f32) : FVec F S8x128 .f32 :=
  let s4 := addf s (dynamicRotate 0 4#32 none s rotates_S8x128_d0)
  let s2 := addf s4 (dynamicRotate 0 2#32 none s4 rotates_S8x128_d0)
  addf s2 (dynamicRotate 0 1#32 none s2 rotates_S8x128_d0)

/-- The sums along the columns of a tile. -/
def tileSum (p : FVec F S128x128 .f32) : FVec F S8x128 .f32 :=
  all8 (fold8 (transpose S128x128 [1, 0] p transposes_S128x128_p1_0_S128x128))

/-- The sums along the columns of 48 tiles. -/
def rowSums (f : Fin 48 → FVec F S128x128 .f32) : FVec F S8x128 .f32 :=
  addf (addf (tileSum (sumFrom f 0 15)) (tileSum (sumFrom f 16 15))) (tileSum (sumFrom f 32 15))

/-- Row 0, stood up as a column, in every column. -/
def toCol (s : FVec F S8x128 .f32) : FVec F S128x128 .f32 :=
  transpose S128x128 [1, 0] (broadcastTo S128x128 (shapeCast S1x128 (extractStridedSlice S1x128 ![0, 0] s slices_S8x128_o0_0_S1x128)
    shapeCasts_S1x128_S1x128) broadcasts_S1x128_S128x128) transposes_S128x128_p1_0_S128x128

/-- A 6144th of the sums. -/
def mean8 (s : FVec F S8x128 .f32) : FVec F S8x128 .f32 := mulf s (broadcast S8x128 (Named.named κ "inv_6144" 0x392AAAAB#32))

def muOf (L : Loads F) (q : Fin 2) : FVec F S128x128 .f32 := toCol (mean8 (rowSums (tileX L q)))

/-- A tile less the mean. -/
def ctr (L : Loads F) (q : Fin 2) (t : Fin 48) : FVec F S128x128 .f32 := subf (tileX L q t) (muOf L q)

def sqr (L : Loads F) (q : Fin 2) (t : Fin 48) : FVec F S128x128 .f32 := mulf (ctr L q t) (ctr L q t)

def denOf (L : Loads F) (q : Fin 2) : FVec F S128x128 .f32 :=
  toCol (sqrt (addf (mean8 (rowSums (sqr L q))) (broadcast S8x128 (Scalar.ofBits .f32 0x3727C5AC#32))))

/-- A normed tile. -/
def tileN (L : Loads F) (q : Fin 2) (t : Fin 48) : FVec F S128x128 .f32 :=
  addf (mulf (divf (ctr L q t) (denOf L q)) (broadcastTo S128x128 (L.g t) broadcasts_S1x128_S128x128))
    (broadcastTo S128x128 (L.b t) broadcasts_S1x128_S128x128)

/-- The greatest magnitudes of the first `n` normed tiles, entry by entry. -/
def maxTo (L : Loads F) (q : Fin 2) : ℕ → FVec F S128x128 .f32
  | 0 => broadcast S128x128 (Scalar.ofBits .f32 0x00000000#32)
  | n + 1 => maximumf (maxTo L q n) (absf (tileN L q (Fin.ofNat 48 n)))

/-- The scales of 128 entries of magnitude, in every column. -/
def scaleTile (a : FVec F S128x128 .f32) : FVec F S128x128 .f32 :=
  let w := shapeCast S128x1 (multiReduction .maximumf [1] S128 a 0xFF800000#32 reduces_S128x128_S128 (.inl rfl) rfl) shapeCasts_S128_S128x1
  broadcastTo S128x128 (shapeCast S128x1 (select (cmpf .oeq w (broadcast S128x1 (Scalar.ofBits .f32 0x00000000#32)))
    (broadcast S128x1 (Scalar.ofBits .f32 0x3F800000#32)) (mulf w (broadcast S128x1 (Named.named κ "inv_127" 0x3C010204#32))))
    shapeCasts_S128x1_S128x1) broadcasts_S128x1_S128x128

/-- The codes of a tile. -/
def codeTile (v s : FVec F S128x128 .f32) : IVec S128x128 8 :=
  fptosi 8 (minimumf (broadcast S128x128 (Scalar.sitofp .f32 127#32)) (maximumf (broadcast S128x128 (Scalar.sitofp .f32 4294967169#32)) (roundeven (divf v s))))

/-- The scales of a block of rows. -/
def scl (L : Loads F) (q : Fin 2) : FVec F S128x128 .f32 := scaleTile (maxTo L q 48)

/-- The first `n` stores of normed tiles. -/
def scr (L : Loads F) : ℕ → List (View.Piece (Elt F) S128x6144 .f32)
  | 0 => []
  | n + 1 => ⟨Rect.unit (s := S128x6144) ![0, 128 * (Fin.ofNat 48 n).val] S128x128.size (inbN (Fin.ofNat 48 n)),
      shapeCast S128x128 (tileN L (Fin.ofNat 2 (n / 48)) (Fin.ofNat 48 n)) shapeCasts_S128x128_S128x128⟩ :: scr L n

/-- The first `n` stores of codes, of the tiles read back. -/
def cds (arg6 : Memref sig .tc .vmem S128x6144 .f32) (L : Loads F) : ℕ → List (View.Piece (Elt F) S256x6144 .i8)
  | 0 => []
  | n + 1 => ⟨Rect.unit (s := S256x6144) ![128 * (Fin.ofNat 2 (n / 48)).val, 128 * (Fin.ofNat 48 n).val] S128x128.size (inbX (Fin.ofNat 2 (n / 48)) (Fin.ofNat 48 n)),
      codeTile (arg6.view.readCov (scr L (48 * (n / 48 + 1))) (Rect.unit (s := S128x6144) ![0, 128 * (Fin.ofNat 48 n).val] S128x128.size (inbN (Fin.ofNat 48 n))).toLoadRect)
        (scl L (Fin.ofNat 2 (n / 48)))⟩ :: cds arg6 L n

/-- The stores of scales. -/
def scs (L : Loads F) : List (View.Piece (Elt F) S256x128 .f32) :=
  [⟨Rect.unit (s := S256x128) ![128 * (1 : Fin 2).val, 0] S128x128.size (inbS 1), scl L 1⟩,
    ⟨Rect.unit (s := S256x128) ![128 * (0 : Fin 2).val, 0] S128x128.size (inbS 0), scl L 0⟩]

section
variable (c : Dev nD) (i : grid0.Coords) (arg1 : Memref sig .tc .vmem S256x6144 .bf16) (harg1 : arg1.IsWhole)
  (arg2 : Memref sig .tc .vmem S1x6144 .f32) (harg2 : arg2.IsWhole) (arg3 : Memref sig .tc .vmem S1x6144 .f32) (harg3 : arg3.IsWhole)
  (arg4 : Memref sig .tc .vmem S256x6144 .i8) (harg4 : arg4.IsWhole) (arg5 : Memref sig .tc .vmem S256x128 .f32) (harg5 : arg5.IsWhole)
  (arg6 : Memref sig .tc .vmem S128x6144 .f32) (harg6 : arg6.IsWhole)
  (x : Vec F S256x6144 .bf16) (g b : Vec F S1x6144 .f32)

/-- The loads of a run over whole buffers that hold `x`, `g` and `b`. -/
def runLoads : Loads F where
  x q t := View.readAt (Elt F) arg1.view (Rect.unit (s := S256x6144) ![128 * q.val, 128 * t.val] S128x128.size (inbX q t)).toLoadRect (harg1.unread x)
  g t := View.readAt (Elt F) arg2.view (Rect.unit (s := S1x6144) ![0, 128 * t.val] S1x128.size (inbV t)).toLoadRect (harg2.unread g)
  b t := View.readAt (Elt F) arg3.view (Rect.unit (s := S1x6144) ![0, 128 * t.val] S1x128.size (inbV t)).toLoadRect (harg3.unread b)

/-- The run stores these scales. -/
theorem run_scs : (kernelRun0_A c i arg1 harg1 arg2 harg2 arg3 harg3 arg4 harg4 arg5 harg5 arg6 harg6 x g b).2.1 = scs (runLoads arg1 harg1 arg2 harg2 arg3 harg3 x g b) := by
  sl_kernel_rfl

/-- The run stores these codes. -/
theorem run_cds : (kernelRun0_A c i arg1 harg1 arg2 harg2 arg3 harg3 arg4 harg4 arg5 harg5 arg6 harg6 x g b).1 = cds arg6 (runLoads arg1 harg1 arg2 harg2 arg3 harg3 x g b) 96 := by
  sl_kernel_rfl

end

end Cert.V.Ln

end
-- ==== Proof.V.LnNorm.lean ====
/-
  The layer norm that a grid point of the first layer norm computes tile by tile is the norm of the whole row; and so
  are its scale and its codes.
-/
module

public import proofs.«01_k».proof.Proof.V.LnPieces
public import proofs.«01_k».proof.Proof.V.OprojSpec
public import Idealize.ShloMosaic.Lib.KernelVsHost.SublaneAllReduce

@[expose] public section

noncomputable section

namespace Cert.V.Ln

open Idealize.ShloMosaic
open scoped BigOperators
open Cert.LnIdeal Cert.LnIdeal.Gen
open Cert.V.Oproj (rowMean rowDen nv normAt normScale normCode)

/-- Column `j` of tile `t`, among all the columns. -/
def at48 (t : Fin 48) (j : Fin 128) : Fin 6144 := ⟨t.val * 128 + j.val, by have := t.isLt; have := j.isLt; omega⟩

theorem at48_surj (c : Fin 6144) : ∃ t j, c = at48 t j :=
  ⟨⟨c.val / 128, by have := c.isLt; omega⟩, ⟨c.val % 128, by omega⟩, Fin.ext (by show c.val = c.val / 128 * 128 + c.val % 128; omega)⟩

/-- A sum over the columns is a sum over the tiles. -/
theorem sum_at48 (f : Fin 6144 → EReal) : ∑ c, f c = ∑ t : Fin 48, ∑ j : Fin 128, f (at48 t j) :=
  Fin.sum_univ_tiles 48 128 rfl f

section
variable (f : Fin 48 → FVec Ideal S128x128 .f32)

theorem sumFrom_apply (o n : ℕ) (i : S128x128.Idx) :
    (sumFrom (F := Ideal) f o n i : EReal) = ∑ k ∈ Finset.range (n + 1), (f (Fin.ofNat 48 (o + k)) i : EReal) := by
  induction n with
  | zero => simp [sumFrom]
  | succ n ih =>
    rw [Finset.sum_range_succ, ← ih]
    rfl

variable (p : FVec Ideal S128x128 .f32) (s : FVec Ideal S8x128 .f32)

theorem fold8_apply (k : Fin 8) (r : Fin 128) :
    (fold8 (F := Ideal) p (ix2 k r) : EReal) = ∑ j : Fin 16, (p (ix2 (⟨j.val * 8 + k.val, by have := j.isLt; have := k.isLt; omega⟩ : Fin 128) r) : EReal) := by
  have h : ∀ (o : ℕ) (ho : S128x128.Slices ![o, 0] S8x128) (j : Fin 16), o = j.val * 8 →
      (extractStridedSlice S8x128 ![o, 0] p ho (ix2 k r) : EReal)
        = p (ix2 (⟨j.val * 8 + k.val, by have := j.isLt; have := k.isLt; omega⟩ : Fin 128) r) := by
    intro o ho j hj
    subst hj
    refine congrArg p (funext fun a => Fin.ext ?_)
    fin_cases a
    · rfl
    · show 0 + r.val = r.val
      omega
  simp only [Fin.sum_univ_castSucc, Finset.univ_eq_empty, Finset.sum_empty, zero_add]
  unfold fold8
  simp only [addf]
  rw [h 0 _ 0 rfl, h 8 _ 1 rfl, h 16 _ 2 rfl, h 24 _ 3 rfl, h 32 _ 4 rfl, h 40 _ 5 rfl, h 48 _ 6 rfl, h 56 _ 7 rfl, h 64 _ 8 rfl,
    h 72 _ 9 rfl, h 80 _ 10 rfl, h 88 _ 11 rfl, h 96 _ 12 rfl, h 104 _ 13 rfl, h 112 _ 14 rfl, h 120 _ 15 rfl]
  rfl

theorem all8_apply (k : Fin 8) (r : Fin 128) : (all8 (F := Ideal) s (ix2 k r) : EReal) = ∑ k : Fin 8, (s (ix2 k r) : EReal) := by
  have h := SublaneAllReduce.sublaneAllReduce_apply (α := EReal) (fun a b => a + b) rotates_S8x128_d0 s k r
  refine Eq.trans h ?_
  simp only [SublaneAllReduce.combine8, Fin.sum_univ_eight]
  ac_rfl

theorem tileSum_apply (k : Fin 8) (r : Fin 128) : (tileSum (F := Ideal) p (ix2 k r) : EReal) = ∑ j : Fin 128, (p (ix2 r j) : EReal) := by
  unfold tileSum
  rw [all8_apply]
  simp only [fold8_apply]
  rw [Finset.sum_comm]
  refine Eq.trans ?_ (Fin.sum_univ_tiles 16 8 rfl fun j : Fin 128 => (p (ix2 r j) : EReal)).symm
  refine Finset.sum_congr rfl fun j _ => Finset.sum_congr rfl fun k _ => ?_
  pointwise []

theorem rowSums_apply (k : Fin 8) (r : Fin 128) :
    (rowSums (F := Ideal) f (ix2 k r) : EReal) = ∑ t : Fin 48, ∑ j : Fin 128, (f t (ix2 r j) : EReal) := by
  have hg : ∀ o : ℕ, (∑ j : Fin 128, (sumFrom (F := Ideal) f o 15 (ix2 r j) : EReal))
      = ∑ k ∈ Finset.range 16, ∑ j : Fin 128, (f (Fin.ofNat 48 (o + k)) (ix2 r j) : EReal) := fun o => by
    simp only [sumFrom_apply]
    exact Finset.sum_comm
  have e : (rowSums (F := Ideal) f (ix2 k r) : EReal) = (tileSum (F := Ideal) (sumFrom f 0 15) (ix2 k r) + tileSum (F := Ideal) (sumFrom f 16 15) (ix2 k r) : EReal)
      + tileSum (F := Ideal) (sumFrom f 32 15) (ix2 k r) := rfl
  rw [e, tileSum_apply, tileSum_apply, tileSum_apply, hg, hg, hg]
  have h48 : ∑ t : Fin 48, ∑ j : Fin 128, (f t (ix2 r j) : EReal)
      = ∑ k ∈ Finset.range (16 + 16 + 16), ∑ j : Fin 128, (f (Fin.ofNat 48 k) (ix2 r j) : EReal) := by
    rw [← Fin.sum_univ_eq_sum_range (fun k => ∑ j : Fin 128, (f (Fin.ofNat 48 k) (ix2 r j) : EReal)) 48]
    refine Finset.sum_congr rfl fun t _ => ?_
    rw [show Fin.ofNat 48 t.val = t from Fin.ext (Nat.mod_eq_of_lt t.isLt)]
  rw [h48, Finset.sum_range_add, Finset.sum_range_add]
  simp only [Nat.zero_add]

theorem toCol_apply (r j : Fin 128) : (toCol (F := Ideal) s (ix2 r j) : EReal) = s (ix2 0 r) := by
  pointwise [toCol]

end

/-- Multiplying by the 6144th is dividing by 6144. -/
theorem mul_inv_6144 (a : EReal) : a * ((1 / 6144 : ℝ) : EReal) = Ideal.div a (Ideal.ofBits .f32 0x45C00000#32) := by
  rw [show Ideal.ofBits .f32 0x45C00000#32 = ((6144 : ℝ) : EReal) by simp [Ideal.ofBits, Ideal.ieee, -EReal.coe_mul]; norm_num,
    Ideal.div_coe (by norm_num : (6144 : ℝ) ≠ 0)]

theorem mean8_apply (s : FVec Ideal S8x128 .f32) (i : S8x128.Idx) :
    (mean8 (F := Ideal) s i : EReal) = Ideal.div (s i) (Ideal.ofBits .f32 0x45C00000#32) := by
  rw [← mul_inv_6144, ← IdealRules.named_const.ideal_named_scalar Cert.LnIdeal.κ "inv_6144" (φ := .f32) 0x392AAAAB#32 _ rfl]
  rfl

section
variable (L : Loads Ideal) (q : Fin 2) (r : Fin 128)

/-- Row `r` of a block of rows. -/
def rowX (c : Fin 6144) : EReal := (L.x q ⟨c.val / 128, by have := c.isLt; omega⟩ (ix2 r ⟨c.val % 128, by omega⟩) : EReal)

/-- The gain, and the bias. -/
def rowG (c : Fin 6144) : EReal := (L.g ⟨c.val / 128, by have := c.isLt; omega⟩ (ix2 0 ⟨c.val % 128, by omega⟩) : EReal)
def rowB (c : Fin 6144) : EReal := (L.b ⟨c.val / 128, by have := c.isLt; omega⟩ (ix2 0 ⟨c.val % 128, by omega⟩) : EReal)

theorem at48_div (t : Fin 48) (j : Fin 128) : (⟨(at48 t j).val / 128, by have := (at48 t j).isLt; omega⟩ : Fin 48) = t :=
  Fin.ext (by have := j.isLt; show (t.val * 128 + j.val) / 128 = t.val; omega)
theorem at48_mod (t : Fin 48) (j : Fin 128) : (⟨(at48 t j).val % 128, by omega⟩ : Fin 128) = j :=
  Fin.ext (by have := j.isLt; show (t.val * 128 + j.val) % 128 = j.val; omega)

theorem rowX_at (t : Fin 48) (j : Fin 128) : rowX L q r (at48 t j) = (L.x q t (ix2 r j) : EReal) := by
  unfold rowX
  rw [at48_div, at48_mod]
theorem rowG_at (t : Fin 48) (j : Fin 128) : rowG L (at48 t j) = (L.g t (ix2 0 j) : EReal) := by
  unfold rowG
  rw [at48_div, at48_mod]
theorem rowB_at (t : Fin 48) (j : Fin 128) : rowB L (at48 t j) = (L.b t (ix2 0 j) : EReal) := by
  unfold rowB
  rw [at48_div, at48_mod]

theorem tileX_apply (t : Fin 48) (j : Fin 128) : (tileX (F := Ideal) L q t (ix2 r j) : EReal) = rowX L q r (at48 t j) := by
  rw [rowX_at]
  rfl

/-- The mean. -/
theorem muOf_apply (j : Fin 128) : (muOf (F := Ideal) L q (ix2 r j) : EReal) = rowMean (rowX L q r) := by
  unfold muOf rowMean
  rw [toCol_apply, mean8_apply, rowSums_apply, sum_at48]
  simp only [tileX_apply]

theorem ctr_apply (t : Fin 48) (j : Fin 128) : (ctr (F := Ideal) L q t (ix2 r j) : EReal) = rowX L q r (at48 t j) - rowMean (rowX L q r) := by
  rw [← tileX_apply, ← muOf_apply L q r j]
  rfl

theorem sqr_apply (t : Fin 48) (j : Fin 128) : (sqr (F := Ideal) L q t (ix2 r j) : EReal)
    = (rowX L q r (at48 t j) - rowMean (rowX L q r)) * (rowX L q r (at48 t j) - rowMean (rowX L q r)) := by
  rw [← ctr_apply]
  rfl

/-- The root. -/
theorem denOf_apply (j : Fin 128) : (denOf (F := Ideal) L q (ix2 r j) : EReal) = rowDen (rowX L q r) := by
  unfold denOf rowDen
  rw [toCol_apply, sum_at48]
  simp only [← sqr_apply]
  rw [← rowSums_apply (sqr L q) 0 r, ← mean8_apply]
  rfl

/-- The normed row. -/
def nrm : Fin 6144 → EReal := normAt (rowX L q r) (rowG L) (rowB L)

theorem tileN_apply (t : Fin 48) (j : Fin 128) : (tileN (F := Ideal) L q t (ix2 r j) : EReal) = nrm L q r (at48 t j) := by
  have hr : ∀ v : Vec Ideal S1x128 .f32, (broadcastTo S128x128 v broadcasts_S1x128_S128x128 (ix2 r j) : EReal) = v (ix2 0 j) := fun v => by
    pointwise []
  unfold nrm normAt nv
  rw [← ctr_apply, ← denOf_apply L q r j, rowG_at, rowB_at, ← hr (L.g t), ← hr (L.b t)]
  rfl

theorem absf_apply (v : FVec Ideal S128x128 .f32) (i : S128x128.Idx) : (absf v i : EReal) = absOf (v i) := rfl

theorem maxTo_apply (n : ℕ) (j : Fin 128) : (maxTo (F := Ideal) L q n (ix2 r j) : EReal)
    = max 0 ((Finset.range n).sup fun t => absOf (nrm L q r (at48 (Fin.ofNat 48 t) j))) := by
  induction n with
  | zero =>
    rw [Finset.range_zero, Finset.sup_empty, max_eq_left bot_le]
    show Ideal.ofBits .f32 0x00000000#32 = 0
    simp [Ideal.ofBits, Ideal.ieee]
  | succ n ih =>
    rw [Finset.range_add_one, Finset.sup_insert]
    refine Eq.trans ?_ (max_left_comm _ _ _)
    rw [← ih, ← tileN_apply, ← absf_apply]
    exact max_comm _ _

/-- The scale, whatever the shape. -/
theorem scale_any {S : Shape} (w : FVec Ideal S .f32) (i : S.Idx) :
    (select (cmpf .oeq w (broadcast S (Scalar.ofBits .f32 0x00000000#32 : Ideal .f32))) (broadcast S (Scalar.ofBits .f32 0x3F800000#32 : Ideal .f32))
      (mulf w (broadcast S (Named.named (F := Ideal) (φ := .f32) Cert.LnIdeal.κ "inv_127" 0x3C010204#32))) i : EReal) = scaleOf (w i) := by
  unfold scaleOf
  rw [← mul_inv_127, ← IdealRules.named_const.ideal_named_scalar Cert.LnIdeal.κ "inv_127" (φ := .f32) 0x3C010204#32 _ rfl]
  pointwise []

/-- The greatest of a row, as a column. -/
theorem max_col (a : FVec Ideal S128x128 .f32) :
    (shapeCast S128x1 (multiReduction .maximumf [1] S128 a 0xFF800000#32 reduces_S128x128_S128 (.inl rfl) rfl) shapeCasts_S128_S128x1 (ix2 r 0) : EReal)
      = rowMax fun j : Fin 128 => (a (ix2 r j) : EReal) := by
  unfold rowMax
  pointwise []

theorem scaleTile_apply (a : FVec Ideal S128x128 .f32) (j : Fin 128) :
    (scaleTile (F := Ideal) a (ix2 r j) : EReal) = scaleOf (rowMax fun j : Fin 128 => (a (ix2 r j) : EReal)) := by
  have hb : ∀ w : FVec Ideal S128x1 .f32, (broadcastTo S128x128 (shapeCast S128x1 w shapeCasts_S128x1_S128x1) broadcasts_S128x1_S128x128 (ix2 r j) : EReal)
      = w (ix2 r 0) := fun w => by pointwise []
  unfold scaleTile
  rw [hb, scale_any, max_col]

/-- The scale. -/
theorem scl_apply (j : Fin 128) : (scl (F := Ideal) L q (ix2 r j) : EReal) = normScale (rowX L q r) (rowG L) (rowB L) := by
  unfold scl normScale
  rw [scaleTile_apply]
  refine congrArg scaleOf (le_antisymm ?_ ?_)
  · rw [rowMax_eq_sup, rowMax_eq_sup]
    refine Finset.sup_le fun j _ => ?_
    rw [maxTo_apply]
    refine max_le ((absOf_nonneg _).trans (Finset.le_sup (f := fun c => absOf (normAt (rowX L q r) (rowG L) (rowB L) c)) (Finset.mem_univ (at48 0 j))))
      (Finset.sup_le fun t _ => ?_)
    exact Finset.le_sup (f := fun c => absOf (normAt (rowX L q r) (rowG L) (rowB L) c)) (Finset.mem_univ (at48 (Fin.ofNat 48 t) j))
  · rw [rowMax_eq_sup, rowMax_eq_sup]
    refine Finset.sup_le fun c _ => ?_
    obtain ⟨t, j, rfl⟩ := at48_surj c
    refine le_trans ?_ (Finset.le_sup (Finset.mem_univ j))
    rw [maxTo_apply]
    refine le_max_of_le_right (le_trans (le_of_eq ?_) (Finset.le_sup (Finset.mem_range.mpr t.isLt)))
    rw [show Fin.ofNat 48 t.val = t from Fin.ext (Nat.mod_eq_of_lt t.isLt)]
    rfl

theorem codeTile_apply (v s : FVec Ideal S128x128 .f32) (i : S128x128.Idx) : codeTile (F := Ideal) v s i = codeOf (v i) (s i) := rfl

end

end Cert.V.Ln

end
-- ==== Proof.V.LnValue.lean ====
/-
  The result arrays of the first layer norm, whole: the blocks put together are functions of the argument arrays.
-/
module

public import proofs.«01_k».proof.Proof.V.LnNorm
public import proofs.«01_k».proof.Proof.Gen.LnIdeal.Value
public import Idealize.ShloMosaic.Lib.Pipeline.ValueKit
public import Idealize.ShloMosaic.Lib.Pipeline.ReadBack
public import Idealize.ShloMosaic.Lib.WholeRead

@[expose] public section

set_option maxRecDepth 16384

noncomputable section

namespace Cert.V.Ln

open Idealize.ShloMosaic Idealize.ShloMosaic.TcCoe Idealize.ShloMosaic.Tactic
open Cert.LnIdeal Cert.LnIdeal.Gen
open Cert.V.Oproj (normScale normCode)

section
variable (x : Vec Ideal ⟨2, ![2048, 6144]⟩ .bf16) (g b : Vec Ideal ⟨2, ![1, 6144]⟩ .f32)

/-- The codes of the normed rows. -/
def spec3 : Vec Ideal ⟨2, ![2048, 6144]⟩ .i8 := fun i =>
  normCode (fun c => x (ix2 (i 0) c)) (fun c => g (ix2 0 c)) (fun c => b (ix2 0 c)) (i 1)

/-- The scales of the normed rows, each in 128 lanes. -/
def spec4 : Vec Ideal ⟨2, ![2048, 128]⟩ .f32 := fun i =>
  (normScale (fun c => x (ix2 (i 0) c)) (fun c => g (ix2 0 c)) (fun c => b (ix2 0 c)) : EReal)

end

section
variable (L : Loads Ideal)

/-- The tile of the normed rows that is stored, with its place. -/
def scrPiece (q : Fin 2) (t : Fin 48) : View.Piece (Elt Ideal) S128x6144 .f32 :=
  ⟨Rect.unit (s := S128x6144) ![0, 128 * t.val] S128x128.size (inbN t), shapeCast S128x128 (tileN (F := Ideal) L q t) shapeCasts_S128x128_S128x128⟩

theorem scr_succ (n : ℕ) : scr (F := Ideal) L (n + 1) = scrPiece L (Fin.ofNat 2 (n / 48)) (Fin.ofNat 48 n) :: scr L n := rfl

/-- A normed tile read back after later tiles of the same block of rows are stored. -/
theorem scr_read (q : Fin 2) (t : Fin 48) (y : S128x128.Idx) : ∀ k : ℕ, k ≤ 48 → t.val < k →
    View.canon (Val := Elt Ideal) (scr (F := Ideal) L (48 * q.val + k)) ((Rect.unit (s := S128x6144) ![0, 128 * t.val] S128x128.size (inbN t)).emb y)
      = tileN (F := Ideal) L q t y
  | 0, _, h => absurd h (Nat.not_lt_zero _)
  | k + 1, hk, h => by
    have hq : Fin.ofNat 2 ((48 * q.val + k) / 48) = q := Fin.ext (by have := q.isLt; show (48 * q.val + k) / 48 % 2 = q.val; omega)
    have ht : Fin.ofNat 48 (48 * q.val + k) = ⟨k, hk⟩ := Fin.ext (by show (48 * q.val + k) % 48 = k; omega)
    rw [show 48 * q.val + (k + 1) = (48 * q.val + k) + 1 from rfl]
    rw [scr_succ, hq, ht]
    unfold scrPiece
    by_cases e : k = t.val
    · subst e
      refine (View.canon_cons_emb _ _ _ _).trans ?_
      pointwise []
    · refine (View.canon_cons_of_not_mem _ _ ?_).trans (scr_read q t y k (by omega) (by omega))
      intro hm
      have h1 := ((Rect.mem_set_unit (inb := inbN ⟨k, hk⟩)).mp hm 1).1
      have h2 : 128 * k ≤ 128 * t.val + 1 * (y 1).val := h1
      have h3 : (y 1).val < 128 := (y 1).isLt
      omega

variable (arg6 : Memref sig .tc .vmem S128x6144 .f32)

/-- The block of codes, of the rows of the block. -/
def codeAt (L : Loads Ideal) (r : Fin 256) (c : Fin 6144) : BitVec 8 :=
  normCode (rowX L ⟨r.val / 128, by have := r.isLt; omega⟩ ⟨r.val % 128, by omega⟩) (rowG L) (rowB L) c

theorem code_tile (q : Fin 2) (t : Fin 48) (y : S128x128.Idx) :
    codeTile (F := Ideal) (arg6.view.readCov (scr L (48 * (q.val + 1))) (Rect.unit (s := S128x6144) ![0, 128 * t.val] S128x128.size (inbN t)).toLoadRect) (scl L q) y
      = normCode (rowX L q (y 0)) (rowG L) (rowB L) (at48 t (y 1)) := by
  have hy : (y : S128x128.Idx) = ix2 (y 0) (y 1) := eq_ix2 _
  have h1 : (arg6.view.readCov (scr (F := Ideal) L (48 * (q.val + 1))) (Rect.unit (s := S128x6144) ![0, 128 * t.val] S128x128.size (inbN t)).toLoadRect) y
      = tileN (F := Ideal) L q t y := by
    rw [View.readCov_eq_canon']
    exact scr_read L q t y 48 le_rfl t.isLt
  rw [codeTile_apply, h1, hy]
  exact congrArg₂ codeOf (tileN_apply L q (y 0) t (y 1)) (scl_apply L q (y 0) (y 1))

theorem cds_pieces (n : ℕ) (hn : n ≤ 96) : ∀ p ∈ cds (F := Ideal) arg6 L n, ∀ y : p.1.shape.Idx,
    p.2 y = codeAt L (p.1.emb y 0) (p.1.emb y 1) := by
  induction n with
  | zero => exact fun p hp => absurd hp List.not_mem_nil
  | succ n ih =>
    intro p hp y
    unfold cds at hp
    rcases List.mem_cons.mp hp with rfl | hp
    · have hq : n / 48 = (Fin.ofNat 2 (n / 48)).val := by show n / 48 = n / 48 % 2; omega
      have h0 : (y 0).val < 128 := (y 0).isLt
      have h1 : (y 1).val < 128 := (y 1).isLt
      have hs : 48 * (n / 48 + 1) = 48 * ((Fin.ofNat 2 (n / 48)).val + 1) := by rw [← hq]
      refine Eq.trans ?_ ((code_tile L arg6 (Fin.ofNat 2 (n / 48)) (Fin.ofNat 48 n) y).trans ?_)
      · dsimp only
        rw [hs]
      · unfold codeAt
        refine congr (congrArg (fun f => normCode f (rowG L) (rowB L)) ?_) (Fin.ext ?_)
        · refine congrArg₂ (rowX L) (Fin.ext ?_) (Fin.ext ?_)
          · show (Fin.ofNat 2 (n / 48)).val = (128 * (Fin.ofNat 2 (n / 48)).val + 1 * (y 0).val) / 128
            omega
          · show (y 0).val = (128 * (Fin.ofNat 2 (n / 48)).val + 1 * (y 0).val) % 128
            omega
        · show (Fin.ofNat 48 n).val * 128 + (y 1).val = 128 * (Fin.ofNat 48 n).val + 1 * (y 1).val
          omega
    · exact ih (by omega) p hp y

/-- The block of codes at an index. -/
theorem codes_apply (i : S256x6144.Idx) : View.canon (Val := Elt Ideal) (cds (F := Ideal) arg6 L 96) i = codeAt L (i 0) (i 1) :=
  View.canon_apply_of_pieces (Val := Elt Ideal) (S := S256x6144) (e := .i8) (fun i => codeAt L (i 0) (i 1)) _ (cds_pieces L arg6 96 le_rfl) i
    (View.cover_of_tiledL (s := S256x6144) _ S128x128.size (by sl_kernel_rfl) _)

/-- The scales of a row of the block. -/
def scaleAt (R : Fin 256) : EReal :=
  normScale (rowX L ⟨R.val / 128, by have := R.isLt; omega⟩ ⟨R.val % 128, by omega⟩) (rowG L) (rowB L)

theorem scl_at (q : Fin 2) (y : S128x128.Idx) (R : Fin 256) (hR : R.val = 128 * q.val + 1 * (y 0).val) :
    (scl (F := Ideal) L q y : EReal) = scaleAt L R := by
  have h0 : (y 0).val < 128 := (y 0).isLt
  have hy : (y : S128x128.Idx) = ix2 (y 0) (y 1) := eq_ix2 _
  refine (congrArg (scl (F := Ideal) L q) hy).trans ((scl_apply L q (y 0) (y 1)).trans ?_)
  unfold scaleAt
  refine congrArg (fun f => normScale f (rowG L) (rowB L)) (congrArg₂ (rowX L) (Fin.ext ?_) (Fin.ext ?_))
  · show q.val = R.val / 128
    omega
  · show (y 0).val = R.val % 128
    omega

/-- The scales of half the rows of the block, with their place. -/
def scsPiece (q : Fin 2) : View.Piece (Elt Ideal) S256x128 .f32 :=
  ⟨Rect.unit (s := S256x128) ![128 * q.val, 0] S128x128.size (inbS q), scl (F := Ideal) L q⟩

theorem scsPiece_apply (q : Fin 2) (y : S128x128.Idx) :
    (scl (F := Ideal) L q y : EReal) = scaleAt L ((Rect.unit (s := S256x128) ![128 * q.val, 0] S128x128.size (inbS q)).emb y 0) := by
  refine scl_at L q y _ ?_
  show 128 * q.val + 1 * (y 0).val = _
  rfl

theorem scs_eq : scs (F := Ideal) L = [scsPiece L 1, scsPiece L 0] := rfl

theorem scs_pieces : ∀ p ∈ scs (F := Ideal) L, ∀ y : p.1.shape.Idx, p.2 y = scaleAt L (p.1.emb y 0) := by
  intro p hp
  rw [scs_eq] at hp
  obtain ⟨q, hq⟩ : ∃ q, p = scsPiece L q := by
    rcases List.mem_cons.mp hp with h | hp
    · exact ⟨1, h⟩
    · exact ⟨0, List.mem_singleton.mp hp⟩
  unfold scsPiece at hq
  subst hq
  intro y
  dsimp only
  have h := scsPiece_apply L q y
  generalize scl (F := Ideal) L q = v at h ⊢
  exact h

/-- The block of scales at an index. -/
theorem scales_apply (i : S256x128.Idx) : (View.canon (Val := Elt Ideal) (scs (F := Ideal) L) i : EReal) = scaleAt L (i 0) :=
  View.canon_apply_of_pieces (Val := Elt Ideal) (S := S256x128) (e := .f32) (fun i => scaleAt L (i 0)) _ (scs_pieces L) i
    (View.cover_of_tiledL (s := S256x128) _ S128x128.size (by sl_kernel_rfl) _)

end

variable (m : (ℓ : Loc nD τ sig) → Buf (Elt Ideal) ℓ)

/-- Where each window's block sits at point `t`. -/
theorem index_facts : ∀ t : Fin cfg0.N,
    win0_0.index t = ![t.val, 0] ∧ win0_1.index t = ![0, 0] ∧ win0_2.index t = ![0, 0] ∧ win0_3.index t = ![t.val, 0] ∧ win0_4.index t = ![t.val, 0] :=
  (by decide +kernel : ∀ t : Fin grid0.N,
    win0_0.index t = ![t.val, 0] ∧ win0_1.index t = ![0, 0] ∧ win0_2.index t = ![0, 0] ∧ win0_3.index t = ![t.val, 0] ∧ win0_4.index t = ![t.val, 0])

/-- An input window's block, read at an index, is its argument array at the index shifted by the block's origin. -/
theorem iblk0 (c : Dev nD) (t : Fin cfg0.N) (y : S256x6144.Idx) (i : S2048x6144.Idx)
    (h : ∀ a : Fin 2, win0_0.index t a * S256x6144.size a + 1 * (y a).val = (i a).val) :
    (iblk m c 0 t : Vec Ideal S256x6144 .bf16) y = (m ((c : Thread nD τ).loc main_arg0) : Vec Ideal S2048x6144 .bf16) i :=
  congrArg (m ((c : Thread nD τ).loc main_arg0) : Vec Ideal S2048x6144 .bf16) (funext fun a => Fin.ext (h a))

theorem iblk1 (c : Dev nD) (t : Fin cfg0.N) (y : S1x6144.Idx) (i : S1x6144.Idx)
    (h : ∀ a : Fin 2, win0_1.index t a * S1x6144.size a + 1 * (y a).val = (i a).val) :
    (iblk m c 1 t : Vec Ideal S1x6144 .f32) y = (m ((c : Thread nD τ).loc main_arg1) : Vec Ideal S1x6144 .f32) i :=
  congrArg (m ((c : Thread nD τ).loc main_arg1) : Vec Ideal S1x6144 .f32) (funext fun a => Fin.ext (h a))

theorem iblk2 (c : Dev nD) (t : Fin cfg0.N) (y : S1x6144.Idx) (i : S1x6144.Idx)
    (h : ∀ a : Fin 2, win0_2.index t a * S1x6144.size a + 1 * (y a).val = (i a).val) :
    (iblk m c 2 t : Vec Ideal S1x6144 .f32) y = (m ((c : Thread nD τ).loc main_arg2) : Vec Ideal S1x6144 .f32) i :=
  congrArg (m ((c : Thread nD τ).loc main_arg2) : Vec Ideal S1x6144 .f32) (funext fun a => Fin.ext (h a))

/-- The loads of grid point `t`. -/
def loadsAt (c : Dev nD) (t : Fin cfg0.N) : Loads Ideal :=
  runLoads (ms0_0 t) (hs0_0 t) (ms0_1 t) (hs0_1 t) (ms0_2 t) (hs0_2 t) (iblk m c 0 t) (iblk m c 1 t) (iblk m c 2 t)

theorem rowX_loads (c : Dev nD) (t : Fin cfg0.N) (r : Fin 256) (R : Fin 2048) (hR : R.val = t.val * 256 + r.val) :
    rowX (loadsAt m c t) ⟨r.val / 128, by have := r.isLt; omega⟩ ⟨r.val % 128, by omega⟩
      = fun C => ((m ((c : Thread nD τ).loc main_arg0) : Vec Ideal S2048x6144 .bf16) (ix2 R C) : EReal) := by
  funext C
  obtain ⟨e0, -⟩ := index_facts t
  unfold rowX loadsAt runLoads
  refine ((hs0_0 t).readAt_unread _ _ _).trans (iblk0 m c t _ _ fun a => ?_)
  rw [e0]
  fin_cases a
  · show t.val * 256 + 1 * (128 * (r.val / 128) + 1 * (r.val % 128)) = R.val
    omega
  · show 0 * 6144 + 1 * (128 * (C.val / 128) + 1 * (C.val % 128)) = C.val
    omega

theorem rowG_loads (c : Dev nD) (t : Fin cfg0.N) :
    rowG (loadsAt m c t) = fun C => ((m ((c : Thread nD τ).loc main_arg1) : Vec Ideal S1x6144 .f32) (ix2 0 C) : EReal) := by
  funext C
  obtain ⟨-, e1, -⟩ := index_facts t
  unfold rowG loadsAt runLoads
  refine ((hs0_1 t).readAt_unread _ _ _).trans (iblk1 m c t _ _ fun a => ?_)
  rw [e1]
  fin_cases a
  · rfl
  · show 0 * 6144 + 1 * (128 * (C.val / 128) + 1 * (C.val % 128)) = C.val
    omega

theorem rowB_loads (c : Dev nD) (t : Fin cfg0.N) :
    rowB (loadsAt m c t) = fun C => ((m ((c : Thread nD τ).loc main_arg2) : Vec Ideal S1x6144 .f32) (ix2 0 C) : EReal) := by
  funext C
  obtain ⟨-, -, e2, -⟩ := index_facts t
  unfold rowB loadsAt runLoads
  refine ((hs0_2 t).readAt_unread _ _ _).trans (iblk2 m c t _ _ fun a => ?_)
  rw [e2]
  fin_cases a
  · rfl
  · show 0 * 6144 + 1 * (128 * (C.val / 128) + 1 * (C.val % 128)) = C.val
    omega

/-- What a point leaves of the codes, and of the scales. -/
theorem out3_eq (c : Dev nD) (t : Fin cfg0.N) : (outsAt0 m c t).1 = View.canon (Val := Elt Ideal) (cds scM0_0 (loadsAt m c t) 96) := by
  unfold outsAt0 out0_A_3
  dsimp only
  rw [run_cds]
  exact View.read_writes_junk_eq_canon _ _

theorem out4_eq (c : Dev nD) (t : Fin cfg0.N) : (outsAt0 m c t).2 = View.canon (Val := Elt Ideal) (scs (loadsAt m c t)) := by
  unfold outsAt0 out0_A_4
  dsimp only
  rw [run_scs]
  exact View.read_writes_junk_eq_canon _ _

/-- The codes. -/
theorem final3 (c : Dev nD) : (dats m 0 c).arrAt 3 cfg0.N
    = spec3 (m ((c : Thread nD τ).loc main_arg0)) (m ((c : Thread nD τ).loc main_arg1)) (m ((c : Thread nD τ).loc main_arg2)) := by
  refine (dats m 0 c).arrAt_eq_of_covers 3 _ (by decide +kernel) fun t hf y => ?_
  have hI := (index_facts t).2.2.2.1
  blk_simp
  rw [after0_3, out3_eq]
  have e0 : (((cfg0.win 3).blk t).view.emb y 0).val = t.val * 256 + (y 0).val := by
    show win0_3.index t 0 * 256 + 1 * (y 0).val = _
    rw [hI]
    show t.val * 256 + 1 * (y 0).val = _
    omega
  have e1 : (((cfg0.win 3).blk t).view.emb y 1).val = (y 1).val := by
    show win0_3.index t 1 * 6144 + 1 * (y 1).val = _
    rw [hI]
    show 0 * 6144 + 1 * (y 1).val = _
    omega
  have e1' : (y 1 : Fin 6144) = (((cfg0.win 3).blk t).view.emb y 1 : Fin 6144) := Fin.ext e1.symm
  refine (codes_apply (loadsAt m c t) scM0_0 y).trans ?_
  unfold codeAt spec3
  rw [rowX_loads m c t (y 0) (((cfg0.win 3).blk t).view.emb y 0) e0, rowG_loads, rowB_loads]
  exact congrArg (normCode _ _ _) e1'

/-- The scales. -/
theorem final4 (c : Dev nD) : (dats m 0 c).arrAt 4 cfg0.N
    = spec4 (m ((c : Thread nD τ).loc main_arg0)) (m ((c : Thread nD τ).loc main_arg1)) (m ((c : Thread nD τ).loc main_arg2)) := by
  refine (dats m 0 c).arrAt_eq_of_covers 4 _ (by decide +kernel) fun t hf y => ?_
  have hI := (index_facts t).2.2.2.2
  blk_simp
  rw [after0_4, out4_eq]
  have e0 : (((cfg0.win 4).blk t).view.emb y 0).val = t.val * 256 + (y 0).val := by
    show win0_4.index t 0 * 256 + 1 * (y 0).val = _
    rw [hI]
    show t.val * 256 + 1 * (y 0).val = _
    omega
  refine (scales_apply (loadsAt m c t) y).trans ?_
  unfold scaleAt spec4
  rw [rowX_loads m c t (y 0) (((cfg0.win 4).blk t).view.emb y 0) e0, rowG_loads, rowB_loads]

end Cert.V.Ln

end
-- ==== Proof.V.LnRef.lean ====
/-
  What the reference computes of the first layer norm, at an index.
-/
module

public import proofs.«01_k».proof.Proof.V.LnValue
public import proofs.«01_k».proof.Proof.V.OprojRef
public import proofs.«01_k».proof.Proof.Gen.LnRefIdeal.Value

@[expose] public section

noncomputable section

namespace Cert.V.Ln

open Idealize.ShloMosaic
open Cert.V.Oproj (rowMean rowDen normAt normScale normCode)
open scoped BigOperators

section
variable (x : Vec Ideal ⟨2, ![2048, 6144]⟩ .bf16) (g b : Vec Ideal ⟨2, ![1, 6144]⟩ .f32)

open Cert.LnRefIdeal Cert.LnRefIdeal.Gen Cert.LnRefIdeal.Value

/-- The normed row. -/
theorem ref_norm (r : Fin 2048) (c : Fin 6144) : (k0_pay2 (F := Ideal) x g b (ix2 r c) : EReal)
    = normAt (fun c => x (ix2 r c)) (fun c => g (ix2 0 c)) (fun c => b (ix2 0 c)) c := by
  pointwise [k0_pay2, normAt, Cert.V.Oproj.nv, rowMean, rowDen]

/-- Its scale. -/
theorem ref_scale (r : Fin 2048) : (k0_pay3 (F := Ideal) x g b (ix2 r 0) : EReal)
    = normScale (fun c => x (ix2 r c)) (fun c => g (ix2 0 c)) (fun c => b (ix2 0 c)) := by
  unfold k0_pay3 normScale
  simp only [← ref_norm]
  generalize k0_pay2 (F := Ideal) x g b = z
  exact (Cert.V.Oproj.scale_any (shapeCast S2048x1 (multiReduction .maximumf [1] S2048 (absf z) 0xFF800000#32 reduces_S2048x6144_S2048 (.inl rfl) rfl) shapeCasts_S2048_S2048x1) (ix2 r 0)).trans
    (congrArg scaleOf (Cert.V.Oproj.ref_max (absf z) r))

/-- What the reference computes of the codes. -/
theorem ref_eq3 : G3 (F := Ideal) x g b = spec3 x g b := by
  funext i
  have hi : i = ix2 (i 0) (i 1) := eq_ix2 _
  refine (congrArg _ hi).trans ?_
  refine Eq.trans (b := codeOf (k0_pay2 (F := Ideal) x g b (ix2 (i 0) (i 1))) (k0_pay3 (F := Ideal) x g b (ix2 (i 0) 0))) ?_
    (congrArg₂ codeOf (ref_norm x g b (i 0) (i 1)) (ref_scale x g b (i 0)))
  unfold G3 k0_pay4
  generalize k0_pay2 (F := Ideal) x g b = z
  generalize k0_pay3 (F := Ideal) x g b = s
  exact (Cert.V.Oproj.code_any z (broadcastTo S2048x6144 s broadcasts_S2048x1_S2048x6144) (ix2 (i 0) (i 1))).trans
    (congrArg (codeOf (z (ix2 (i 0) (i 1)))) (Cert.V.Oproj.ref_col s (i 0) (i 1)))

/-- What the reference computes of the scales. -/
theorem ref_eq4 : G4 (F := Ideal) x g b = spec4 x g b := by
  funext i
  have hi : i = ix2 (i 0) (i 1) := eq_ix2 _
  refine (congrArg _ hi).trans (Eq.trans ?_ (ref_scale x g b (i 0)))
  unfold G4 k0_pay1
  generalize k0_pay3 (F := Ideal) x g b = s
  pointwise []

end

end Cert.V.Ln

end
-- ==== Proof.V.LnClaim.lean ====
/-
  The first layer norm: the kernel and the reference, run at the ideal instance on equal arguments, end with equal results.
-/
module

public import proofs.«01_k».proof.Defs
public import proofs.«01_k».proof.Proof.V.LnValue
public import proofs.«01_k».proof.Proof.V.LnRef

@[expose] public section

noncomputable section

namespace Cert.V.Ln

open Idealize.ShloMosaic Idealize.ShloMosaic.TcCoe Idealize.SL.Sem

/-- The first layer norm: both programs leave the same arrays, for all arguments. -/
theorem algebraic : Cert.algebraic_LnIdeal_LnRefIdeal (hLnIdeal := Cert.LnIdeal.Gen.facts) (hLnRefIdeal := Cert.LnRefIdeal.Gen.facts) := by
  intro m g m' g' _ hagree
  refine ⟨fun c => spec3 (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)),
    fun c => spec4 (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)), ?_, ?_⟩
  · refine (θ_run _ _ _).mono (fun r h c => ?_) (Cert.LnIdeal.Value.run_blocks (F := Ideal) m g)
    obtain ⟨h0, h1, hrest⟩ := h c
    exact ⟨h0.trans (final3 m c), h1.trans (final4 m c), hrest⟩
  · refine (θ_run _ _ _).mono (fun r h c => ?_) (Cert.LnRefIdeal.Value.run (F := Ideal) m' g')
    obtain ⟨h0, h1, hrest⟩ := h c
    obtain ⟨a0, a1, a2⟩ := hagree c
    refine ⟨?_, ?_, hrest⟩
    · rw [h0, a0, a1, a2]
      exact ref_eq3 _ _ _
    · rw [h1, a0, a1, a2]
      exact ref_eq4 _ _ _

end Cert.V.Ln

end
-- ==== Proof.lean ====
/-
  The certificate: each call of the kernel against its reference, put together from the modules under V/.
-/
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Skeleton
public import proofs.«01_k».proof.Proof.Gen.ProjRefIdeal.Launch
public import proofs.«01_k».proof.Proof.Gen.ProjRefIdeal.Points
public import proofs.«01_k».proof.Proof.Gen.ProjRefIdeal.Frame
public import proofs.«01_k».proof.Proof.Gen.ProjRefIdeal.Value
public import proofs.«01_k».proof.Proof.V.ProjClaim
public import proofs.«01_k».proof.Proof.Gen.Fc
public import proofs.«01_k».proof.Proof.Gen.Fc.Skeleton
public import proofs.«01_k».proof.Proof.Gen.Fc.Launch
public import proofs.«01_k».proof.Proof.Gen.Fc.Points
public import proofs.«01_k».proof.Proof.Gen.Fc.Frame
public import proofs.«01_k».proof.Proof.Gen.FcIdeal
public import proofs.«01_k».proof.Proof.Gen.FcIdeal.Skeleton
public import proofs.«01_k».proof.Proof.Gen.FcIdeal.Launch
public import proofs.«01_k».proof.Proof.Gen.FcIdeal.Points
public import proofs.«01_k».proof.Proof.Gen.FcIdeal.Frame
public import proofs.«01_k».proof.Proof.Gen.FcIdeal.Value
public import proofs.«01_k».proof.Proof.Gen.FcRefIdeal
public import proofs.«01_k».proof.Proof.Gen.FcRefIdeal.Skeleton
public import proofs.«01_k».proof.Proof.Gen.FcRefIdeal.Launch
public import proofs.«01_k».proof.Proof.Gen.FcRefIdeal.Points
public import proofs.«01_k».proof.Proof.Gen.FcRefIdeal.Frame
public import proofs.«01_k».proof.Proof.Gen.FcRefIdeal.Value
public import proofs.«01_k».proof.Proof.V.FcClaim
public import proofs.«01_k».proof.Proof.Gen.Gq
public import proofs.«01_k».proof.Proof.Gen.Gq.Skeleton
public import proofs.«01_k».proof.Proof.Gen.Gq.Launch
public import proofs.«01_k».proof.Proof.Gen.Gq.Points
public import proofs.«01_k».proof.Proof.Gen.Gq.Frame
public import proofs.«01_k».proof.Proof.Gen.GqIdeal
public import proofs.«01_k».proof.Proof.Gen.GqIdeal.Skeleton
public import proofs.«01_k».proof.Proof.Gen.GqIdeal.Launch
public import proofs.«01_k».proof.Proof.Gen.GqIdeal.Points
public import proofs.«01_k».proof.Proof.Gen.GqIdeal.Frame
public import proofs.«01_k».proof.Proof.Gen.GqIdeal.Value
public import proofs.«01_k».proof.Proof.Gen.GqRefIdeal
public import proofs.«01_k».proof.Proof.Gen.GqRefIdeal.Skeleton
public import proofs.«01_k».proof.Proof.Gen.GqRefIdeal.Launch
public import proofs.«01_k».proof.Proof.Gen.GqRefIdeal.Points
public import proofs.«01_k».proof.Proof.Gen.GqRefIdeal.Frame
public import proofs.«01_k».proof.Proof.Gen.GqRefIdeal.Value
public import proofs.«01_k».proof.Proof.V.GqClaim
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.V.QkvBits
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.V.QkvFrame
public import proofs.«01_k».proof.Proof.V.QkvSweep
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.V.QkvClaim
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.V.OprojBits
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.V.OprojFrame
public import proofs.«01_k».proof.Proof.V.OprojSweep
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.OprojRefIdeal.Value
public import proofs.«01_k».proof.Proof.V.OprojClaim
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnIdeal.Value
public import proofs.«01_k».proof.Proof.Gen.LnRefIdeal
public import proofs.«01_k».proof.Proof.Gen.LnRefIdeal.Skeleton
public import proofs.«01_k».proof.Proof.Gen.LnRefIdeal.Launch
public import proofs.«01_k».proof.Proof.Gen.LnRefIdeal.Points
public import proofs.«01_k».proof.Proof.Gen.LnRefIdeal.Frame
public import proofs.«01_k».proof.Proof.Gen.LnRefIdeal.Value
public import proofs.«01_k».proof.Proof.V.LnClaim
public import Idealize.ShloMosaic.Adequacy
public import Idealize.ShloMosaic.Init

@[expose] public section

noncomputable section

namespace Cert.Proof

open Idealize.ShloMosaic Idealize.SL.Sem

/-- Every claim of the statement. -/
theorem claim : Cert.Claim := ⟨Cert.Proj.Gen.facts, Cert.ProjIdeal.Gen.facts, Cert.ProjRefIdeal.Gen.facts, Cert.Fc.Gen.facts, Cert.FcIdeal.Gen.facts, Cert.FcRefIdeal.Gen.facts, Cert.Gq.Gen.facts, Cert.GqIdeal.Gen.facts, Cert.GqRefIdeal.Gen.facts, Cert.Qkv.Gen.facts, Cert.QkvIdeal.Gen.facts, Cert.QkvRefIdeal.Gen.facts, Cert.Oproj.Gen.facts, Cert.OprojIdeal.Gen.facts, Cert.OprojRefIdeal.Gen.facts, Cert.Ln.Gen.facts, Cert.LnIdeal.Gen.facts, Cert.LnRefIdeal.Gen.facts,
  fun m ρ _ => Cert.Proj.Gen.frame m ρ,
  fun m ρ _ => Cert.ProjIdeal.Gen.frame m ρ,
  fun m ρ _ => Cert.ProjRefIdeal.Gen.frame m ρ,
  fun m ρ _ => Cert.Fc.Gen.frame m ρ,
  fun m ρ _ => Cert.FcIdeal.Gen.frame m ρ,
  fun m ρ _ => Cert.FcRefIdeal.Gen.frame m ρ,
  fun m ρ _ => Cert.Gq.Gen.frame m ρ,
  fun m ρ _ => Cert.GqIdeal.Gen.frame m ρ,
  fun m ρ _ => Cert.GqRefIdeal.Gen.frame m ρ,
  Cert.V.Qkv.frame,
  fun m ρ _ => Cert.QkvIdeal.Gen.frame m ρ,
  fun m ρ _ => Cert.QkvRefIdeal.Gen.frame m ρ,
  Cert.V.Oproj.frame,
  fun m ρ _ => Cert.OprojIdeal.Gen.frame m ρ,
  fun m ρ _ => Cert.OprojRefIdeal.Gen.frame m ρ,
  fun m ρ _ => Cert.Ln.Gen.frame m ρ,
  fun m ρ _ => Cert.LnIdeal.Gen.frame m ρ,
  fun m ρ _ => Cert.LnRefIdeal.Gen.frame m ρ,
  trivial, Cert.V.Proj.algebraic,
  trivial, Cert.V.Fc.algebraic,
  IdealRules.named_const.statement Cert.GqIdeal.κ "inv_127" .f32 0x3C010204#32 ((1 / 127 : ℝ) : EReal) rfl, Cert.V.Gq.algebraic,
  IdealRules.named_const.statement Cert.QkvIdeal.κ "inv_127" .f32 0x3C010204#32 ((1 / 127 : ℝ) : EReal) rfl, Cert.V.Qkv.algebraic,
  IdealRules.named_const.statement Cert.OprojIdeal.κ "inv_127" .f32 0x3C010204#32 ((1 / 127 : ℝ) : EReal) rfl, Cert.V.Oproj.algebraic,
  ⟨IdealRules.named_const.statement Cert.LnIdeal.κ "inv_6144" .f32 0x392AAAAB#32 ((1 / 6144 : ℝ) : EReal) rfl,
    IdealRules.named_const.statement Cert.LnIdeal.κ "inv_127" .f32 0x3C010204#32 ((1 / 127 : ℝ) : EReal) rfl⟩, Cert.V.Ln.algebraic⟩

end Cert.Proof

end
